-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_finite_args [hPre_finite_args : Cert.Pre_finite_args.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_finite_args.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9)) (m ((c.tc : Thread Cert.OutprojIdeal.nD Cert.OutprojIdeal.τ).loc Cert.OutprojIdeal.main_arg10)) (m ((c.tc : Thread Cert.OutprojIdeal.nD Cert.OutprojIdeal.τ).loc Cert.OutprojIdeal.main_arg11)) (m ((c.tc : Thread Cert.OutprojIdeal.nD Cert.OutprojIdeal.τ).loc Cert.OutprojIdeal.main_arg12))) = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_finite_args [hPre_finite_args : Cert.Pre_finite_args.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_finite_args.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6)) (m ((c.tc : Thread Cert.OutprojRefIdeal.nD Cert.OutprojRefIdeal.τ).loc Cert.OutprojRefIdeal.main_arg7)) (m ((c.tc : Thread Cert.OutprojRefIdeal.nD Cert.OutprojRefIdeal.τ).loc Cert.OutprojRefIdeal.main_arg8)) (m ((c.tc : Thread Cert.OutprojRefIdeal.nD Cert.OutprojRefIdeal.τ).loc Cert.OutprojRefIdeal.main_arg9)) (m ((c.tc : Thread Cert.OutprojRefIdeal.nD Cert.OutprojRefIdeal.τ).loc Cert.OutprojRefIdeal.main_arg10)) (m ((c.tc : Thread Cert.OutprojRefIdeal.nD Cert.OutprojRefIdeal.τ).loc Cert.OutprojRefIdeal.main_arg11)) (m ((c.tc : Thread Cert.OutprojRefIdeal.nD Cert.OutprojRefIdeal.τ).loc Cert.OutprojRefIdeal.main_arg12))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11)
      ∧ r.2.mem ((c.tc : Thread Cert.Outproj.nD Cert.Outproj.τ).loc Cert.Outproj.main_arg12) = m ((c.tc : Thread Cert.Outproj.nD Cert.Outproj.τ).loc Cert.Outproj.main_arg12))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
      ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12))
      ∧ r.2.sem = fun _ => 0)

def quiescent_OutprojIdeal_pre_finite_args [hOutprojIdeal : Cert.OutprojIdeal.Facts] [hPre_finite_args : Cert.Pre_finite_args.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_finite_args m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
      ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10)
      ∧ r.2.mem ((c.tc : Thread Cert.OutprojRefIdeal.nD Cert.OutprojRefIdeal.τ).loc Cert.OutprojRefIdeal.main_arg11) = m ((c.tc : Thread Cert.OutprojRefIdeal.nD Cert.OutprojRefIdeal.τ).loc Cert.OutprojRefIdeal.main_arg11)
      ∧ r.2.mem ((c.tc : Thread Cert.OutprojRefIdeal.nD Cert.OutprojRefIdeal.τ).loc Cert.OutprojRefIdeal.main_arg12) = m ((c.tc : Thread Cert.OutprojRefIdeal.nD Cert.OutprojRefIdeal.τ).loc Cert.OutprojRefIdeal.main_arg12))
      ∧ r.2.sem = fun _ => 0)

def quiescent_OutprojRefIdeal_pre_finite_args [hOutprojRefIdeal : Cert.OutprojRefIdeal.Facts] [hPre_finite_args : Cert.Pre_finite_args.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_finite_args m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10)
      ∧ r.2.mem ((c.tc : Thread Cert.OutprojRefIdeal.nD Cert.OutprojRefIdeal.τ).loc Cert.OutprojRefIdeal.main_arg11) = m ((c.tc : Thread Cert.OutprojRefIdeal.nD Cert.OutprojRefIdeal.τ).loc Cert.OutprojRefIdeal.main_arg11)
      ∧ r.2.mem ((c.tc : Thread Cert.OutprojRefIdeal.nD Cert.OutprojRefIdeal.τ).loc Cert.OutprojRefIdeal.main_arg12) = m ((c.tc : Thread Cert.OutprojRefIdeal.nD Cert.OutprojRefIdeal.τ).loc Cert.OutprojRefIdeal.main_arg12))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v97) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)) →
    ∃ (v0 : (c : Dev Cert.InprojIdeal.nD) → Buf (Elt Ideal) ((c.tc : Thread Cert.InprojIdeal.nD Cert.InprojIdeal.τ).loc Cert.InprojIdeal.main_v58_0)) (v1 : (c : Dev Cert.InprojIdeal.nD) → Buf (Elt Ideal) ((c.tc : Thread Cert.InprojIdeal.nD Cert.InprojIdeal.τ).loc Cert.InprojIdeal.main_v58_1)) (v2 : (c : Dev Cert.InprojIdeal.nD) → Buf (Elt Ideal) ((c.tc : Thread Cert.InprojIdeal.nD Cert.InprojIdeal.τ).loc Cert.InprojIdeal.main_v58_2)) (v3 : (c : Dev Cert.InprojIdeal.nD) → Buf (Elt Ideal) ((c.tc : Thread Cert.InprojIdeal.nD Cert.InprojIdeal.τ).loc Cert.InprojIdeal.main_v58_3)) (v4 : (c : Dev Cert.InprojIdeal.nD) → Buf (Elt Ideal) ((c.tc : Thread Cert.InprojIdeal.nD Cert.InprojIdeal.τ).loc Cert.InprojIdeal.main_v58_4)) (v5 : (c : Dev Cert.InprojIdeal.nD) → Buf (Elt Ideal) ((c.tc : Thread Cert.InprojIdeal.nD Cert.InprojIdeal.τ).loc Cert.InprojIdeal.main_v58_5)) (v6 : (c : Dev Cert.InprojIdeal.nD) → Buf (Elt Ideal) ((c.tc : Thread Cert.InprojIdeal.nD Cert.InprojIdeal.τ).loc Cert.InprojIdeal.main_v58_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v58_0) = v0 c
          ∧ r.2.mem ((c.tc : Thread Cert.InprojIdeal.nD Cert.InprojIdeal.τ).loc Cert.InprojIdeal.main_v58_1) = v1 c
          ∧ r.2.mem ((c.tc : Thread Cert.InprojIdeal.nD Cert.InprojIdeal.τ).loc Cert.InprojIdeal.main_v58_2) = v2 c
          ∧ r.2.mem ((c.tc : Thread Cert.InprojIdeal.nD Cert.InprojIdeal.τ).loc Cert.InprojIdeal.main_v58_3) = v3 c
          ∧ r.2.mem ((c.tc : Thread Cert.InprojIdeal.nD Cert.InprojIdeal.τ).loc Cert.InprojIdeal.main_v58_4) = v4 c
          ∧ r.2.mem ((c.tc : Thread Cert.InprojIdeal.nD Cert.InprojIdeal.τ).loc Cert.InprojIdeal.main_v58_5) = v5 c
          ∧ r.2.mem ((c.tc : Thread Cert.InprojIdeal.nD Cert.InprojIdeal.τ).loc Cert.InprojIdeal.main_v58_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v40) = v0 c
          ∧ r.2.mem ((c.tc : Thread Cert.InprojRefIdeal.nD Cert.InprojRefIdeal.τ).loc Cert.InprojRefIdeal.main_v117) = v1 c
          ∧ r.2.mem ((c.tc : Thread Cert.InprojRefIdeal.nD Cert.InprojRefIdeal.τ).loc Cert.InprojRefIdeal.main_v119) = v2 c
          ∧ r.2.mem ((c.tc : Thread Cert.InprojRefIdeal.nD Cert.InprojRefIdeal.τ).loc Cert.InprojRefIdeal.main_v122) = v3 c
          ∧ r.2.mem ((c.tc : Thread Cert.InprojRefIdeal.nD Cert.InprojRefIdeal.τ).loc Cert.InprojRefIdeal.main_v123) = v4 c
          ∧ r.2.mem ((c.tc : Thread Cert.InprojRefIdeal.nD Cert.InprojRefIdeal.τ).loc Cert.InprojRefIdeal.main_v45) = v5 c
          ∧ r.2.mem ((c.tc : Thread Cert.InprojRefIdeal.nD Cert.InprojRefIdeal.τ).loc Cert.InprojRefIdeal.main_v124) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9))

def preserves_Outproj_OutprojIdeal : Prop :=
  True

def algebraic_OutprojIdeal_OutprojRefIdeal_pre_finite_args [hOutprojIdeal : Cert.OutprojIdeal.Facts] [hOutprojRefIdeal : Cert.OutprojRefIdeal.Facts] [hPre_finite_args : Cert.Pre_finite_args.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal_finite_args m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)
      ∧ m' ((c.tc : Thread Cert.OutprojRefIdeal.nD Cert.OutprojRefIdeal.τ).loc Cert.OutprojRefIdeal.main_arg11) = m ((c.tc : Thread Cert.OutprojIdeal.nD Cert.OutprojIdeal.τ).loc Cert.OutprojIdeal.main_arg11)
      ∧ m' ((c.tc : Thread Cert.OutprojRefIdeal.nD Cert.OutprojRefIdeal.τ).loc Cert.OutprojRefIdeal.main_arg12) = m ((c.tc : Thread Cert.OutprojIdeal.nD Cert.OutprojIdeal.τ).loc Cert.OutprojIdeal.main_arg12)) →
    ∃ (v0 : (c : Dev Cert.OutprojIdeal.nD) → Buf (Elt Ideal) ((c.tc : Thread Cert.OutprojIdeal.nD Cert.OutprojIdeal.τ).loc Cert.OutprojIdeal.main_v14_0)) (v1 : (c : Dev Cert.OutprojIdeal.nD) → Buf (Elt Ideal) ((c.tc : Thread Cert.OutprojIdeal.nD Cert.OutprojIdeal.τ).loc Cert.OutprojIdeal.main_v14_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v14_0) = v0 c
          ∧ r.2.mem ((c.tc : Thread Cert.OutprojIdeal.nD Cert.OutprojIdeal.τ).loc Cert.OutprojIdeal.main_v14_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11)
          ∧ r.2.mem ((c.tc : Thread Cert.OutprojIdeal.nD Cert.OutprojIdeal.τ).loc Cert.OutprojIdeal.main_arg12) = m ((c.tc : Thread Cert.OutprojIdeal.nD Cert.OutprojIdeal.τ).loc Cert.OutprojIdeal.main_arg12))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v53) = v0 c
          ∧ r.2.mem ((c.tc : Thread Cert.OutprojRefIdeal.nD Cert.OutprojRefIdeal.τ).loc Cert.OutprojRefIdeal.main_v107) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10)
          ∧ r.2.mem ((c.tc : Thread Cert.OutprojRefIdeal.nD Cert.OutprojRefIdeal.τ).loc Cert.OutprojRefIdeal.main_arg11) = m' ((c.tc : Thread Cert.OutprojRefIdeal.nD Cert.OutprojRefIdeal.τ).loc Cert.OutprojRefIdeal.main_arg11)
          ∧ r.2.mem ((c.tc : Thread Cert.OutprojRefIdeal.nD Cert.OutprojRefIdeal.τ).loc Cert.OutprojRefIdeal.main_arg12) = m' ((c.tc : Thread Cert.OutprojRefIdeal.nD Cert.OutprojRefIdeal.τ).loc Cert.OutprojRefIdeal.main_arg12))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPre_finite_qk : Cert.Pre_finite_qk.Facts) (hPre_finite_args : Cert.Pre_finite_args.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Moe (hMoe := hMoe)
    ∧ quiescent_MoeIdeal (hMoeIdeal := hMoeIdeal)
    ∧ quiescent_MoeRefIdeal (hMoeRefIdeal := hMoeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojIdeal_pre_finite_args (hOutprojIdeal := hOutprojIdeal) (hPre_finite_args := hPre_finite_args)
    ∧ quiescent_OutprojRefIdeal (hOutprojRefIdeal := hOutprojRefIdeal)
    ∧ quiescent_OutprojRefIdeal_pre_finite_args (hOutprojRefIdeal := hOutprojRefIdeal) (hPre_finite_args := hPre_finite_args)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Moe_MoeIdeal
    ∧ algebraic_MoeIdeal_MoeRefIdeal (hMoeIdeal := hMoeIdeal) (hMoeRefIdeal := hMoeRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal_pre_finite_args (hOutprojIdeal := hOutprojIdeal) (hOutprojRefIdeal := hOutprojRefIdeal) (hPre_finite_args := hPre_finite_args)
-- ==== Pre_finite_args.lean ====
abbrev S2x8x16384x64 : Shape := ⟨4, ![2, 8, 16384, 64]⟩
abbrev S2x16384x256 : Shape := ⟨3, ![2, 16384, 256]⟩
abbrev S2x16384x1024 : Shape := ⟨3, ![2, 16384, 1024]⟩
abbrev S3x256 : Shape := ⟨2, ![3, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩

class Facts : Prop where
  bitsLt_bf16_f32 : FTy.bits .bf16 < FTy.bits .f32
  bcast_S_S2x8x16384x64 : S_.BroadcastsInDim S2x8x16384x64 (![] : Fin 0 → Fin S2x8x16384x64.rank)
  reducesTo_S2x8x16384x64_S_d0_1_2_3 : S2x8x16384x64.ReducesTo [0, 1, 2, 3] S_
  h_S_ : 0 < S_.numel
  bcast_S_S2x16384x256 : S_.BroadcastsInDim S2x16384x256 (![] : Fin 0 → Fin S2x16384x256.rank)
  reducesTo_S2x16384x256_S_d0_1_2 : S2x16384x256.ReducesTo [0, 1, 2] S_
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S3x256 : S_.BroadcastsInDim S3x256 (![] : Fin 0 → Fin S3x256.rank)
  reducesTo_S3x256_S_d0_1 : S3x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x4x8 : S_.BroadcastsInDim S1024x4x8 (![] : Fin 0 → Fin S1024x4x8.rank)
  reducesTo_S1024x4x8_S_d0_1_2 : S1024x4x8.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part3 {F : FTy → Type} [FloatOps F] (main_arg11 : FVec F S1024x4x8 .f32) (main_arg12 : FVec F S4x8 .f32) (main_v49 : IVec S_ 1) (main_v50 : FVec F S4 .f32) (main_cst_18 : FVec F S_ .f32) : IVec S_ 1 :=
  let main_v51 : FVec F S4 .f32 := broadcastInDim S4 ![] bcast_S_S4 main_cst_18
  let main_v52 : IVec S4 1 := cmpf .olt main_v50 main_v51
  let main_c_19 : IVec S_ 1 := constantI S_ 1 1#1
  let main_v53 : IVec S_ 1 := (fun x v => Host.reduce IntOp.andi x v reducesTo_S4_S_d0 h_S_) main_v52 main_c_19
  let main_v54 : IVec S_ 1 := andi main_v49 main_v53
  let main_v55 : FVec F S1024x4x8 .f32 := Host.absf main_arg11
  let main_cst_20 : FVec F S_ .f32 := constant S_ .f32 0x7F800000#32
  let main_v56 : FVec F S1024x4x8 .f32 := broadcastInDim S1024x4x8 ![] bcast_S_S1024x4x8 main_cst_20
  let main_v57 : IVec S1024x4x8 1 := cmpf .olt main_v55 main_v56
  let main_c_21 : IVec S_ 1 := constantI S_ 1 1#1
  let main_v58 : IVec S_ 1 := (fun x v => Host.reduce IntOp.andi x v reducesTo_S1024x4x8_S_d0_1_2 h_S_) main_v57 main_c_21
  let main_v59 : IVec S_ 1 := andi main_v54 main_v58
  let main_v60 : FVec F S4x8 .f32 := Host.absf main_arg12
  let main_cst_22 : FVec F S_ .f32 := constant S_ .f32 0x7F800000#32
  let main_v61 : FVec F S4x8 .f32 := broadcastInDim S4x8 ![] bcast_S_S4x8 main_cst_22
  let main_v62 : IVec S4x8 1 := cmpf .olt main_v60 main_v61
  let main_c_23 : IVec S_ 1 := constantI S_ 1 1#1
  let main_v63 : IVec S_ 1 := (fun x v => Host.reduce IntOp.andi x v reducesTo_S4x8_S_d0_1 h_S_) main_v62 main_c_23
  let main_v64 : IVec S_ 1 := andi main_v59 main_v63
  main_v64

def fn_part2 {F : FTy → Type} [FloatOps F] (main_arg7 : FVec F S1024 .f32) (main_arg8 : FVec F S1024 .f32) (main_arg9 : FVec F S1024x4 .f32) (main_arg10 : FVec F S4 .f32) (main_arg11 : FVec F S1024x4x8 .f32) (main_arg12 : FVec F S4x8 .f32) (main_v29 : IVec S_ 1) (main_v33 : IVec S_ 1) : IVec S_ 1 :=
  let main_v34 : IVec S_ 1 := andi main_v29 main_v33
  let main_v35 : FVec F S1024 .f32 := Host.absf main_arg7
  let main_cst_12 : FVec F S_ .f32 := constant S_ .f32 0x7F800000#32
  let main_v36 : FVec F S1024 .f32 := broadcastInDim S1024 ![] bcast_S_S1024 main_cst_12
  let main_v37 : IVec S1024 1 := cmpf .olt main_v35 main_v36
  let main_c_13 : IVec S_ 1 := constantI S_ 1 1#1
  let main_v38 : IVec S_ 1 := (fun x v => Host.reduce IntOp.andi x v reducesTo_S1024_S_d0 h_S_) main_v37 main_c_13
  let main_v39 : IVec S_ 1 := andi main_v34 main_v38
  let main_v40 : FVec F S1024 .f32 := Host.absf main_arg8
  let main_cst_14 : FVec F S_ .f32 := constant S_ .f32 0x7F800000#32
  let main_v41 : FVec F S1024 .f32 := broadcastInDim S1024 ![] bcast_S_S1024 main_cst_14
  let main_v42 : IVec S1024 1 := cmpf .olt main_v40 main_v41
  let main_c_15 : IVec S_ 1 := constantI S_ 1 1#1
  let main_v43 : IVec S_ 1 := (fun x v => Host.reduce IntOp.andi x v reducesTo_S1024_S_d0 h_S_) main_v42 main_c_15
  let main_v44 : IVec S_ 1 := andi main_v39 main_v43
  let main_v45 : FVec F S1024x4 .f32 := Host.absf main_arg9
  let main_cst_16 : FVec F S_ .f32 := constant S_ .f32 0x7F800000#32
  let main_v46 : FVec F S1024x4 .f32 := broadcastInDim S1024x4 ![] bcast_S_S1024x4 main_cst_16
  let main_v47 : IVec S1024x4 1 := cmpf .olt main_v45 main_v46
  let main_c_17 : IVec S_ 1 := constantI S_ 1 1#1
  let main_v48 : IVec S_ 1 := (fun x v => Host.reduce IntOp.andi x v reducesTo_S1024x4_S_d0_1 h_S_) main_v47 main_c_17
  let main_v49 : IVec S_ 1 := andi main_v44 main_v48
  let main_v50 : FVec F S4 .f32 := Host.absf main_arg10
  let main_cst_18 : FVec F S_ .f32 := constant S_ .f32 0x7F800000#32
  fn_part3 (F := F) main_arg11 main_arg12 main_v49 main_v50 main_cst_18

def fn_part1 {F : FTy → Type} [FloatOps F] (main_arg4 : FVec F S2x16384x1024 .f32) (main_arg5 : FVec F S3x256 .f32) (main_arg6 : FVec F S1024x1024 .f32) (main_arg7 : FVec F S1024 .f32) (main_arg8 : FVec F S1024 .f32) (main_arg9 : FVec F S1024x4 .f32) (main_arg10 : FVec F S4 .f32) (main_arg11 : FVec F S1024x4x8 .f32) (main_arg12 : FVec F S4x8 .f32) (main_v14 : IVec S_ 1) (main_v15 : FVec F S2x16384x256 .f32) (main_v16 : FVec F S2x16384x256 .f32) : IVec S_ 1 :=
  let main_v17 : IVec S2x16384x256 1 := cmpf .olt main_v15 main_v16
  let main_c_5 : IVec S_ 1 := constantI S_ 1 1#1
  let main_v18 : IVec S_ 1 := (fun x v => Host.reduce IntOp.andi x v reducesTo_S2x16384x256_S_d0_1_2 h_S_) main_v17 main_c_5
  let main_v19 : IVec S_ 1 := andi main_v14 main_v18
  let main_v20 : FVec F S2x16384x1024 .f32 := Host.absf main_arg4
  let main_cst_6 : FVec F S_ .f32 := constant S_ .f32 0x7F800000#32
  let main_v21 : FVec F S2x16384x1024 .f32 := broadcastInDim S2x16384x1024 ![] bcast_S_S2x16384x1024 main_cst_6
  let main_v22 : IVec S2x16384x1024 1 := cmpf .olt main_v20 main_v21
  let main_c_7 : IVec S_ 1 := constantI S_ 1 1#1
  let main_v23 : IVec S_ 1 := (fun x v => Host.reduce IntOp.andi x v reducesTo_S2x16384x1024_S_d0_1_2 h_S_) main_v22 main_c_7
  let main_v24 : IVec S_ 1 := andi main_v19 main_v23
  let main_v25 : FVec F S3x256 .f32 := Host.absf main_arg5
  let main_cst_8 : FVec F S_ .f32 := constant S_ .f32 0x7F800000#32
  let main_v26 : FVec F S3x256 .f32 := broadcastInDim S3x256 ![] bcast_S_S3x256 main_cst_8
  let main_v27 : IVec S3x256 1 := cmpf .olt main_v25 main_v26
  let main_c_9 : IVec S_ 1 := constantI S_ 1 1#1
  let main_v28 : IVec S_ 1 := (fun x v => Host.reduce IntOp.andi x v reducesTo_S3x256_S_d0_1 h_S_) main_v27 main_c_9
  let main_v29 : IVec S_ 1 := andi main_v24 main_v28
  let main_v30 : FVec F S1024x1024 .f32 := Host.absf main_arg6
  let main_cst_10 : FVec F S_ .f32 := constant S_ .f32 0x7F800000#32
  let main_v31 : FVec F S1024x1024 .f32 := broadcastInDim S1024x1024 ![] bcast_S_S1024x1024 main_cst_10
  let main_v32 : IVec S1024x1024 1 := cmpf .olt main_v30 main_v31
  let main_c_11 : IVec S_ 1 := constantI S_ 1 1#1
  let main_v33 : IVec S_ 1 := (fun x v => Host.reduce IntOp.andi x v reducesTo_S1024x1024_S_d0_1 h_S_) main_v32 main_c_11
  fn_part2 (F := F) main_arg7 main_arg8 main_arg9 main_arg10 main_arg11 main_arg12 main_v29 main_v33

def fn {F : FTy → Type} [FloatOps F] (main_arg0 : FVec F S2x8x16384x64 .bf16) (main_arg1 : FVec F S2x16384x256 .f32) (main_arg2 : FVec F S2x16384x256 .f32) (main_arg3 : FVec F S2x16384x256 .f32) (main_arg4 : FVec F S2x16384x1024 .f32) (main_arg5 : FVec F S3x256 .f32) (main_arg6 : FVec F S1024x1024 .f32) (main_arg7 : FVec F S1024 .f32) (main_arg8 : FVec F S1024 .f32) (main_arg9 : FVec F S1024x4 .f32) (main_arg10 : FVec F S4 .f32) (main_arg11 : FVec F S1024x4x8 .f32) (main_arg12 : FVec F S4x8 .f32) : IVec S_ 1 :=
  let main_v0 : FVec F S2x8x16384x64 .f32 := (extf .f32 · bitsLt_bf16_f32) main_arg0
  let main_v1 : FVec F S2x8x16384x64 .f32 := Host.absf main_v0
  let main_cst : FVec F S_ .f32 := constant S_ .f32 0x7F800000#32
  let main_v2 : FVec F S2x8x16384x64 .f32 := broadcastInDim S2x8x16384x64 ![] bcast_S_S2x8x16384x64 main_cst
  let main_v3 : IVec S2x8x16384x64 1 := cmpf .olt main_v1 main_v2
  let main_c : IVec S_ 1 := constantI S_ 1 1#1
  let main_v4 : IVec S_ 1 := (fun x v => Host.reduce IntOp.andi x v reducesTo_S2x8x16384x64_S_d0_1_2_3 h_S_) main_v3 main_c
  let main_v5 : FVec F S2x16384x256 .f32 := Host.absf main_arg1
  let main_cst_0 : FVec F S_ .f32 := constant S_ .f32 0x7F800000#32
  let main_v6 : FVec F S2x16384x256 .f32 := broadcastInDim S2x16384x256 ![] bcast_S_S2x16384x256 main_cst_0
  let main_v7 : IVec S2x16384x256 1 := cmpf .olt main_v5 main_v6
  let main_c_1 : IVec S_ 1 := constantI S_ 1 1#1
  let main_v8 : IVec S_ 1 := (fun x v => Host.reduce IntOp.andi x v reducesTo_S2x16384x256_S_d0_1_2 h_S_) main_v7 main_c_1
  let main_v9 : IVec S_ 1 := andi main_v4 main_v8
  let main_v10 : FVec F S2x16384x256 .f32 := Host.absf main_arg2
  let main_cst_2 : FVec F S_ .f32 := constant S_ .f32 0x7F800000#32
  let main_v11 : FVec F S2x16384x256 .f32 := broadcastInDim S2x16384x256 ![] bcast_S_S2x16384x256 main_cst_2
  let main_v12 : IVec S2x16384x256 1 := cmpf .olt main_v10 main_v11
  let main_c_3 : IVec S_ 1 := constantI S_ 1 1#1
  let main_v13 : IVec S_ 1 := (fun x v => Host.reduce IntOp.andi x v reducesTo_S2x16384x256_S_d0_1_2 h_S_) main_v12 main_c_3
  let main_v14 : IVec S_ 1 := andi main_v9 main_v13
  let main_v15 : FVec F S2x16384x256 .f32 := Host.absf main_arg3
  let main_cst_4 : FVec F S_ .f32 := constant S_ .f32 0x7F800000#32
  let main_v16 : FVec F S2x16384x256 .f32 := broadcastInDim S2x16384x256 ![] bcast_S_S2x16384x256 main_cst_4
  fn_part1 (F := F) main_arg4 main_arg5 main_arg6 main_arg7 main_arg8 main_arg9 main_arg10 main_arg11 main_arg12 main_v14 main_v15 main_v16
-- ==== Pre_finite_qk.lean ====
abbrev S2x8x16384x96 : Shape := ⟨4, ![2, 8, 16384, 96]⟩
abbrev S2x8x16384x64 : Shape := ⟨4, ![2, 8, 16384, 64]⟩
abbrev S_ : Shape := ⟨0, ![]⟩

class Facts : Prop where
  bcast_S_S2x8x16384x96 : S_.BroadcastsInDim S2x8x16384x96 (![] : Fin 0 → Fin S2x8x16384x96.rank)
  reducesTo_S2x8x16384x96_S_d0_1_2_3 : S2x8x16384x96.ReducesTo [0, 1, 2, 3] S_
  h_S_ : 0 < S_.numel
  bitsLt_bf16_f32 : FTy.bits .bf16 < FTy.bits .f32

variable [Facts]

def fn {F : FTy → Type} [FloatOps F] (main_arg0 : FVec F S2x8x16384x96 .f32) (main_arg1 : FVec F S2x8x16384x96 .bf16) (main_arg2 : FVec F S2x8x16384x64 .bf16) : IVec S_ 1 :=
  let main_v0 : FVec F S2x8x16384x96 .f32 := Host.absf main_arg0
  let main_cst : FVec F S_ .f32 := constant S_ .f32 0x7F800000#32
  let main_v1 : FVec F S2x8x16384x96 .f32 := broadcastInDim S2x8x16384x96 ![] bcast_S_S2x8x16384x96 main_cst
  let main_v2 : IVec S2x8x16384x96 1 := cmpf .olt main_v0 main_v1
  let main_c : IVec S_ 1 := constantI S_ 1 1#1
  let main_v3 : IVec S_ 1 := (fun x v => Host.reduce IntOp.andi x v reducesTo_S2x8x16384x96_S_d0_1_2_3 h_S_) main_v2 main_c
  let main_v4 : FVec F S2x8x16384x96 .f32 := (extf .f32 · bitsLt_bf16_f32) main_arg1
  let main_v5 : FVec F S2x8x16384x96 .f32 := Host.absf main_v4
  let main_cst_0 : FVec F S_ .f32 := constant S_ .f32 0x7F800000#32
  let main_v6 : FVec F S2x8x16384x96 .f32 := broadcastInDim S2x8x16384x96 ![] bcast_S_S2x8x16384x96 main_cst_0
  let main_v7 : IVec S2x8x16384x96 1 := cmpf .olt main_v5 main_v6
  let main_c_1 : IVec S_ 1 := constantI S_ 1 1#1
  let main_v8 : IVec S_ 1 := (fun x v => Host.reduce IntOp.andi x v reducesTo_S2x8x16384x96_S_d0_1_2_3 h_S_) main_v7 main_c_1
  let main_v9 : IVec S_ 1 := andi main_v3 main_v8
  main_v9
-- ==== Attn.lean ====
abbrev S2x8x16384x96 : Shape := ⟨4, ![2, 8, 16384, 96]⟩
abbrev S2x8x16384x64 : Shape := ⟨4, ![2, 8, 16384, 64]⟩
abbrev S_ : Shape := ⟨0, ![]⟩
abbrev S1x1x512x96 : Shape := ⟨4, ![1, 1, 512, 96]⟩
abbrev S1x1x16384x96 : Shape := ⟨4, ![1, 1, 16384, 96]⟩
abbrev S1x1x16384x64 : Shape := ⟨4, ![1, 1, 16384, 64]⟩
abbrev S1x1x512x64 : Shape := ⟨4, ![1, 1, 512, 64]⟩
abbrev S512x96 : Shape := ⟨2, ![512, 96]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 12
  | .vmem => 8
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .bf16⟩
  | .hbm, ⟨2, _⟩ => ⟨S2x8x16384x64, .bf16⟩
  | .hbm, ⟨3, _⟩ => ⟨S_, .f32⟩
  | .hbm, ⟨4, _⟩ => ⟨S2x8x16384x96, .f32⟩
  | .hbm, ⟨5, _⟩ => ⟨S2x8x16384x96, .f32⟩
  | .hbm, ⟨6, _⟩ => ⟨S_, .f32⟩
  | .hbm, ⟨7, _⟩ => ⟨S_, .f32⟩
  | .hbm, ⟨8, _⟩ => ⟨S2x8x16384x96, .f32⟩
  | .hbm, ⟨9, _⟩ => ⟨S2x8x16384x96, .f32⟩
  | .hbm, ⟨10, _⟩ => ⟨S2x8x16384x96, .bf16⟩
  | .hbm, ⟨11, _⟩ => ⟨S2x8x16384x64, .bf16⟩
  | .local _ .vmem, ⟨0, _⟩ => ⟨S1x1x512x96, .bf16⟩
  | .local _ .vmem, ⟨1, _⟩ => ⟨S1x1x512x96, .bf16⟩
  | .local _ .vmem, ⟨2, _⟩ => ⟨S1x1x16384x96, .bf16⟩
  | .local _ .vmem, ⟨3, _⟩ => ⟨S1x1x16384x96, .bf16⟩
  | .local _ .vmem, ⟨4, _⟩ => ⟨S1x1x16384x64, .bf16⟩
  | .local _ .vmem, ⟨5, _⟩ => ⟨S1x1x16384x64, .bf16⟩
  | .local _ .vmem, ⟨6, _⟩ => ⟨S1x1x512x64, .bf16⟩
  | .local _ .vmem, ⟨7, _⟩ => ⟨S1x1x512x64, .bf16⟩
  | _, _ => ⟨S2x8x16384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v13 : BitVec 32 := Scalar.muli arg7 c512_i32
  v13
def k0_off1 (k0_t1 : Fin k0_t1_loop.trips) : Fin 4 → Nat :=
  let c0_10 : Index := 0#32
  let c0_11 : Index := 0#32
  let c0_i32 : BitVec 32 := 0#32
  let c1_i32 : BitVec 32 := 1#32
  let arg7 : BitVec 32 := Scf.iv c0_i32 c1_i32 k0_t1
  let c512_i32 : BitVec 32 := 512#32
  let v13 : BitVec 32 := Scalar.muli arg7 c512_i32
  let v14 : BitVec 32 := v13
  let v15 : Index := Scalar.indexCast v14
  let c0_12 : Index := 0#32
  ![0, 0, v15.toNat, 0]
def k0_off2 (k0_t1 : Fin k0_t1_loop.trips) : Fin 4 → Nat :=
  let c0_13 : Index := 0#32
  let c0_14 : Index := 0#32
  let c0_i32 : BitVec 32 := 0#32
  let c1_i32 : BitVec 32 := 1#32
  let arg7 : BitVec 32 := Scf.iv c0_i32 c1_i32 k0_t1
  let c512_i32 : BitVec 32 := 512#32
  let v13 : BitVec 32 := Scalar.muli arg7 c512_i32
  let v14 : BitVec 32 := v13
  let v18 : Index := Scalar.indexCast v14
  let c0_15 : Index := 0#32
  ![0, 0, v18.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S2x8x16384x96 : Shape := ⟨4, ![2, 8, 16384, 96]⟩
abbrev S2x8x16384x64 : Shape := ⟨4, ![2, 8, 16384, 64]⟩
abbrev S_ : Shape := ⟨0, ![]⟩
abbrev S2x8x16384x32 : Shape := ⟨4, ![2, 8, 16384, 32]⟩
abbrev S2x8x16384x16384 : Shape := ⟨4, ![2, 8, 16384, 16384]⟩
abbrev S2x8x16384 : Shape := ⟨3, ![2, 8, 16384]⟩
abbrev S2x8x16384x1 : Shape := ⟨4, ![2, 8, 16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .bf16⟩
  | .hbm, ⟨2, _⟩ => ⟨S2x8x16384x64, .bf16⟩
  | .hbm, ⟨3, _⟩ => ⟨S2x8x16384x96, .f32⟩
  | .hbm, ⟨4, _⟩ => ⟨S2x8x16384x64, .f32⟩
  | .hbm, ⟨5, _⟩ => ⟨S2x8x16384x64, .f32⟩
  | .hbm, ⟨6, _⟩ => ⟨S_, .f32⟩
  | .hbm, ⟨7, _⟩ => ⟨S2x8x16384x64, .f32⟩
  | .hbm, ⟨8, _⟩ => ⟨S2x8x16384x64, .f32⟩
  | .hbm, ⟨9, _⟩ => ⟨S2x8x16384x32, .f32⟩
  | .hbm, ⟨10, _⟩ => ⟨S_, .f32⟩
  | .hbm, ⟨11, _⟩ => ⟨S2x8x16384x32, .f32⟩
  | .hbm, ⟨12, _⟩ => ⟨S2x8x16384x32, .f32⟩
  | .hbm, ⟨13, _⟩ => ⟨S2x8x16384x64, .f32⟩
  | .hbm, ⟨14, _⟩ => ⟨S2x8x16384x32, .f32⟩
  | .hbm, ⟨15, _⟩ => ⟨S2x8x16384x16384, .f32⟩
  | .hbm, ⟨16, _⟩ => ⟨S2x8x16384x16384, .f32⟩
  | .hbm, ⟨17, _⟩ => ⟨S2x8x16384x16384, .f32⟩
  | .hbm, ⟨18, _⟩ => ⟨S_, .f32⟩
  | .hbm, ⟨19, _⟩ => ⟨S2x8x16384, .f32⟩
  | .hbm, ⟨20, _⟩ => ⟨S_, .f32⟩
  | .hbm, ⟨21, _⟩ => ⟨S2x8x16384, .f32⟩
  | .hbm, ⟨22, _⟩ => ⟨S2x8x16384, .f32⟩
  | .hbm, ⟨23, _⟩ => ⟨S2x8x16384x1, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S_, .f32⟩
  | .hbm, ⟨28, _⟩ => ⟨S2x8x16384, .f32⟩
  | .hbm, ⟨29, _⟩ => ⟨S2x8x16384x1, .f32⟩
  | .hbm, ⟨30, _⟩ => ⟨S2x8x16384x16384, .f32⟩
  | .hbm, ⟨31, _⟩ => ⟨S2x8x16384x16384, .f32⟩
  | .hbm, ⟨32, _⟩ => ⟨S2x8x16384x64, .f32⟩
  | .hbm, ⟨33, _⟩ => ⟨S2x8x16384x64, .bf16⟩
  | _, _ => ⟨S2x8x16384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Moe.lean ====
abbrev S2x16384x1024 : Shape := ⟨3, ![2, 16384, 1024]⟩
abbrev S2x16384x128 : Shape := ⟨3, ![2, 16384, 128]⟩
abbrev S4x8x1024x256 : Shape := ⟨4, ![4, 8, 1024, 256]⟩
abbrev S4x8x256x1024 : Shape := ⟨4, ![4, 8, 256, 1024]⟩
abbrev S1024 : Shape := ⟨1, ![1024]⟩
abbrev S32x1024x256 : Shape := ⟨3, ![32, 1024, 256]⟩
abbrev S32x256x1024 : Shape := ⟨3, ![32, 256, 1024]⟩
abbrev S32768x1024 : Shape := ⟨2, ![32768, 1024]⟩
abbrev S32768x128 : Shape := ⟨2, ![32768, 128]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 18
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x128, .f32⟩
  | .hbm, ⟨2, _⟩ => ⟨S4x8x1024x256, .f32⟩
  | .hbm, ⟨3, _⟩ => ⟨S4x8x1024x256, .f32⟩
  | .hbm, ⟨4, _⟩ => ⟨S4x8x256x1024, .f32⟩
  | .hbm, ⟨5, _⟩ => ⟨S1024, .f32⟩
  | .hbm, ⟨6, _⟩ => ⟨S1024, .f32⟩
  | .hbm, ⟨7, _⟩ => ⟨S32x1024x256, .f32⟩
  | .hbm, ⟨8, _⟩ => ⟨S32x1024x256, .bf16⟩
  | .hbm, ⟨9, _⟩ => ⟨S32x1024x256, .f32⟩
  | .hbm, ⟨10, _⟩ => ⟨S32x1024x256, .bf16⟩
  | .hbm, ⟨11, _⟩ => ⟨S32x256x1024, .f32⟩
  | .hbm, ⟨12, _⟩ => ⟨S32x256x1024, .bf16⟩
  | .hbm, ⟨13, _⟩ => ⟨S32768x1024, .f32⟩
  | .hbm, ⟨14, _⟩ => ⟨S32768x128, .f32⟩
  | .hbm, ⟨15, _⟩ => ⟨S1x1024, .f32⟩
  | .hbm, ⟨16, _⟩ => ⟨S1x1024, .f32⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S2x16384x1024 : Shape := ⟨3, ![2, 16384, 1024]⟩
abbrev S2x16384x128 : Shape := ⟨3, ![2, 16384, 128]⟩
abbrev S4x8x1024x256 : Shape := ⟨4, ![4, 8, 1024, 256]⟩
abbrev S4x8x256x1024 : Shape := ⟨4, ![4, 8, 256, 1024]⟩
abbrev S1024 : Shape := ⟨1, ![1024]⟩
abbrev S32768x1024 : Shape := ⟨2, ![32768, 1024]⟩
abbrev S32768x128 : Shape := ⟨2, ![32768, 128]⟩
abbrev S32768x32 : Shape := ⟨2, ![32768, 32]⟩
abbrev S32768x4x8 : Shape := ⟨3, ![32768, 4, 8]⟩
abbrev S_ : Shape := ⟨0, ![]⟩
abbrev S1x8x1024x256 : Shape := ⟨4, ![1, 8, 1024, 256]⟩
abbrev S8x1024x256 : Shape := ⟨3, ![8, 1024, 256]⟩
abbrev S32768x8x256 : Shape := ⟨3, ![32768, 8, 256]⟩
abbrev S32768x1x8 : Shape := ⟨3, ![32768, 1, 8]⟩
abbrev S32768x8 : Shape := ⟨2, ![32768, 8]⟩
abbrev S32768x8x1 : Shape := ⟨3, ![32768, 8, 1]⟩
abbrev S1x8x256x1024 : Shape := ⟨4, ![1, 8, 256, 1024]⟩
abbrev S8x256x1024 : Shape := ⟨3, ![8, 256, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 144
  | .vmem => 0
  | .smem => 0
  | _ => 0

abbrev hbmTy0_0 (i : Nat) : BufTy := match i % 128 with
  | 0 => ⟨S2x16384x1024, .f32⟩
  | 1 => ⟨S2x16384x128, .f32⟩
  | 2 => ⟨S4x8x1024x256, .f32⟩
  | 3 => ⟨S4x8x1024x256, .f32⟩
  | 4 => ⟨S4x8x256x1024, .f32⟩
  | 5 => ⟨S1024, .f32⟩
  | 6 => ⟨S1024, .f32⟩
  | 7 => ⟨S32768x1024, .f32⟩
  | 8 => ⟨S32768x128, .f32⟩
  | 9 => ⟨S32768x32, .f32⟩
  | 10 => ⟨S32768x4x8, .f32⟩
  | 11 => ⟨S_, .f32⟩
  | 12 => ⟨S32768x1024, .f32⟩
  | 13 => ⟨S1x8x1024x256, .f32⟩
  | 14 => ⟨S8x1024x256, .f32⟩
  | 15 => ⟨S32768x8x256, .f32⟩
  | 16 => ⟨S1x8x1024x256, .f32⟩
  | 17 => ⟨S8x1024x256, .f32⟩
  | 18 => ⟨S32768x8x256, .f32⟩
  | 19 => ⟨S32768x8x256, .f32⟩
  | 20 => ⟨S32768x8x256, .f32⟩
  | 21 => ⟨S_, .f32⟩
  | 22 => ⟨S32768x8x256, .f32⟩
  | 23 => ⟨S32768x8x256, .f32⟩
  | 24 => ⟨S_, .f32⟩
  | 25 => ⟨S32768x8x256, .f32⟩
  | 26 => ⟨S32768x8x256, .f32⟩
  | 27 => ⟨S32768x8x256, .f32⟩
  | 28 => ⟨S32768x8x256, .f32⟩
  | 29 => ⟨S32768x1x8, .f32⟩
  | 30 => ⟨S32768x8, .f32⟩
  | 31 => ⟨S32768x8x1, .f32⟩
  | 32 => ⟨S32768x8x256, .f32⟩
  | 33 => ⟨S32768x8x256, .f32⟩
  | 34 => ⟨S1x8x256x1024, .f32⟩
  | 35 => ⟨S8x256x1024, .f32⟩
  | 36 => ⟨S32768x1024, .f32⟩
  | 37 => ⟨S32768x1024, .f32⟩
  | 38 => ⟨S1x8x1024x256, .f32⟩
  | 39 => ⟨S8x1024x256, .f32⟩
  | 40 => ⟨S32768x8x256, .f32⟩
  | 41 => ⟨S1x8x1024x256, .f32⟩
  | 42 => ⟨S8x1024x256, .f32⟩
  | 43 => ⟨S32768x8x256, .f32⟩
  | 44 => ⟨S32768x8x256, .f32⟩
  | 45 => ⟨S32768x8x256, .f32⟩
  | 46 => ⟨S_, .f32⟩
  | 47 => ⟨S32768x8x256, .f32⟩
  | 48 => ⟨S32768x8x256, .f32⟩
  | 49 => ⟨S_, .f32⟩
  | 50 => ⟨S32768x8x256, .f32⟩
  | 51 => ⟨S32768x8x256, .f32⟩
  | 52 => ⟨S32768x8x256, .f32⟩
  | 53 => ⟨S32768x8x256, .f32⟩
  | 54 => ⟨S32768x1x8, .f32⟩
  | 55 => ⟨S32768x8, .f32⟩
  | 56 => ⟨S32768x8x1, .f32⟩
  | 57 => ⟨S32768x8x256, .f32⟩
  | 58 => ⟨S32768x8x256, .f32⟩
  | 59 => ⟨S1x8x256x1024, .f32⟩
  | 60 => ⟨S8x256x1024, .f32⟩
  | 61 => ⟨S32768x1024, .f32⟩
  | 62 => ⟨S32768x1024, .f32⟩
  | 63 => ⟨S1x8x1024x256, .f32⟩
  | 64 => ⟨S8x1024x256, .f32⟩
  | 65 => ⟨S32768x8x256, .f32⟩
  | 66 => ⟨S1x8x1024x256, .f32⟩
  | 67 => ⟨S8x1024x256, .f32⟩
  | 68 => ⟨S32768x8x256, .f32⟩
  | 69 => ⟨S32768x8x256, .f32⟩
  | 70 => ⟨S32768x8x256, .f32⟩
  | 71 => ⟨S_, .f32⟩
  | 72 => ⟨S32768x8x256, .f32⟩
  | 73 => ⟨S32768x8x256, .f32⟩
  | 74 => ⟨S_, .f32⟩
  | 75 => ⟨S32768x8x256, .f32⟩
  | 76 => ⟨S32768x8x256, .f32⟩
  | 77 => ⟨S32768x8x256, .f32⟩
  | 78 => ⟨S32768x8x256, .f32⟩
  | 79 => ⟨S32768x1x8, .f32⟩
  | 80 => ⟨S32768x8, .f32⟩
  | 81 => ⟨S32768x8x1, .f32⟩
  | 82 => ⟨S32768x8x256, .f32⟩
  | 83 => ⟨S32768x8x256, .f32⟩
  | 84 => ⟨S1x8x256x1024, .f32⟩
  | 85 => ⟨S8x256x1024, .f32⟩
  | 86 => ⟨S32768x1024, .f32⟩
  | 87 => ⟨S32768x1024, .f32⟩
  | 88 => ⟨S1x8x1024x256, .f32⟩
  | 89 => ⟨S8x1024x256, .f32⟩
  | 90 => ⟨S32768x8x256, .f32⟩
  | 91 => ⟨S1x8x1024x256, .f32⟩
  | 92 => ⟨S8x1024x256, .f32⟩
  | 93 => ⟨S32768x8x256, .f32⟩
  | 94 => ⟨S32768x8x256, .f32⟩
  | 95 => ⟨S32768x8x256, .f32⟩
  | 96 => ⟨S_, .f32⟩
  | 97 => ⟨S32768x8x256, .f32⟩
  | 98 => ⟨S32768x8x256, .f32⟩
  | 99 => ⟨S_, .f32⟩
  | 100 => ⟨S32768x8x256, .f32⟩
  | 101 => ⟨S32768x8x256, .f32⟩
  | 102 => ⟨S32768x8x256, .f32⟩
  | 103 => ⟨S32768x8x256, .f32⟩
  | 104 => ⟨S32768x1x8, .f32⟩
  | 105 => ⟨S32768x8, .f32⟩
  | 106 => ⟨S32768x8x1, .f32⟩
  | 107 => ⟨S32768x8x256, .f32⟩
  | 108 => ⟨S32768x8x256, .f32⟩
  | 109 => ⟨S1x8x256x1024, .f32⟩
  | 110 => ⟨S8x256x1024, .f32⟩
  | 111 => ⟨S32768x1024, .f32⟩
  | 112 => ⟨S32768x1024, .f32⟩
  | 113 => ⟨S_, .f32⟩
  | 114 => ⟨S32768x1024, .f32⟩
  | 115 => ⟨S32768x1024, .f32⟩
  | 116 => ⟨S32768x1024, .f32⟩
  | 117 => ⟨S_, .f32⟩
  | 118 => ⟨S32768, .f32⟩
  | 119 => ⟨S32768x1, .f32⟩
  | 120 => ⟨S_, .f32⟩
  | 121 => ⟨S32768x1, .f32⟩
  | 122 => ⟨S32768x1, .f32⟩
  | 123 => ⟨S32768x1024, .f32⟩
  | 124 => ⟨S32768x1024, .f32⟩
  | 125 => ⟨S32768x1024, .f32⟩
  | 126 => ⟨S_, .f32⟩
  | 127 => ⟨S32768, .f32⟩
  | _ => ⟨S2x16384x1024, .f32⟩

abbrev hbmTy0_1 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x1024, .f32⟩
  | 9 => ⟨S32768x1024, .f32⟩
  | 10 => ⟨S1x1024, .f32⟩
  | 11 => ⟨S32768x1024, .f32⟩
  | 12 => ⟨S32768x1024, .f32⟩
  | 13 => ⟨S1x1024, .f32⟩
  | 14 => ⟨S32768x1024, .f32⟩
  | 15 => ⟨S32768x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call3_v0 : Ref sig .tc := ⟨.hbm, 94, rfl⟩
abbrev main_call3_v1 : Ref sig .tc := ⟨.hbm, 95, rfl⟩
abbrev main_call3_cst : Ref sig .tc := ⟨.hbm, 96, rfl⟩
abbrev main_call3_v2 : Ref sig .tc := ⟨.hbm, 97, rfl⟩
abbrev main_call3_v3 : Ref sig .tc := ⟨.hbm, 98, rfl⟩
abbrev main_call3_cst_0 : Ref sig .tc := ⟨.hbm, 99, rfl⟩
abbrev main_call3_v4 : Ref sig .tc := ⟨.hbm, 100, rfl⟩
abbrev main_call3_v5 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_1 : Ref sig .tc := ⟨.hbm, 117, rfl⟩
abbrev main_v76 : Ref sig .tc := ⟨.hbm, 118, rfl⟩
abbrev main_v77 : Ref sig .tc := ⟨.hbm, 119, rfl⟩
abbrev main_cst_2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_3 : Ref sig .tc := ⟨.hbm, 126, rfl⟩
abbrev main_v83 : Ref sig .tc := ⟨.hbm, 127, rfl⟩
abbrev main_v84 : Ref sig .tc := ⟨.hbm, 128, rfl⟩
abbrev main_cst_4 : Ref sig .tc := ⟨.hbm, 129, rfl⟩
abbrev main_v85 : Ref sig .tc := ⟨.hbm, 130, rfl⟩
abbrev main_v86 : Ref sig .tc := ⟨.hbm, 131, rfl⟩
abbrev main_cst_5 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]
-- ==== Inproj.lean ====
abbrev S2x16384x1024 : Shape := ⟨3, ![2, 16384, 1024]⟩
abbrev S1024 : Shape := ⟨1, ![1024]⟩
abbrev S1024x1696 : Shape := ⟨2, ![1024, 1696]⟩
abbrev S384 : Shape := ⟨1, ![384]⟩
abbrev S256 : Shape := ⟨1, ![256]⟩
abbrev S384x8x96 : Shape := ⟨3, ![384, 8, 96]⟩
abbrev S256x8x128 : Shape := ⟨3, ![256, 8, 128]⟩
abbrev S256x256 : Shape := ⟨2, ![256, 256]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x96 : Shape := ⟨2, ![16384, 96]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1024x16 : Shape := ⟨2, ![1024, 16]⟩
abbrev S1024x1920 : Shape := ⟨2, ![1024, 1920]⟩
abbrev S8x384x96 : Shape := ⟨3, ![8, 384, 96]⟩
abbrev S8x384x32 : Shape := ⟨3, ![8, 384, 32]⟩
abbrev S8x384x16 : Shape := ⟨3, ![8, 384, 16]⟩
abbrev S8x256x128 : Shape := ⟨3, ![8, 256, 128]⟩
abbrev S8x256x64 : Shape := ⟨3, ![8, 256, 64]⟩
abbrev S8x256x96 : Shape := ⟨3, ![8, 256, 96]⟩
abbrev S1x1024 : Shape := ⟨2, ![1, 1024]⟩
abbrev S1x384 : Shape := ⟨2, ![1, 384]⟩
abbrev S1x256 : Shape := ⟨2, ![1, 256]⟩
abbrev S2x8x16384x96 : Shape := ⟨4, ![2, 8, 16384, 96]⟩
abbrev S2x8x16384x64 : Shape := ⟨4, ![2, 8, 16384, 64]⟩
abbrev S2x16384x256 : Shape := ⟨3, ![2, 16384, 256]⟩
abbrev S2x16384x512 : Shape := ⟨3, ![2, 16384, 512]⟩
abbrev S1x512x1024 : Shape := ⟨3, ![1, 512, 1024]⟩
abbrev S512x96 : Shape := ⟨2, ![512, 96]⟩
abbrev S1x8x512x96 : Shape := ⟨4, ![1, 8, 512, 96]⟩
abbrev S1x8x512x64 : Shape := ⟨4, ![1, 8, 512, 64]⟩
abbrev S1x512x256 : Shape := ⟨3, ![1, 512, 256]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x1920 : Shape := ⟨2, ![512, 1920]⟩
abbrev S512x384 : Shape := ⟨2, ![512, 384]⟩
abbrev S512x256 : Shape := ⟨2, ![512, 256]⟩
abbrev S1x384x96 : Shape := ⟨3, ![1, 384, 96]⟩
abbrev S384x96 : Shape := ⟨2, ![384, 96]⟩
abbrev S1x1x512x96 : Shape := ⟨4, ![1, 1, 512, 96]⟩
abbrev S1x256x96 : Shape := ⟨3, ![1, 256, 96]⟩
abbrev S256x96 : Shape := ⟨2, ![256, 96]⟩
abbrev S1x256x64 : Shape := ⟨3, ![1, 256, 64]⟩
abbrev S256x64 : Shape := ⟨2, ![256, 64]⟩
abbrev S512x64 : Shape := ⟨2, ![512, 64]⟩
abbrev S1x1x512x64 : Shape := ⟨4, ![1, 1, 512, 64]⟩

abbrev nBuf : Space → Nat
  | .hbm => 90
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1024x1696, .f32⟩
  | .hbm, ⟨4, _⟩ => ⟨S384, .f32⟩
  | .hbm, ⟨5, _⟩ => ⟨S256, .f32⟩
  | .hbm, ⟨6, _⟩ => ⟨S384x8x96, .f32⟩
  | .hbm, ⟨7, _⟩ => ⟨S256x8x128, .f32⟩
  | .hbm, ⟨8, _⟩ => ⟨S256x256, .f32⟩
  | .hbm, ⟨9, _⟩ => ⟨S256x256, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16384, .f32⟩
  | .hbm, ⟨27, _⟩ => ⟨S16384x1, .f32⟩
  | .hbm, ⟨28, _⟩ => ⟨S1x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S_, .f32⟩
  | .hbm, ⟨35, _⟩ => ⟨S16384x64, .f32⟩
  | .hbm, ⟨36, _⟩ => ⟨S16384x96, .f32⟩
  | .hbm, ⟨37, _⟩ => ⟨S_, .f32⟩
  | .hbm, ⟨38, _⟩ => ⟨S16384x64, .f32⟩
  | .hbm, ⟨39, _⟩ => ⟨S16384x16, .f32⟩
  | .hbm, ⟨40, _⟩ => ⟨S16384x96, .f32⟩
  | .hbm, ⟨41, _⟩ => ⟨S1024x384, .f32⟩
  | .hbm, ⟨42, _⟩ => ⟨S1024x256, .f32⟩
  | .hbm, ⟨43, _⟩ => ⟨S1024x32, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S1024x16, .f32⟩
  | .hbm, ⟨52, _⟩ => ⟨S1024x16, .f32⟩
  | .hbm, ⟨53, _⟩ => ⟨S1024x32, .f32⟩
  | .hbm, ⟨54, _⟩ => ⟨S_, .i32⟩
  | .hbm, ⟨55, _⟩ => ⟨S_, .f32⟩
  | .hbm, ⟨56, _⟩ => ⟨S1024x128, .f32⟩
  | .hbm, ⟨57, _⟩ => ⟨S1024x1920, .f32⟩
  | .hbm, ⟨58, _⟩ => ⟨S1024x1920, .bf16⟩
  | .hbm, ⟨59, _⟩ => ⟨S8x384x96, .f32⟩
  | .hbm, ⟨60, _⟩ => ⟨S8x384x32, .f32⟩
  | .hbm, ⟨61, _⟩ => ⟨S8x384x16, .f32⟩
  | .hbm, ⟨62, _⟩ => ⟨S8x384x16, .f32⟩
  | .hbm, ⟨63, _⟩ => ⟨S8x384x32, .f32⟩
  | .hbm, ⟨64, _⟩ => ⟨S_, .i32⟩
  | .hbm, ⟨65, _⟩ => ⟨S_, .f32⟩
  | .hbm, ⟨66, _⟩ => ⟨S8x384x96, .f32⟩
  | .hbm, ⟨67, _⟩ => ⟨S8x256x128, .f32⟩
  | .hbm, ⟨68, _⟩ => ⟨S8x256x64, .f32⟩
  | .hbm, ⟨69, _⟩ => ⟨S_, .i32⟩
  | .hbm, ⟨70, _⟩ => ⟨S_, .f32⟩
  | .hbm, ⟨71, _⟩ => ⟨S8x256x96, .f32⟩
  | .hbm, ⟨72, _⟩ => ⟨S8x256x64, .f32⟩
  | .hbm, ⟨73, _⟩ => ⟨S1x1024, .f32⟩
  | .hbm, ⟨74, _⟩ => ⟨S1x1024, .f32⟩
  | .hbm, ⟨75, _⟩ => ⟨S1x384, .f32⟩
  | .hbm, ⟨76, _⟩ => ⟨S1x256, .f32⟩
  | .hbm, ⟨77, _⟩ => ⟨S8x384x96, .bf16⟩
  | .hbm, ⟨78, _⟩ => ⟨S8x384x96, .bf16⟩
  | .hbm, ⟨79, _⟩ => ⟨S8x256x96, .bf16⟩
  | .hbm, ⟨80, _⟩ => ⟨S8x256x64, .bf16⟩
  | .hbm, ⟨81, _⟩ => ⟨S256x256, .bf16⟩
  | .hbm, ⟨82, _⟩ => ⟨S256x256, .bf16⟩
  | .hbm, ⟨83, _⟩ => ⟨S2x16384x1024, .f32⟩
  | .hbm, ⟨84, _⟩ => ⟨S2x8x16384x96, .f32⟩
  | .hbm, ⟨85, _⟩ => ⟨S2x8x16384x96, .bf16⟩
  | .hbm, ⟨86, _⟩ => ⟨S2x8x16384x64, .bf16⟩
  | .hbm, ⟨87, _⟩ => ⟨S2x16384x256, .f32⟩
  | .hbm, ⟨88, _⟩ => ⟨S2x16384x256, .f32⟩
  | .hbm, ⟨89, _⟩ => ⟨S2x16384x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1920, .bf16⟩
  | .local _ .vmem, ⟨5, _⟩ => ⟨S1x384, .f32⟩
  | .local _ .vmem, ⟨6, _⟩ => ⟨S1x256, .f32⟩
  | .local _ .vmem, ⟨7, _⟩ => ⟨S8x384x96, .bf16⟩
  | .local _ .vmem, ⟨8, _⟩ => ⟨S8x384x96, .bf16⟩
  | .local _ .vmem, ⟨9, _⟩ => ⟨S8x256x96, .bf16⟩
  | .local _ .vmem, ⟨10, _⟩ => ⟨S8x256x64, .bf16⟩
  | .local _ .vmem, ⟨11, _⟩ => ⟨S512x96, .f32⟩
  | .local _ .vmem, ⟨12, _⟩ => ⟨S512x96, .f32⟩
  | .local _ .vmem, ⟨13, _⟩ => ⟨S512x96, .f32⟩
  | .local _ .vmem, ⟨14, _⟩ => ⟨S512x96, .f32⟩
  | .local _ .vmem, ⟨15, _⟩ => ⟨S256x256, .bf16⟩
  | .local _ .vmem, ⟨16, _⟩ => ⟨S256x256, .bf16⟩
  | .local _ .vmem, ⟨17, _⟩ => ⟨S1x512x1024, .f32⟩
  | .local _ .vmem, ⟨18, _⟩ => ⟨S1x512x1024, .f32⟩
  | .local _ .vmem, ⟨19, _⟩ => ⟨S1x8x512x96, .f32⟩
  | .local _ .vmem, ⟨20, _⟩ => ⟨S1x8x512x96, .f32⟩
  | .local _ .vmem, ⟨21, _⟩ => ⟨S1x8x512x96, .bf16⟩
  | .local _ .vmem, ⟨22, _⟩ => ⟨S1x8x512x96, .bf16⟩
  | .local _ .vmem, ⟨23, _⟩ => ⟨S1x8x512x64, .bf16⟩
  | .local _ .vmem, ⟨24, _⟩ => ⟨S1x8x512x64, .bf16⟩
  | .local _ .vmem, ⟨25, _⟩ => ⟨S1x512x256, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x512, .bf16⟩
  | .local _ .vmem, ⟨30, _⟩ => ⟨S1x512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_call2_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_call3_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58_0 : Ref sig .tc := ⟨.hbm, 83, rfl⟩
abbrev main_v58_1 : Ref sig .tc := ⟨.hbm, 84, rfl⟩
abbrev main_v58_2 : Ref sig .tc := ⟨.hbm, 85, rfl⟩
abbrev main_v58_3 : Ref sig .tc := ⟨.hbm, 86, rfl⟩
abbrev main_v58_4 : Ref sig .tc := ⟨.hbm, 87, rfl⟩
abbrev main_v58_5 : Ref sig .tc := ⟨.hbm, 88, rfl⟩
abbrev main_v58_6 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x384x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x384x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x96 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x96 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== InprojRefIdeal.lean ====
abbrev S2x16384x1024 : Shape := ⟨3, ![2, 16384, 1024]⟩
abbrev S1024 : Shape := ⟨1, ![1024]⟩
abbrev S1024x1696 : Shape := ⟨2, ![1024, 1696]⟩
abbrev S384 : Shape := ⟨1, ![384]⟩
abbrev S256 : Shape := ⟨1, ![256]⟩
abbrev S384x8x96 : Shape := ⟨3, ![384, 8, 96]⟩
abbrev S256x8x128 : Shape := ⟨3, ![256, 8, 128]⟩
abbrev S256x256 : Shape := ⟨2, ![256, 256]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1696 : Shape := ⟨3, ![2, 16384, 1696]⟩
abbrev S2x16384x384 : Shape := ⟨3, ![2, 16384, 384]⟩
abbrev S2x16384x256 : Shape := ⟨3, ![2, 16384, 256]⟩
abbrev S2x16384x32 : Shape := ⟨3, ![2, 16384, 32]⟩
abbrev S1x1x384 : Shape := ⟨3, ![1, 1, 384]⟩
abbrev S2x16384x8x96 : Shape := ⟨4, ![2, 16384, 8, 96]⟩
abbrev S1x1x256 : Shape := ⟨3, ![1, 1, 256]⟩
abbrev S2x16384x8x128 : Shape := ⟨4, ![2, 16384, 8, 128]⟩
abbrev S2x16384x8x32 : Shape := ⟨4, ![2, 16384, 8, 32]⟩
abbrev S1x16384x1x16 : Shape := ⟨4, ![1, 16384, 1, 16]⟩
abbrev S2x16384x8x16 : Shape := ⟨4, ![2, 16384, 8, 16]⟩
abbrev S1x16384x16 : Shape := ⟨3, ![1, 16384, 16]⟩
abbrev S2x16384x16 : Shape := ⟨3, ![2, 16384, 16]⟩
abbrev S2x16384x8x64 : Shape := ⟨4, ![2, 16384, 8, 64]⟩
abbrev S2x16384x1x32 : Shape := ⟨4, ![2, 16384, 1, 32]⟩
abbrev S2x16384x512 : Shape := ⟨3, ![2, 16384, 512]⟩
abbrev S2x8x16384x96 : Shape := ⟨4, ![2, 8, 16384, 96]⟩
abbrev S2x8x16384x64 : Shape := ⟨4, ![2, 8, 16384, 64]⟩

abbrev nBuf : Space → Nat
  | .hbm => 151
  | .vmem => 0
  | .smem => 0
  | _ => 0

abbrev hbmTy0_0 (i : Nat) : BufTy := match i % 128 with
  | 0 => ⟨S2x16384x1024, .f32⟩
  | 1 => ⟨S1024, .f32⟩
  | 2 => ⟨S1024, .f32⟩
  | 3 => ⟨S1024x1696, .f32⟩
  | 4 => ⟨S384, .f32⟩
  | 5 => ⟨S256, .f32⟩
  | 6 => ⟨S384x8x96, .f32⟩
  | 7 => ⟨S256x8x128, .f32⟩
  | 8 => ⟨S256x256, .f32⟩
  | 9 => ⟨S256x256, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S16384, .f32⟩
  | 27 => ⟨S16384x1, .f32⟩
  | 28 => ⟨S1x16, .f32⟩
  | 29 => ⟨S16384x16, .f32⟩
  | 30 => ⟨S16384x16, .f32⟩
  | 31 => ⟨S16384x16, .f32⟩
  | 32 => ⟨S16384x16, .f32⟩
  | 33 => ⟨S16384x16, .f32⟩
  | 34 => ⟨S_, .f32⟩
  | 35 => ⟨S2x16384, .f32⟩
  | 36 => ⟨S2x16384x1, .f32⟩
  | 37 => ⟨S_, .f32⟩
  | 38 => ⟨S2x16384x1, .f32⟩
  | 39 => ⟨S2x16384x1, .f32⟩
  | 40 => ⟨S2x16384x1024, .f32⟩
  | 41 => ⟨S2x16384x1024, .f32⟩
  | 42 => ⟨S2x16384x1024, .f32⟩
  | 43 => ⟨S_, .f32⟩
  | 44 => ⟨S2x16384, .f32⟩
  | 45 => ⟨S2x16384x1, .f32⟩
  | 46 => ⟨S_, .f32⟩
  | 47 => ⟨S2x16384x1, .f32⟩
  | 48 => ⟨S2x16384x1, .f32⟩
  | 49 => ⟨S_, .f32⟩
  | 50 => ⟨S2x16384x1, .f32⟩
  | 51 => ⟨S2x16384x1, .f32⟩
  | 52 => ⟨S2x16384x1, .f32⟩
  | 53 => ⟨S2x16384x1024, .f32⟩
  | 54 => ⟨S2x16384x1024, .f32⟩
  | 55 => ⟨S1x1x1024, .f32⟩
  | 56 => ⟨S2x16384x1024, .f32⟩
  | 57 => ⟨S2x16384x1024, .f32⟩
  | 58 => ⟨S1x1x1024, .f32⟩
  | 59 => ⟨S2x16384x1024, .f32⟩
  | 60 => ⟨S2x16384x1024, .f32⟩
  | 61 => ⟨S2x16384x1696, .f32⟩
  | 62 => ⟨S2x16384x384, .f32⟩
  | 63 => ⟨S2x16384x256, .f32⟩
  | 64 => ⟨S2x16384x32, .f32⟩
  | 65 => ⟨S2x16384x256, .f32⟩
  | 66 => ⟨S2x16384x256, .f32⟩
  | 67 => ⟨S2x16384x256, .f32⟩
  | 68 => ⟨S2x16384x256, .f32⟩
  | 69 => ⟨S2x16384x384, .f32⟩
  | 70 => ⟨S_, .f32⟩
  | 71 => ⟨S2x16384, .f32⟩
  | 72 => ⟨S2x16384x1, .f32⟩
  | 73 => ⟨S_, .f32⟩
  | 74 => ⟨S2x16384x1, .f32⟩
  | 75 => ⟨S2x16384x1, .f32⟩
  | 76 => ⟨S_, .f32⟩
  | 77 => ⟨S2x16384x1, .f32⟩
  | 78 => ⟨S2x16384x1, .f32⟩
  | 79 => ⟨S2x16384x1, .f32⟩
  | 80 => ⟨S2x16384x384, .f32⟩
  | 81 => ⟨S2x16384x384, .f32⟩
  | 82 => ⟨S1x1x384, .f32⟩
  | 83 => ⟨S2x16384x384, .f32⟩
  | 84 => ⟨S2x16384x384, .f32⟩
  | 85 => ⟨S2x16384x8x96, .f32⟩
  | 86 => ⟨S2x16384x256, .f32⟩
  | 87 => ⟨S_, .f32⟩
  | 88 => ⟨S2x16384, .f32⟩
  | 89 => ⟨S2x16384x1, .f32⟩
  | 90 => ⟨S_, .f32⟩
  | 91 => ⟨S2x16384x1, .f32⟩
  | 92 => ⟨S2x16384x1, .f32⟩
  | 93 => ⟨S_, .f32⟩
  | 94 => ⟨S2x16384x1, .f32⟩
  | 95 => ⟨S2x16384x1, .f32⟩
  | 96 => ⟨S2x16384x1, .f32⟩
  | 97 => ⟨S2x16384x256, .f32⟩
  | 98 => ⟨S2x16384x256, .f32⟩
  | 99 => ⟨S1x1x256, .f32⟩
  | 100 => ⟨S2x16384x256, .f32⟩
  | 101 => ⟨S2x16384x256, .f32⟩
  | 102 => ⟨S2x16384x8x128, .f32⟩
  | 103 => ⟨S2x16384x8x32, .f32⟩
  | 104 => ⟨S1x16384x1x16, .f32⟩
  | 105 => ⟨S1x16384x1x16, .f32⟩
  | 106 => ⟨S2x16384x8x16, .f32⟩
  | 107 => ⟨S2x16384x8x16, .f32⟩
  | 108 => ⟨S2x16384x8x16, .f32⟩
  | 109 => ⟨S2x16384x8x16, .f32⟩
  | 110 => ⟨S2x16384x8x16, .f32⟩
  | 111 => ⟨S2x16384x8x16, .f32⟩
  | 112 => ⟨S2x16384x8x16, .f32⟩
  | 113 => ⟨S2x16384x8x16, .f32⟩
  | 114 => ⟨S2x16384x8x16, .f32⟩
  | 115 => ⟨S2x16384x8x16, .f32⟩
  | 116 => ⟨S2x16384x8x16, .f32⟩
  | 117 => ⟨S2x16384x8x16, .f32⟩
  | 118 => ⟨S2x16384x8x32, .f32⟩
  | 119 => ⟨S1x16384x16, .f32⟩
  | 120 => ⟨S1x16384x16, .f32⟩
  | 121 => ⟨S2x16384x16, .f32⟩
  | 122 => ⟨S2x16384x16, .f32⟩
  | 123 => ⟨S2x16384x16, .f32⟩
  | 124 => ⟨S2x16384x16, .f32⟩
  | 125 => ⟨S2x16384x16, .f32⟩
  | 126 => ⟨S2x16384x16, .f32⟩
  | 127 => ⟨S2x16384x16, .f32⟩
  | _ => ⟨S2x16384x1024, .f32⟩

abbrev hbmTy0_1 (i : Nat) : BufTy := match i % 128 with
  | 0 => ⟨S2x16384x16, .f32⟩
  | 1 => ⟨S2x16384x16, .f32⟩
  | 2 => ⟨S2x16384x16, .f32⟩
  | 3 => ⟨S2x16384x16, .f32⟩
  | 4 => ⟨S2x16384x16, .f32⟩
  | 5 => ⟨S2x16384x32, .f32⟩
  | 6 => ⟨S2x16384x8x64, .f32⟩
  | 7 => ⟨S2x16384x8x96, .f32⟩
  | 8 => ⟨S2x16384x8x64, .f32⟩
  | 9 => ⟨S2x16384x1x32, .f32⟩
  | 10 => ⟨S2x16384x8x32, .f32⟩
  | 11 => ⟨S2x16384x8x96, .f32⟩
  | 12 => ⟨S2x16384x256, .f32⟩
  | 13 => ⟨S2x16384x256, .f32⟩
  | 14 => ⟨S2x16384x512, .f32⟩
  | 15 => ⟨S2x8x16384x96, .f32⟩
  | 16 => ⟨S2x8x16384x96, .f32⟩
  | 17 => ⟨S2x8x16384x96, .bf16⟩
  | 18 => ⟨S2x16384x8x64, .f32⟩
  | 19 => ⟨S2x8x16384x64, .f32⟩
  | 20 => ⟨S2x8x16384x64, .bf16⟩
  | 21 => ⟨S2x16384x256, .f32⟩
  | 22 => ⟨S2x16384x512, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩

abbrev nD : Nat := 1
abbrev τ : Topo := Topo.v7x

variable {F : FTy → Type} [FloatOps F]
-- ==== Outproj.lean ====
abbrev S2x8x16384x64 : Shape := ⟨4, ![2, 8, 16384, 64]⟩
abbrev S2x16384x256 : Shape := ⟨3, ![2, 16384, 256]⟩
abbrev S2x16384x1024 : Shape := ⟨3, ![2, 16384, 1024]⟩
abbrev S3x256 : Shape := ⟨2, ![3, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S512x1024 : Shape := ⟨2, ![512, 1024]⟩
abbrev S8x64x1024 : Shape := ⟨3, ![8, 64, 1024]⟩
abbrev S256x1024 : Shape := ⟨2, ![256, 1024]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S36 : Shape := ⟨1, ![36]⟩
abbrev S1x36 : Shape := ⟨2, ![1, 36]⟩
abbrev S1x128 : Shape := ⟨2, ![1, 128]⟩
abbrev S1x1024 : Shape := ⟨2, ![1, 1024]⟩
abbrev S2x16384x128 : Shape := ⟨3, ![2, 16384, 128]⟩
abbrev S1x8x512x64 : Shape := ⟨4, ![1, 8, 512, 64]⟩
abbrev S1x512x256 : Shape := ⟨3, ![1, 512, 256]⟩
abbrev S1x8x256 : Shape := ⟨3, ![1, 8, 256]⟩
abbrev S1x512x1024 : Shape := ⟨3, ![1, 512, 1024]⟩
abbrev S1x512x128 : Shape := ⟨3, ![1, 512, 128]⟩
abbrev S512x256 : Shape := ⟨2, ![512, 256]⟩
abbrev S8x256 : Shape := ⟨2, ![8, 256]⟩
abbrev S1x256 : Shape := ⟨2, ![1, 256]⟩
abbrev S1x1x512x64 : Shape := ⟨4, ![1, 1, 512, 64]⟩
abbrev S512x64 : Shape := ⟨2, ![512, 64]⟩
abbrev S1x64x1024 : Shape := ⟨3, ![1, 64, 1024]⟩
abbrev S64x1024 : Shape := ⟨2, ![64, 1024]⟩
abbrev S512 : Shape := ⟨1, ![512]⟩
abbrev S512x1 : Shape := ⟨2, ![512, 1]⟩
abbrev S512x128 : Shape := ⟨2, ![512, 128]⟩

abbrev nBuf : Space → Nat
  | .hbm => 33
  | .vmem => 26
  | .smem => 0
  | _ => 0

abbrev bufTy : (tb : Table) → Fin (tcTables nBuf tb) → BufTy
  | .hbm, ⟨0, _⟩ => ⟨S2x8x16384x64, .bf16⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x1024, .f32⟩
  | .hbm, ⟨5, _⟩ => ⟨S3x256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x4x8, .f32⟩
  | .hbm, ⟨12, _⟩ => ⟨S4x8, .f32⟩
  | .hbm, ⟨13, _⟩ => ⟨S1024x1024, .bf16⟩
  | .hbm, ⟨14, _⟩ => ⟨S512x1024, .bf16⟩
  | .hbm, ⟨15, _⟩ => ⟨S8x64x1024, .bf16⟩
  | .hbm, ⟨16, _⟩ => ⟨S256x1024, .bf16⟩
  | .hbm, ⟨17, _⟩ => ⟨S256x1024, .bf16⟩
  | .hbm, ⟨18, _⟩ => ⟨S1024x32, .f32⟩
  | .hbm, ⟨19, _⟩ => ⟨S1024x36, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S32, .f32⟩
  | .hbm, ⟨24, _⟩ => ⟨S36, .f32⟩
  | .hbm, ⟨25, _⟩ => ⟨S1x36, .f32⟩
  | .hbm, ⟨26, _⟩ => ⟨S_, .i32⟩
  | .hbm, ⟨27, _⟩ => ⟨S_, .f32⟩
  | .hbm, ⟨28, _⟩ => ⟨S1x128, .f32⟩
  | .hbm, ⟨29, _⟩ => ⟨S1x1024, .f32⟩
  | .hbm, ⟨30, _⟩ => ⟨S1x1024, .f32⟩
  | .hbm, ⟨31, _⟩ => ⟨S2x16384x1024, .f32⟩
  | .hbm, ⟨32, _⟩ => ⟨S2x16384x128, .f32⟩
  | .local _ .vmem, ⟨0, _⟩ => ⟨S1x8x512x64, .bf16⟩
  | .local _ .vmem, ⟨1, _⟩ => ⟨S1x8x512x64, .bf16⟩
  | .local _ .vmem, ⟨2, _⟩ => ⟨S1x512x256, .f32⟩
  | .local _ .vmem, ⟨3, _⟩ => ⟨S1x512x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x1024, .f32⟩
  | .local _ .vmem, ⟨13, _⟩ => ⟨S1x512x1024, .f32⟩
  | .local _ .vmem, ⟨14, _⟩ => ⟨S8x64x1024, .bf16⟩
  | .local _ .vmem, ⟨15, _⟩ => ⟨S256x1024, .bf16⟩
  | .local _ .vmem, ⟨16, _⟩ => ⟨S256x1024, .bf16⟩
  | .local _ .vmem, ⟨17, _⟩ => ⟨S3x256, .f32⟩
  | .local _ .vmem, ⟨18, _⟩ => ⟨S1x1024, .f32⟩
  | .local _ .vmem, ⟨19, _⟩ => ⟨S1x1024, .f32⟩
  | .local _ .vmem, ⟨20, _⟩ => ⟨S1024x128, .f32⟩
  | .local _ .vmem, ⟨21, _⟩ => ⟨S1x128, .f32⟩
  | .local _ .vmem, ⟨22, _⟩ => ⟨S1x512x1024, .f32⟩
  | .local _ .vmem, ⟨23, _⟩ => ⟨S1x512x1024, .f32⟩
  | .local _ .vmem, ⟨24, _⟩ => ⟨S1x512x128, .f32⟩
  | .local _ .vmem, ⟨25, _⟩ => ⟨S1x512x128, .f32⟩
  | _, _ => ⟨S2x8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== OutprojRefIdeal.lean ====
abbrev S2x8x16384x64 : Shape := ⟨4, ![2, 8, 16384, 64]⟩
abbrev S2x16384x256 : Shape := ⟨3, ![2, 16384, 256]⟩
abbrev S2x16384x1024 : Shape := ⟨3, ![2, 16384, 1024]⟩
abbrev S3x256 : Shape := ⟨2, ![3, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S2x16384x8x64 : Shape := ⟨4, ![2, 16384, 8, 64]⟩
abbrev S2x16384x512 : Shape := ⟨3, ![2, 16384, 512]⟩
abbrev S_ : Shape := ⟨0, ![]⟩
abbrev S2x16386x256 : Shape := ⟨3, ![2, 16386, 256]⟩
abbrev S1x256 : Shape := ⟨2, ![1, 256]⟩
abbrev S256 : Shape := ⟨1, ![256]⟩
abbrev S1x1x256 : Shape := ⟨3, ![1, 1, 256]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4 : Shape := ⟨3, ![2, 16384, 4]⟩
abbrev S1x1x4 : Shape := ⟨3, ![1, 1, 4]⟩
abbrev S2x16384x4x8 : Shape := ⟨4, ![2, 16384, 4, 8]⟩
abbrev S1x1x4x8 : Shape := ⟨4, ![1, 1, 4, 8]⟩
abbrev S2x16384x8 : Shape := ⟨3, ![2, 16384, 8]⟩
abbrev S2x16384x2 : Shape := ⟨3, ![2, 16384, 2]⟩
abbrev S2x16384x2x1 : Shape := ⟨4, ![2, 16384, 2, 1]⟩
abbrev S1x1x1x8 : Shape := ⟨4, ![1, 1, 1, 8]⟩
abbrev S2x16384x2x8 : Shape := ⟨4, ![2, 16384, 2, 8]⟩
abbrev S2x16384x4x1 : Shape := ⟨4, ![2, 16384, 4, 1]⟩
abbrev S2x16384x1x8 : Shape := ⟨4, ![2, 16384, 1, 8]⟩
abbrev S2x16384x32 : Shape := ⟨3, ![2, 16384, 32]⟩
abbrev S2x16384x128 : Shape := ⟨3, ![2, 16384, 128]⟩

abbrev nBuf : Space → Nat
  | .hbm => 155
  | .vmem => 0
  | .smem => 0
  | _ => 0

abbrev hbmTy0_0 (i : Nat) : BufTy := match i % 128 with
  | 0 => ⟨S2x8x16384x64, .bf16⟩
  | 1 => ⟨S2x16384x256, .f32⟩
  | 2 => ⟨S2x16384x256, .f32⟩
  | 3 => ⟨S2x16384x256, .f32⟩
  | 4 => ⟨S2x16384x1024, .f32⟩
  | 5 => ⟨S3x256, .f32⟩
  | 6 => ⟨S1024x1024, .f32⟩
  | 7 => ⟨S1024, .f32⟩
  | 8 => ⟨S1024, .f32⟩
  | 9 => ⟨S1024x4, .f32⟩
  | 10 => ⟨S4, .f32⟩
  | 11 => ⟨S1024x4x8, .f32⟩
  | 12 => ⟨S4x8, .f32⟩
  | 13 => ⟨S2x8x16384x64, .f32⟩
  | 14 => ⟨S2x16384x8x64, .f32⟩
  | 15 => ⟨S2x16384x512, .f32⟩
  | 16 => ⟨S_, .i32⟩
  | 17 => ⟨S_, .f32⟩
  | 18 => ⟨S2x16386x256, .f32⟩
  | 19 => ⟨S2x16384x256, .f32⟩
  | 20 => ⟨S1x256, .f32⟩
  | 21 => ⟨S256, .f32⟩
  | 22 => ⟨S1x1x256, .f32⟩
  | 23 => ⟨S2x16384x256, .f32⟩
  | 24 => ⟨S2x16384x256, .f32⟩
  | 25 => ⟨S_, .f32⟩
  | 26 => ⟨S2x16384x256, .f32⟩
  | 27 => ⟨S2x16384x256, .f32⟩
  | 28 => ⟨S2x16384x256, .f32⟩
  | 29 => ⟨S1x256, .f32⟩
  | 30 => ⟨S256, .f32⟩
  | 31 => ⟨S1x1x256, .f32⟩
  | 32 => ⟨S2x16384x256, .f32⟩
  | 33 => ⟨S2x16384x256, .f32⟩
  | 34 => ⟨S2x16384x256, .f32⟩
  | 35 => ⟨S2x16384x256, .f32⟩
  | 36 => ⟨S1x256, .f32⟩
  | 37 => ⟨S256, .f32⟩
  | 38 => ⟨S1x1x256, .f32⟩
  | 39 => ⟨S2x16384x256, .f32⟩
  | 40 => ⟨S2x16384x256, .f32⟩
  | 41 => ⟨S2x16384x256, .f32⟩
  | 42 => ⟨S2x16384x256, .f32⟩
  | 43 => ⟨S2x16384x1024, .f32⟩
  | 44 => ⟨S2x16384x1024, .f32⟩
  | 45 => ⟨S_, .f32⟩
  | 46 => ⟨S2x16384x1024, .f32⟩
  | 47 => ⟨S2x16384x1024, .f32⟩
  | 48 => ⟨S2x16384x1024, .f32⟩
  | 49 => ⟨S_, .f32⟩
  | 50 => ⟨S2x16384, .f32⟩
  | 51 => ⟨S2x16384x1, .f32⟩
  | 52 => ⟨S_, .f32⟩
  | 53 => ⟨S2x16384x1, .f32⟩
  | 54 => ⟨S2x16384x1, .f32⟩
  | 55 => ⟨S2x16384x1024, .f32⟩
  | 56 => ⟨S2x16384x1024, .f32⟩
  | 57 => ⟨S2x16384x1024, .f32⟩
  | 58 => ⟨S_, .f32⟩
  | 59 => ⟨S2x16384, .f32⟩
  | 60 => ⟨S2x16384x1, .f32⟩
  | 61 => ⟨S_, .f32⟩
  | 62 => ⟨S2x16384x1, .f32⟩
  | 63 => ⟨S2x16384x1, .f32⟩
  | 64 => ⟨S_, .f32⟩
  | 65 => ⟨S2x16384x1, .f32⟩
  | 66 => ⟨S2x16384x1, .f32⟩
  | 67 => ⟨S2x16384x1, .f32⟩
  | 68 => ⟨S2x16384x1024, .f32⟩
  | 69 => ⟨S2x16384x1024, .f32⟩
  | 70 => ⟨S1x1x1024, .f32⟩
  | 71 => ⟨S2x16384x1024, .f32⟩
  | 72 => ⟨S2x16384x1024, .f32⟩
  | 73 => ⟨S1x1x1024, .f32⟩
  | 74 => ⟨S2x16384x1024, .f32⟩
  | 75 => ⟨S2x16384x1024, .f32⟩
  | 76 => ⟨S2x16384x4, .f32⟩
  | 77 => ⟨S1x1x4, .f32⟩
  | 78 => ⟨S2x16384x4, .f32⟩
  | 79 => ⟨S2x16384x4, .f32⟩
  | 80 => ⟨S_, .f32⟩
  | 81 => ⟨S2x16384, .f32⟩
  | 82 => ⟨S_, .f32⟩
  | 83 => ⟨S2x16384, .f32⟩
  | 84 => ⟨S2x16384, .f32⟩
  | 85 => ⟨S2x16384x1, .f32⟩
  | 86 => ⟨S2x16384x4, .f32⟩
  | 87 => ⟨S2x16384x4, .f32⟩
  | 88 => ⟨S2x16384x4, .f32⟩
  | 89 => ⟨S_, .f32⟩
  | 90 => ⟨S2x16384, .f32⟩
  | 91 => ⟨S2x16384x1, .f32⟩
  | 92 => ⟨S2x16384x4, .f32⟩
  | 93 => ⟨S2x16384x4, .f32⟩
  | 94 => ⟨S2x16384x1, .f32⟩
  | 95 => ⟨S2x16384x1, .i32⟩
  | 96 => ⟨S2x16384, .i32⟩
  | 97 => ⟨S2x16384x1, .i32⟩
  | 98 => ⟨S1x1x4, .i32⟩
  | 99 => ⟨S2x16384x4, .i32⟩
  | 100 => ⟨S2x16384x4, .i32⟩
  | 101 => ⟨S2x16384x4, .i1⟩
  | 102 => ⟨S2x16384x4, .f32⟩
  | 103 => ⟨S2x16384x4, .f32⟩
  | 104 => ⟨S_, .f32⟩
  | 105 => ⟨S2x16384, .f32⟩
  | 106 => ⟨S2x16384x1, .f32⟩
  | 107 => ⟨S2x16384x4x8, .f32⟩
  | 108 => ⟨S1x1x4x8, .f32⟩
  | 109 => ⟨S2x16384x4x8, .f32⟩
  | 110 => ⟨S2x16384x4x8, .f32⟩
  | 111 => ⟨S2x16384x8, .f32⟩
  | 112 => ⟨S_, .f32⟩
  | 113 => ⟨S2x16384, .f32⟩
  | 114 => ⟨S_, .f32⟩
  | 115 => ⟨S2x16384, .f32⟩
  | 116 => ⟨S2x16384, .f32⟩
  | 117 => ⟨S2x16384x1, .f32⟩
  | 118 => ⟨S2x16384x8, .f32⟩
  | 119 => ⟨S2x16384x8, .f32⟩
  | 120 => ⟨S2x16384x8, .f32⟩
  | 121 => ⟨S_, .f32⟩
  | 122 => ⟨S2x16384, .f32⟩
  | 123 => ⟨S2x16384x1, .f32⟩
  | 124 => ⟨S2x16384x8, .f32⟩
  | 125 => ⟨S2x16384x8, .f32⟩
  | 126 => ⟨S2x16384x2, .f32⟩
  | 127 => ⟨S2x16384x2, .i32⟩
  | _ => ⟨S2x8x16384x64, .bf16⟩

abbrev hbmTy0_1 (i : Nat) : BufTy := match i % 128 with
  | 0 => ⟨S_, .f32⟩
  | 1 => ⟨S2x16384, .f32⟩
  | 2 => ⟨S2x16384x1, .f32⟩
  | 3 => ⟨S2x16384x2, .f32⟩
  | 4 => ⟨S2x16384x2, .f32⟩
  | 5 => ⟨S2x16384x2x1, .i32⟩
  | 6 => ⟨S1x1x1x8, .i32⟩
  | 7 => ⟨S2x16384x2x8, .i32⟩
  | 8 => ⟨S2x16384x2x8, .i32⟩
  | 9 => ⟨S2x16384x2x8, .i1⟩
  | 10 => ⟨S2x16384x2x8, .f32⟩
  | 11 => ⟨S2x16384x2x1, .f32⟩
  | 12 => ⟨S2x16384x2x8, .f32⟩
  | 13 => ⟨S2x16384x2x8, .f32⟩
  | 14 => ⟨S_, .f32⟩
  | 15 => ⟨S2x16384x8, .f32⟩
  | 16 => ⟨S2x16384x8, .f32⟩
  | 17 => ⟨S2x16384x8, .f32⟩
  | 18 => ⟨S2x16384x4x1, .f32⟩
  | 19 => ⟨S2x16384x1x8, .f32⟩
  | 20 => ⟨S2x16384x4x8, .f32⟩
  | 21 => ⟨S2x16384x4x8, .f32⟩
  | 22 => ⟨S2x16384x4x8, .f32⟩
  | 23 => ⟨S2x16384x32, .f32⟩
  | 24 => ⟨S_, .i32⟩
  | 25 => ⟨S_, .f32⟩
  | 26 => ⟨S2x16384x128, .f32⟩
  | _ => ⟨S2x8x16384x64, .bf16⟩

abbrev hbmTy (i : Nat) : BufTy := match i / 128 with
  | 0 => hbmTy0_0 i
  | 1 => hbmTy0_1 i
  | _ => ⟨S2x8x16384x64, .bf16⟩

abbrev bufTy : (tb : Table) → Fin (tcTables nBuf tb) → BufTy
  | .hbm, ⟨i, _⟩ => hbmTy i
  | _, _ => ⟨S2x8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_values : Ref sig .tc := ⟨.hbm, 94, rfl⟩
abbrev main_indices : Ref sig .tc := ⟨.hbm, 95, rfl⟩
abbrev main_v69 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_10 : Ref sig .tc := ⟨.hbm, 112, rfl⟩
abbrev main_v79 : Ref sig .tc := ⟨.hbm, 113, rfl⟩
abbrev main_cst_11 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_values_13 : Ref sig .tc := ⟨.hbm, 126, rfl⟩
abbrev main_indices_14 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_16 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_17 : Ref sig .tc := ⟨.hbm, 152, rfl⟩
abbrev main_call3_v0 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Proof.Experts.lean ====
module

public import Idealize.ShloMosaic.Lib.Pointwise
public import Mathlib.Algebra.BigOperators.Fin

@[expose] public section

/-!
# The experts of one token

The hidden values of an expert, the sum over all experts, and the residual with its layer norm, as
functions of a token's row and of the weights, over the extended reals. All sums may be reordered
there, so the order in which the experts are added does not matter.
-/

noncomputable section

namespace Experts

open Idealize.ShloMosaic

/-- `a` times the logistic function of `a`. -/
def silu (a : EReal) : EReal := a * Ideal.div 1 (1 + Ideal.exp (0 - a))

/-- A hidden value of an expert, of the token `x`, with the routing weight `w`. -/
def hid {D : ℕ} (x wg wu : Fin D → EReal) (w : EReal) : EReal :=
  silu (∑ k, x k * wg k) * (∑ k, x k * wu k) * w

/-- The contribution of an expert to column `d`. -/
def expert {D H : ℕ} (x : Fin D → EReal) (wg wu : Fin D → Fin H → EReal) (w : EReal)
    (wd : Fin H → Fin D → EReal) (d : Fin D) : EReal :=
  ∑ f, hid x (fun k => wg k f) (fun k => wu k f) w * wd f d

/-- The layer norm of a row, with the number of its columns and the small constant given. -/
def norm {D : ℕ} (n ε : EReal) (y g b : Fin D → EReal) (d : Fin D) : EReal :=
  (y d - Ideal.div (∑ x, y x) n)
      * Ideal.rsqrt (Ideal.div (∑ x, (y x - Ideal.div (∑ x, y x) n) * (y x - Ideal.div (∑ x, y x) n)) n + ε)
    * g d + b d

/-- A sum in which one summand alone is kept. -/
theorem select_sum (v : Fin 128 → EReal) (n : ℕ) (h : n < 32) :
    ∑ x : Fin 128, Scalar.select (IntOp.cmpi CmpIPredicate.eq (BitVec.ofNat 32 x.val)
      (Scalar.addi (BitVec.ofNat 32 n) 4#32)) (v x) 0 = v ⟨4 + n, by omega⟩ := by
  have hx : ∀ x : Fin 128, (BitVec.ofNat 32 x.val = Scalar.addi (BitVec.ofNat 32 n) 4#32)
      ↔ x = ⟨4 + n, by omega⟩ := by
    intro x
    have hx := x.isLt
    rw [Fin.ext_iff, show Scalar.addi (BitVec.ofNat 32 n) 4#32 = BitVec.ofNat 32 (n + 4) by
      unfold Scalar.addi; exact (BitVec.ofNat_add n 4).symm]
    rw [← BitVec.toNat_inj, BitVec.toNat_ofNat, BitVec.toNat_ofNat]
    show _ ↔ x.val = 4 + n
    omega
  rw [Finset.sum_eq_single ⟨4 + n, by omega⟩]
  · unfold Scalar.select IntOp.cmpi
    simp [(hx _).2 rfl]
  · intro x _ hne
    have : ¬ BitVec.ofNat 32 x.val = Scalar.addi (BitVec.ofNat 32 n) 4#32 := fun e => hne ((hx x).1 e)
    unfold Scalar.select IntOp.cmpi
    simp only
    rw [beq_eq_false_iff_ne.2 this]
    simp
  · intro h
    exact absurd (Finset.mem_univ _) h

/-- A sum over 32 experts, by group and place in the group. -/
theorem sum_groups (F : Fin 4 → Fin 8 → EReal) :
    ∑ e : Fin 32, F ⟨e.val / 8, by omega⟩ ⟨e.val % 8, by omega⟩ = ∑ g : Fin 4, ∑ e : Fin 8, F g e := by
  rw [← Fintype.sum_prod_type' (f := F)]
  exact Fintype.sum_equiv (finProdFinEquiv (m := 4) (n := 8)).symm _ _ fun _ => rfl

/-- A function on `Fin n` extended by zero. -/
def ext {n : ℕ} (F : Fin n → EReal) (k : ℕ) : EReal := if h : k < n then F ⟨k, h⟩ else 0

theorem ext_of_lt {n : ℕ} (F : Fin n → EReal) (k : ℕ) (h : k < n) : ext F k = F ⟨k, h⟩ := dif_pos h

theorem sum_ext {n : ℕ} (F : Fin n → EReal) : ∑ k ∈ Finset.range n, ext F k = ∑ k, F k := by
  rw [Finset.sum_range]
  exact Finset.sum_congr rfl fun k _ => ext_of_lt F k.val k.isLt

end Experts
end
-- ==== Proof.Proj.lean ====
module

public import proofs.«01_k».proof.Proof.Experts

@[expose] public section

/-!
# The in-projection of one token

The root mean square norm of a row, the products of a row with the columns of a matrix, and the
rotation of a row of 32 numbers, over the extended reals.
-/

noncomputable section

namespace Proj

open Idealize.ShloMosaic

/-- The root mean square norm of a row, with the number of its columns and the small constant given. -/
def rms {D : ℕ} (n ε : EReal) (y g : Fin D → EReal) (d : Fin D) : EReal :=
  y d * Ideal.rsqrt (Ideal.div (∑ x, y x * y x) n + ε) * g d

/-- A row times a column. -/
def dot {D : ℕ} (h w : Fin D → EReal) : EReal := ∑ k, h k * w k

theorem dot_zero {D : ℕ} (h : Fin D → EReal) : dot h (fun _ => 0) = 0 := by
  unfold dot
  simp

end Proj
end
-- ==== Proof.OutprojBlock.lean ====
module

public import proofs.«01_k».proof.Proof.Gen.OutprojIdeal.Value
public import proofs.«01_k».proof.Proof.Proj

@[expose] public section

/-!
# One grid point of the out-projection kernel

What a grid point stores into the block of the updated stream, at an index, from the blocks of its
arguments: the short convolution with the rows before and after the block, the products of the three
groups with their parts of the output weight, and the layer norm of the residual.
-/

set_option maxRecDepth 16384

noncomputable section

namespace Cert.OutprojIdeal.Block

open Cert.OutprojIdeal Cert.OutprojIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The factor of the residual, the number of columns and the layer norm's small constant. -/
def alpha : EReal := Ideal.ofBits FTy.f32 0x3FB504F3#32
def cols : EReal := Ideal.ofBits FTy.f32 0x44800000#32
def small : EReal := Ideal.ofBits FTy.f32 0x3727C5AC#32

abbrev Att := Vec Ideal S1x8x512x64 .bf16
abbrev Head := Vec Ideal S1x1x512x64 .bf16
abbrev Ch := Vec Ideal S1x512x256 .f32
abbrev Halo := Vec Ideal S1x8x256 .f32
abbrev Taps := Vec Ideal S3x256 .f32
abbrev Tok := Vec Ideal S1x512x1024 .f32
abbrev WAtt := Vec Ideal S8x64x1024 .bf16
abbrev WHead := Vec Ideal S1x64x1024 .bf16
abbrev WCh := Vec Ideal S256x1024 .bf16
abbrev Row := Vec Ideal S1x1024 .f32
abbrev Mix := FVec Ideal S512x1024 .f32
abbrev Mid := FVec Ideal S512x256 .f32

/-! ## The neighbours of a row -/

/-- The row before row `r` of block `n`: the last of the rows before the block where `r` is the first, zero where the block
is the first too. -/
def prev (n : ℕ) (u : Ch) (up : Halo) (r : Fin 512) (d : Fin 256) : EReal :=
  if r.val = 0 then (if n = 0 then 0 else up (ix3 0 7 d)) else u (ix3 0 ⟨r.val - 1, by omega⟩ d)

/-- The row after row `r` of block `n`: the first of the rows after the block where `r` is the last, zero where the block is
the last too. -/
def next (n : ℕ) (u : Ch) (un : Halo) (r : Fin 512) (d : Fin 256) : EReal :=
  if h : r.val = 511 then (if n = 31 then 0 else un (ix3 0 0 d)) else u (ix3 0 ⟨r.val + 1, by omega⟩ d)

theorem select_row {a b : EReal} (r k : ℕ) (hr : r < 512) (hk : k < 512) :
    Scalar.select (IntOp.cmpi CmpIPredicate.eq (BitVec.ofNat 32 r) (BitVec.ofNat 32 k)) a b = if r = k then a else b := by
  have e : (BitVec.ofNat 32 r = BitVec.ofNat 32 k) ↔ r = k := by
    rw [← BitVec.toNat_inj, BitVec.toNat_ofNat, BitVec.toNat_ofNat]
    omega
  unfold Scalar.select IntOp.cmpi
  by_cases h : r = k
  · simp [h]
  · simp only
    rw [beq_eq_false_iff_ne.2 (fun c => h (e.1 c)), if_neg h]
    simp

theorem flag_first : ∀ n : Fin 32, (Scalar.extui (Scalar.cmpi CmpIPredicate.sgt (BitVec.ofNat 32 n.val) 0#32) : BitVec 32).toInt
    = if n.val = 0 then 0 else 1 := by decide

theorem flag_last : ∀ n : Fin 32, (Scalar.extui (Scalar.cmpi CmpIPredicate.slt (BitVec.ofNat 32 n.val) 31#32) : BitVec 32).toInt
    = if n.val = 31 then 0 else 1 := by decide

theorem times_flag (a : EReal) (p : Prop) [Decidable p] :
    a * (((if p then (0 : ℤ) else 1 : ℤ) : ℝ) : EReal) = if p then 0 else a := by
  split_ifs <;> simp

theorem pay5_apply (i : grid0.Coords) (u : Ch) (up : Halo) (w : Taps) (r : Fin 512) (d : Fin 256) :
    k0_pay5 i u up w (ix2 r d) = prev (i 1).val u up r d * w (ix2 0 d) := by
  pointwise [k0_pay5, k0_pay2]
  refine congrArg (· * w (ix2 0 d)) ?_
  refine (select_row r.val 0 r.isLt (by omega)).trans ?_
  unfold prev
  by_cases h : r.val = 0
  · rw [if_pos h, if_pos h, flag_first (i 1)]
    exact times_flag _ _
  · rw [if_neg h, if_neg h]
    exact congrArg (fun k => u (ix3 0 k d)) (Fin.ext (by show (r.val + 512 - 1) % 512 = r.val - 1; omega))

theorem pay3_apply (i : grid0.Coords) (u : Ch) (un : Halo) (r : Fin 512) (d : Fin 256) :
    k0_pay3 i u un (ix2 r d) = next (i 1).val u un r d := by
  pointwise [k0_pay3, k0_pay2]
  refine (select_row r.val 511 r.isLt (by omega)).trans ?_
  unfold next
  by_cases h : r.val = 511
  · rw [if_pos h, dif_pos h, flag_last (i 1)]
    exact times_flag _ _
  · rw [if_neg h, dif_neg h]
    exact congrArg (fun k => u (ix3 0 k d)) (Fin.ext (by show (r.val + 512 - 511) % 512 = r.val + 1; omega))

/-! ## The payloads at an index -/

/-- A row of a head times a column of its weight. -/
def head (o : Head) (w : WHead) (r : Fin 512) (x : Fin 1024) : EReal :=
  Proj.dot (fun k : Fin 64 => (o (ix4 0 0 r k) : EReal)) (fun k => w (ix3 0 k x))

theorem pay7_apply (v1 v30 : Mid) (w : Taps) (v33 v36 : Mid) (v37 : FVec Ideal S1x256 .f32) (wc : WCh) (f : Ch) (wf : WCh)
    (o0 : Head) (w0 : WHead) (o1 : Head) (w1 : WHead) (r : Fin 512) (x : Fin 1024) :
    k0_pay7 v1 v30 w v33 v36 v37 wc f wf o0 w0 o1 w1 (ix2 r x)
      = Proj.dot (fun k : Fin 256 => (v33 (ix2 r k) : EReal)
            * (v36 (ix2 r k) + v1 (ix2 r k) * v37 (ix2 0 k) + v30 (ix2 r k) * w (ix2 2 k))) (fun k => wc (ix2 k x))
        + Proj.dot (fun k : Fin 256 => (f (ix3 0 r k) : EReal)) (fun k => wf (ix2 k x))
        + head o0 w0 r x + head o1 w1 r x := by
  pointwise [k0_pay7]
  rfl

theorem pay8_apply (v : Mix) (o0 : Head) (w0 : WHead) (o1 : Head) (w1 : WHead) (o2 : Head) (w2 : WHead) (o3 : Head)
    (w3 : WHead) (r : Fin 512) (x : Fin 1024) :
    k0_pay8 v o0 w0 o1 w1 o2 w2 o3 w3 (ix2 r x)
      = (v (ix2 r x) : EReal) + head o0 w0 r x + head o1 w1 r x + head o2 w2 r x + head o3 w3 r x := by
  pointwise [k0_pay8]
  rfl

theorem pay13_apply (v : Mix) (o0 : Head) (w0 : WHead) (o1 : Head) (w1 : WHead) (h : Tok) (g b : Row) (r : Fin 512)
    (x : Fin 1024) :
    k0_pay13 (k0_pay10 b) (k0_pay11 v (k0_pay9 o0) w0 o1 w1 h g) (ix3 0 r x)
      = Experts.norm cols small (fun y : Fin 1024 => alpha * (h (ix3 0 r y) : EReal)
            + ((v (ix2 r y) : EReal) + head o0 w0 r y + head o1 w1 r y))
          (fun y => g (ix2 0 y)) (fun y => b (ix2 0 y)) x := by
  pointwise [k0_pay13, k0_pay12, k0_pay10, k0_pay11, k0_pay9]
  rfl

/-! ## The loads of a head -/

theorem ldO (o : Att) (hd : ℕ) (h : hd < 8) (inb) (r : Fin 512) (k : Fin 64) :
    View.ld o (Rect.unit (s := S1x8x512x64) ![0, hd, 0, 0] S1x1x512x64.size inb) (ix4 0 0 r k : S1x1x512x64.Idx)
      = o (ix4 0 ⟨hd, h⟩ r k) :=
  congrArg o (funext fun a => Fin.ext (by
    match a with
    | ⟨0, _⟩ => rfl
    | ⟨1, _⟩ => rfl
    | ⟨2, _⟩ => show 0 + 1 * r.val = r.val; omega
    | ⟨3, _⟩ => show 0 + 1 * k.val = k.val; omega))

theorem ldW (w : WAtt) (hd : ℕ) (h : hd < 8) (inb) (k : Fin 64) (x : Fin 1024) :
    View.ld w (Rect.unit (s := S8x64x1024) ![hd, 0, 0] S1x64x1024.size inb) (ix3 0 k x : S1x64x1024.Idx)
      = w (ix3 ⟨hd, h⟩ k x) :=
  congrArg w (funext fun a => Fin.ext (by
    match a with
    | ⟨0, _⟩ => rfl
    | ⟨1, _⟩ => show 0 + 1 * k.val = k.val; omega
    | ⟨2, _⟩ => show 0 + 1 * x.val = x.val; omega))

/-- A row of head `hd` of the block times a column of the head's weight. -/
def headAt (o : Att) (w : WAtt) (r : Fin 512) (x : Fin 1024) (hd : Fin 8) : EReal :=
  Proj.dot (fun k : Fin 64 => (o (ix4 0 hd r k) : EReal)) (fun k => w (ix3 hd k x))

theorem head_eq (o : Att) (w : WAtt) (hd : ℕ) (h : hd < 8) (inb inb') (r : Fin 512) (x : Fin 1024) :
    head (View.ld o (Rect.unit (s := S1x8x512x64) ![0, hd, 0, 0] S1x1x512x64.size inb))
        (View.ld w (Rect.unit (s := S8x64x1024) ![hd, 0, 0] S1x64x1024.size inb')) r x
      = headAt o w r x ⟨hd, h⟩ :=
  congrArg₂ Proj.dot (funext fun k => ldO o hd h inb r k) (funext fun k => ldW w hd h inb' k x)

/-! ## The block of the result -/

/-- The convolved and gated channels of a row. -/
def conv (n : ℕ) (u : Ch) (up un : Halo) (bg : Ch) (w : Taps) (r : Fin 512) (d : Fin 256) : EReal :=
  (bg (ix3 0 r d) : EReal) * (prev n u up r d * w (ix2 0 d) + u (ix3 0 r d) * w (ix2 1 d) + next n u un r d * w (ix2 2 d))

/-- The three groups of a row times a column of the output weight. -/
def mix (n : ℕ) (o : Att) (u : Ch) (up un : Halo) (bg f : Ch) (wo : WAtt) (wc wf : WCh) (w : Taps) (r : Fin 512)
    (x : Fin 1024) : EReal :=
  (∑ hd : Fin 8, headAt o wo r x hd)
    + (Proj.dot (conv n u up un bg w r) (fun k => wc (ix2 k x))
      + Proj.dot (fun k : Fin 256 => (f (ix3 0 r k) : EReal)) (fun k => wf (ix2 k x)))

theorem reorder (a f h0 h1 h2 h3 h4 h5 h6 h7 : EReal) :
    a + f + h0 + h1 + h2 + h3 + h4 + h5 + h6 + h7 = h0 + h1 + h2 + h3 + h4 + h5 + h6 + h7 + (a + f) := by
  abel

theorem out15 (i : grid0.Coords) (x0 : Att) (x1 : Ch) (x2 x3 : Halo) (x4 x5 : Ch) (x6 : Tok) (x7 : WAtt) (x8 x9 : WCh)
    (x10 : Taps) (x11 x12 : Row) (x13 : Vec Ideal S1024x128 .f32) (x14 : Vec Ideal S1x128 .f32) (r : Fin 512)
    (x : Fin 1024) :
    out0_15 i x0 x1 x2 x3 x4 x5 x6 x7 x8 x9 x10 x11 x12 x13 x14 (ix3 0 r x)
      = Experts.norm cols small (fun y : Fin 1024 => alpha * (x6 (ix3 0 r y) : EReal)
            + mix (i 1).val x0 x1 x2 x3 x4 x5 x7 x8 x9 x10 r y)
          (fun y => x11 (ix2 0 y)) (fun y => x12 (ix2 0 y)) x := by
  unfold out0_15 k0_pay23 k0_pay24
  rw [View.canon_unit_zero hz3]
  simp only [View.ld_unit_zero (S := S1x512x256) hz3, View.ld_unit_zero (S := S1x8x256) hz3,
    View.ld_unit_zero (S := S3x256) hz2, View.ld_unit_zero (S := S256x1024) hz2,
    View.ld_unit_zero (S := S1x512x1024) hz3, View.ld_unit_zero (S := S1x1024) hz2]
  refine (pay13_apply _ _ _ _ _ _ _ _ r x).trans ?_
  refine congrArg (fun t : Fin 1024 → EReal => Experts.norm cols small t _ _ x) (funext fun y => ?_)
  refine congrArg (fun t : EReal => alpha * (x6 (ix3 0 r y) : EReal) + t) ?_
  rw [pay8_apply, pay7_apply]
  rw [head_eq x0 x7 0 (by omega), head_eq x0 x7 1 (by omega), head_eq x0 x7 2 (by omega), head_eq x0 x7 3 (by omega),
    head_eq x0 x7 4 (by omega), head_eq x0 x7 5 (by omega), head_eq x0 x7 6 (by omega), head_eq x0 x7 7 (by omega)]
  have hc : (fun k : Fin 256 => (k0_pay4 x4 (ix2 r k) : EReal)
      * (k0_pay5 i x1 x2 x10 (ix2 r k) + k0_pay2 x1 (ix2 r k) * k0_pay6 x10 (ix2 0 k)
        + k0_pay3 i x1 x3 (ix2 r k) * x10 (ix2 2 k))) = conv (i 1).val x1 x2 x3 x4 x10 r := by
    funext k
    rw [pay5_apply, pay3_apply]
    pointwise [k0_pay4, k0_pay2, k0_pay6]
    rfl
  rw [hc]
  unfold mix
  rw [Fin.sum_univ_eight]
  exact reorder _ _ _ _ _ _ _ _ _ _

end Cert.OutprojIdeal.Block
end
-- ==== Proof.OutprojTok.lean ====
module

public import proofs.«01_k».proof.Proof.OutprojBlock

@[expose] public section

/-!
# The out-projection of one token

The short convolution of a channel, the three groups of heads times the output weight, and the row of
the updated stream, over the extended reals, as functions of the arguments.
-/

noncomputable section

namespace Outproj

open Idealize.ShloMosaic
open Cert.OutprojIdeal.Block (alpha cols small)

/-- The arguments: the attention's heads, the gated input of the convolution, its other gate, the transformed Fourier
channels, the stream, the convolution's taps, the output weight, and the gain and bias of the norm. -/
structure Args where
  o : Fin 2 → Fin 8 → Fin 16384 → Fin 64 → EReal
  u : Fin 2 → Fin 16384 → Fin 256 → EReal
  bg : Fin 2 → Fin 16384 → Fin 256 → EReal
  f : Fin 2 → Fin 16384 → Fin 256 → EReal
  h : Fin 2 → Fin 16384 → Fin 1024 → EReal
  taps : Fin 3 → Fin 256 → EReal
  w : Fin 1024 → Fin 1024 → EReal
  g : Fin 1024 → EReal
  b : Fin 1024 → EReal

variable (A : Args) (b : Fin 2) (s : Fin 16384)

/-- The channel at the token before, zero before the first. -/
def prev (d : Fin 256) : EReal := if s.val = 0 then 0 else A.u b ⟨s.val - 1, by omega⟩ d

/-- The channel at the token after, zero after the last. -/
def next (d : Fin 256) : EReal := if h : s.val = 16383 then 0 else A.u b ⟨s.val + 1, by omega⟩ d

/-- The convolved and gated channel. -/
def conv (d : Fin 256) : EReal :=
  A.bg b s d * (prev A b s d * A.taps 0 d + A.u b s d * A.taps 1 d + next A b s d * A.taps 2 d)

/-- The three groups times a column of the output weight. -/
def mix (x : Fin 1024) : EReal :=
  (∑ hd : Fin 8, Proj.dot (A.o b hd s) (fun k : Fin 64 => A.w ⟨64 * hd.val + k.val, by omega⟩ x))
    + (Proj.dot (conv A b s) (fun k : Fin 256 => A.w ⟨512 + k.val, by omega⟩ x)
      + Proj.dot (A.f b s) (fun k : Fin 256 => A.w ⟨768 + k.val, by omega⟩ x))

/-- The row of the updated stream. -/
def row (x : Fin 1024) : EReal :=
  Experts.norm cols small (fun y : Fin 1024 => alpha * A.h b s y + mix A b s y) A.g A.b x

/-- A sum over 1024 columns: 8 heads of 64, then twice 256. -/
theorem sum_parts (F : Fin 1024 → EReal) :
    ∑ m, F m = (∑ hd : Fin 8, ∑ k : Fin 64, F ⟨64 * hd.val + k.val, by omega⟩)
      + ((∑ k : Fin 256, F ⟨512 + k.val, by omega⟩) + ∑ k : Fin 256, F ⟨768 + k.val, by omega⟩) := by
  have e : ∑ m : Fin 1024, F m = ∑ m : Fin (512 + (256 + 256)), F m := rfl
  rw [e, Fin.sum_univ_add, Fin.sum_univ_add]
  refine congrArg₂ (· + ·) ?_ (congrArg₂ (· + ·) ?_ ?_)
  · rw [← Fintype.sum_prod_type' (f := fun (hd : Fin 8) (k : Fin 64) => F ⟨64 * hd.val + k.val, by omega⟩)]
    refine (Fintype.sum_equiv (finProdFinEquiv (m := 8) (n := 64)) _ _ fun p => ?_).symm
    exact congrArg F (Fin.ext (by
      show 64 * p.1.val + p.2.val = p.2.val + 64 * p.1.val
      omega))
  · exact Finset.sum_congr rfl fun k _ => congrArg F (Fin.ext rfl)
  · exact Finset.sum_congr rfl fun k _ => congrArg F (Fin.ext (by
      show 512 + (256 + k.val) = 768 + k.val
      omega))

end Outproj
end
-- ==== Proof.OutprojArray.lean ====
module

public import proofs.«01_k».proof.Proof.OutprojTok
public import proofs.«01_k».proof.Proof.Gen.OutprojIdeal.Value

@[expose] public section

/-!
# What the out-projection kernel computes of a token

A grid point is a batch and a block of 512 tokens. The blocks that it reads are given in terms of the
arguments, the rows before and after the block among them; then the array of updated rows.
-/

set_option maxRecDepth 16384

noncomputable section

namespace Cert.OutprojIdeal.Array

open Cert.OutprojIdeal Cert.OutprojIdeal.Gen Idealize.ShloMosaic Idealize.ShloMosaic.TcCoe Idealize.SL.Sem
open Idealize.ShloMosaic.Pipeline (Dat)
open Cert.OutprojIdeal.Block (alpha cols small)

variable (m : (ℓ : Loc nD τ sig) → Buf (Elt Ideal) ℓ)

/-! ## The arguments -/

abbrev O (c : Dev nD) : FVec Ideal S2x8x16384x64 .bf16 := m ((c : Thread nD τ).loc main_arg0)
abbrev U (c : Dev nD) : FVec Ideal S2x16384x256 .f32 := m ((c : Thread nD τ).loc main_arg1)
abbrev BG (c : Dev nD) : FVec Ideal S2x16384x256 .f32 := m ((c : Thread nD τ).loc main_arg2)
abbrev F (c : Dev nD) : FVec Ideal S2x16384x256 .f32 := m ((c : Thread nD τ).loc main_arg3)
abbrev H (c : Dev nD) : FVec Ideal S2x16384x1024 .f32 := m ((c : Thread nD τ).loc main_arg4)
abbrev taps (c : Dev nD) : FVec Ideal S3x256 .f32 := m ((c : Thread nD τ).loc main_arg5)
abbrev W (c : Dev nD) : FVec Ideal S1024x1024 .f32 := m ((c : Thread nD τ).loc main_arg6)
abbrev gain (c : Dev nD) : FVec Ideal S1024 .f32 := m ((c : Thread nD τ).loc main_arg7)
abbrev bias (c : Dev nD) : FVec Ideal S1024 .f32 := m ((c : Thread nD τ).loc main_arg8)

/-- The arguments as functions of their indices. -/
def args (c : Dev nD) : Outproj.Args where
  o b hd s k := O m c (ix4 b hd s k)
  u b s d := U m c (ix3 b s d)
  bg b s d := BG m c (ix3 b s d)
  f b s d := F m c (ix3 b s d)
  h b s x := H m c (ix3 b s x)
  taps j d := taps m c (ix2 j d)
  w k x := W m c (ix2 k x)
  g x := gain m c (ix1 x)
  b x := bias m c (ix1 x)

/-! ## The prepared weights -/

/-- The output weight in bfloat16, and its rows for the heads, the convolution and the Fourier channels. -/
def wT (w : FVec Ideal S1024x1024 .f32) : FVec Ideal S1024x1024 .bf16 := truncf .bf16 w bitsLt_bf16_f32
def wHeads (w : FVec Ideal S1024x1024 .f32) : FVec Ideal S8x64x1024 .bf16 :=
  shapeCast S8x64x1024 (extractStridedSlice S512x1024 ![0, 0] (wT w) slices_S1024x1024_S512x1024_0_0)
    shapeCasts_S512x1024_S8x64x1024
def wConv (w : FVec Ideal S1024x1024 .f32) : FVec Ideal S256x1024 .bf16 :=
  extractStridedSlice S256x1024 ![512, 0] (wT w) slices_S1024x1024_S256x1024_512_0
def wFour (w : FVec Ideal S1024x1024 .f32) : FVec Ideal S256x1024 .bf16 :=
  extractStridedSlice S256x1024 ![768, 0] (wT w) slices_S1024x1024_S256x1024_768_0

theorem wHeads_apply (w : FVec Ideal S1024x1024 .f32) (hd : Fin 8) (k : Fin 64) (x : Fin 1024) :
    wHeads w (ix3 hd k x) = w (ix2 ⟨64 * hd.val + k.val, by omega⟩ x) := by
  pointwise [wHeads, wT]
  exact congrArg (fun p => w (ix2 p x)) (Fin.ext (by dsimp only; omega))

theorem wConv_apply (w : FVec Ideal S1024x1024 .f32) (k : Fin 256) (x : Fin 1024) :
    wConv w (ix2 k x) = w (ix2 ⟨512 + k.val, by omega⟩ x) := by
  pointwise [wConv, wT]

theorem wFour_apply (w : FVec Ideal S1024x1024 .f32) (k : Fin 256) (x : Fin 1024) :
    wFour w (ix2 k x) = w (ix2 ⟨768 + k.val, by omega⟩ x) := by
  pointwise [wFour, wT]

theorem row1024 (v : FVec Ideal S1024 .f32) (x : Fin 1024) :
    shapeCast S1x1024 v shapeCasts_S1024_S1x1024 (ix2 0 x) = v (ix1 x) := by
  pointwise

section Prepared

variable (c : Dev nD)

theorem V_heads : @Eq (FVec Ideal S8x64x1024 .bf16) (V m c main_v2) (wHeads (W m c)) := by
  unfold V; rfl
theorem V_conv : @Eq (FVec Ideal S256x1024 .bf16) (V m c main_v3) (wConv (W m c)) := by
  unfold V; rfl
theorem V_four : @Eq (FVec Ideal S256x1024 .bf16) (V m c main_v4) (wFour (W m c)) := by
  unfold V; rfl
theorem V_gain : @Eq (FVec Ideal S1x1024 .f32) (V m c main_v12) (shapeCast S1x1024 (gain m c) shapeCasts_S1024_S1x1024) := by
  unfold V; rfl
theorem V_bias : @Eq (FVec Ideal S1x1024 .f32) (V m c main_v13) (shapeCast S1x1024 (bias m c) shapeCasts_S1024_S1x1024) := by
  unfold V; rfl

end Prepared

/-! ## The blocks of the windows -/

theorem idx_in : ∀ t : Fin cfg0.N,
    win0_0.index t = ![t.val / 32, 0, t.val % 32, 0] ∧ win0_1.index t = ![t.val / 32, t.val % 32, 0]
    ∧ win0_2.index t = ![t.val / 32, t.val % 32 * 64 - 1, 0]
    ∧ win0_3.index t = ![t.val / 32, min ((t.val % 32 + 1) * 64) 2047, 0]
    ∧ win0_4.index t = ![t.val / 32, t.val % 32, 0] ∧ win0_5.index t = ![t.val / 32, t.val % 32, 0]
    ∧ win0_6.index t = ![t.val / 32, t.val % 32, 0] ∧ win0_7.index t = ![0, 0, 0] ∧ win0_8.index t = ![0, 0]
    ∧ win0_9.index t = ![0, 0] ∧ win0_10.index t = ![0, 0] ∧ win0_11.index t = ![0, 0] ∧ win0_12.index t = ![0, 0]
    ∧ win0_15.index t = ![t.val / 32, t.val % 32, 0] ∧ (grid0.coords t 1).val = t.val % 32 :=
  (by decide +kernel : ∀ t : Fin grid0.N, _)

theorem t_lt (t : Fin cfg0.N) : t.val < 64 := lt_of_lt_of_eq t.isLt N_0

/-- The batch of a grid point, and the token of a row of its block. -/
def ptB (t : Fin cfg0.N) : Fin 2 := ⟨t.val / 32, by have := t_lt t; omega⟩
def ptS (t : Fin cfg0.N) (r : Fin 512) : Fin 16384 := ⟨t.val % 32 * 512 + r.val, by have := r.isLt; omega⟩

section Windows

variable (c : Dev nD) (t : Fin cfg0.N)

theorem iblk0_apply (hd : Fin 8) (r : Fin 512) (k : Fin 64) :
    (iblk m c 0 t : Block.Att) (ix4 0 hd r k) = O m c (ix4 (ptB t) hd (ptS t r) k) := by
  have e := (idx_in t).1
  unfold iblk
  rw [View.read_apply]
  show (V m c main_arg0 : FVec Ideal S2x8x16384x64 .bf16) _ = _
  rw [V_main_arg0]
  show O m c _ = _
  congr 1
  funext a
  apply Fin.ext
  match a with
  | ⟨0, _⟩ => show win0_0.index t 0 * 1 + 1 * 0 = t.val / 32; rw [e]; simp
  | ⟨1, _⟩ => show win0_0.index t 1 * 8 + 1 * hd.val = hd.val; rw [e]; simp
  | ⟨2, _⟩ => show win0_0.index t 2 * 512 + 1 * r.val = t.val % 32 * 512 + r.val; rw [e]; simp
  | ⟨3, _⟩ => show win0_0.index t 3 * 64 + 1 * k.val = k.val; rw [e]; simp

theorem iblk1_apply (r : Fin 512) (d : Fin 256) :
    (iblk m c 1 t : Block.Ch) (ix3 0 r d) = U m c (ix3 (ptB t) (ptS t r) d) := by
  have e := (idx_in t).2.1
  unfold iblk
  rw [View.read_apply]
  show (V m c main_arg1 : FVec Ideal S2x16384x256 .f32) _ = _
  rw [V_main_arg1]
  show U m c _ = _
  congr 1
  funext a
  apply Fin.ext
  match a with
  | ⟨0, _⟩ => show win0_1.index t 0 * 1 + 1 * 0 = t.val / 32; rw [e]; simp
  | ⟨1, _⟩ => show win0_1.index t 1 * 512 + 1 * r.val = t.val % 32 * 512 + r.val; rw [e]; simp
  | ⟨2, _⟩ => show win0_1.index t 2 * 256 + 1 * d.val = d.val; rw [e]; simp

/-- The last of the eight rows before the block. -/
theorem iblk2_apply (hn : t.val % 32 ≠ 0) (d : Fin 256) :
    (iblk m c 2 t : Block.Halo) (ix3 0 7 d) = U m c (ix3 (ptB t) ⟨t.val % 32 * 512 - 1, by omega⟩ d) := by
  have e := (idx_in t).2.2.1
  unfold iblk
  rw [View.read_apply]
  show (V m c main_arg1 : FVec Ideal S2x16384x256 .f32) _ = _
  rw [V_main_arg1]
  show U m c _ = _
  congr 1
  funext a
  apply Fin.ext
  match a with
  | ⟨0, _⟩ => show win0_2.index t 0 * 1 + 1 * 0 = t.val / 32; rw [e]; simp
  | ⟨1, _⟩ => show win0_2.index t 1 * 8 + 1 * 7 = t.val % 32 * 512 - 1; rw [e]; simp; omega
  | ⟨2, _⟩ => show win0_2.index t 2 * 256 + 1 * d.val = d.val; rw [e]; simp

/-- The first of the eight rows after the block. -/
theorem iblk3_apply (hn : t.val % 32 ≠ 31) (d : Fin 256) :
    (iblk m c 3 t : Block.Halo) (ix3 0 0 d) = U m c (ix3 (ptB t) ⟨(t.val % 32 + 1) * 512, by omega⟩ d) := by
  have e := (idx_in t).2.2.2.1
  unfold iblk
  rw [View.read_apply]
  show (V m c main_arg1 : FVec Ideal S2x16384x256 .f32) _ = _
  rw [V_main_arg1]
  show U m c _ = _
  congr 1
  funext a
  apply Fin.ext
  match a with
  | ⟨0, _⟩ => show win0_3.index t 0 * 1 + 1 * 0 = t.val / 32; rw [e]; simp
  | ⟨1, _⟩ => show win0_3.index t 1 * 8 + 1 * 0 = (t.val % 32 + 1) * 512; rw [e]; simp; omega
  | ⟨2, _⟩ => show win0_3.index t 2 * 256 + 1 * d.val = d.val; rw [e]; simp

theorem iblk4_apply (r : Fin 512) (d : Fin 256) :
    (iblk m c 4 t : Block.Ch) (ix3 0 r d) = BG m c (ix3 (ptB t) (ptS t r) d) := by
  have e := (idx_in t).2.2.2.2.1
  unfold iblk
  rw [View.read_apply]
  show (V m c main_arg2 : FVec Ideal S2x16384x256 .f32) _ = _
  rw [V_main_arg2]
  show BG m c _ = _
  congr 1
  funext a
  apply Fin.ext
  match a with
  | ⟨0, _⟩ => show win0_4.index t 0 * 1 + 1 * 0 = t.val / 32; rw [e]; simp
  | ⟨1, _⟩ => show win0_4.index t 1 * 512 + 1 * r.val = t.val % 32 * 512 + r.val; rw [e]; simp
  | ⟨2, _⟩ => show win0_4.index t 2 * 256 + 1 * d.val = d.val; rw [e]; simp

theorem iblk5_apply (r : Fin 512) (d : Fin 256) :
    (iblk m c 5 t : Block.Ch) (ix3 0 r d) = F m c (ix3 (ptB t) (ptS t r) d) := by
  have e := (idx_in t).2.2.2.2.2.1
  unfold iblk
  rw [View.read_apply]
  show (V m c main_arg3 : FVec Ideal S2x16384x256 .f32) _ = _
  rw [V_main_arg3]
  show F m c _ = _
  congr 1
  funext a
  apply Fin.ext
  match a with
  | ⟨0, _⟩ => show win0_5.index t 0 * 1 + 1 * 0 = t.val / 32; rw [e]; simp
  | ⟨1, _⟩ => show win0_5.index t 1 * 512 + 1 * r.val = t.val % 32 * 512 + r.val; rw [e]; simp
  | ⟨2, _⟩ => show win0_5.index t 2 * 256 + 1 * d.val = d.val; rw [e]; simp

theorem iblk6_apply (r : Fin 512) (x : Fin 1024) :
    (iblk m c 6 t : Block.Tok) (ix3 0 r x) = H m c (ix3 (ptB t) (ptS t r) x) := by
  have e := (idx_in t).2.2.2.2.2.2.1
  unfold iblk
  rw [View.read_apply]
  show (V m c main_arg4 : FVec Ideal S2x16384x1024 .f32) _ = _
  rw [V_main_arg4]
  show H m c _ = _
  congr 1
  funext a
  apply Fin.ext
  match a with
  | ⟨0, _⟩ => show win0_6.index t 0 * 1 + 1 * 0 = t.val / 32; rw [e]; simp
  | ⟨1, _⟩ => show win0_6.index t 1 * 512 + 1 * r.val = t.val % 32 * 512 + r.val; rw [e]; simp
  | ⟨2, _⟩ => show win0_6.index t 2 * 1024 + 1 * x.val = x.val; rw [e]; simp

theorem iblk7_apply (hd : Fin 8) (k : Fin 64) (x : Fin 1024) :
    (iblk m c 7 t : Block.WAtt) (ix3 hd k x) = wHeads (W m c) (ix3 hd k x) := by
  have e := (idx_in t).2.2.2.2.2.2.2.1
  unfold iblk
  rw [View.read_apply]
  show (V m c main_v2 : FVec Ideal S8x64x1024 .bf16) _ = _
  rw [V_heads]
  show wHeads (W m c) _ = _
  congr 1
  funext a
  apply Fin.ext
  match a with
  | ⟨0, _⟩ => show win0_7.index t 0 * 8 + 1 * hd.val = hd.val; rw [e]; simp
  | ⟨1, _⟩ => show win0_7.index t 1 * 64 + 1 * k.val = k.val; rw [e]; simp
  | ⟨2, _⟩ => show win0_7.index t 2 * 1024 + 1 * x.val = x.val; rw [e]; simp

theorem iblk8_apply (k : Fin 256) (x : Fin 1024) :
    (iblk m c 8 t : Block.WCh) (ix2 k x) = wConv (W m c) (ix2 k x) := by
  have e := (idx_in t).2.2.2.2.2.2.2.2.1
  unfold iblk
  rw [View.read_apply]
  show (V m c main_v3 : FVec Ideal S256x1024 .bf16) _ = _
  rw [V_conv]
  show wConv (W m c) _ = _
  congr 1
  funext a
  apply Fin.ext
  match a with
  | ⟨0, _⟩ => show win0_8.index t 0 * 256 + 1 * k.val = k.val; rw [e]; simp
  | ⟨1, _⟩ => show win0_8.index t 1 * 1024 + 1 * x.val = x.val; rw [e]; simp

theorem iblk9_apply (k : Fin 256) (x : Fin 1024) :
    (iblk m c 9 t : Block.WCh) (ix2 k x) = wFour (W m c) (ix2 k x) := by
  have e := (idx_in t).2.2.2.2.2.2.2.2.2.1
  unfold iblk
  rw [View.read_apply]
  show (V m c main_v4 : FVec Ideal S256x1024 .bf16) _ = _
  rw [V_four]
  show wFour (W m c) _ = _
  congr 1
  funext a
  apply Fin.ext
  match a with
  | ⟨0, _⟩ => show win0_9.index t 0 * 256 + 1 * k.val = k.val; rw [e]; simp
  | ⟨1, _⟩ => show win0_9.index t 1 * 1024 + 1 * x.val = x.val; rw [e]; simp

theorem iblk10_apply (j : Fin 3) (d : Fin 256) :
    (iblk m c 10 t : Block.Taps) (ix2 j d) = taps m c (ix2 j d) := by
  have e := (idx_in t).2.2.2.2.2.2.2.2.2.2.1
  unfold iblk
  rw [View.read_apply]
  show (V m c main_arg5 : FVec Ideal S3x256 .f32) _ = _
  rw [V_main_arg5]
  show taps m c _ = _
  congr 1
  funext a
  apply Fin.ext
  match a with
  | ⟨0, _⟩ => show win0_10.index t 0 * 3 + 1 * j.val = j.val; rw [e]; simp
  | ⟨1, _⟩ => show win0_10.index t 1 * 256 + 1 * d.val = d.val; rw [e]; simp

theorem iblk11_apply (x : Fin 1024) : (iblk m c 11 t : Block.Row) (ix2 0 x) = gain m c (ix1 x) := by
  have e := (idx_in t).2.2.2.2.2.2.2.2.2.2.2.1
  rw [← row1024 (gain m c) x]
  unfold iblk
  rw [View.read_apply]
  show (V m c main_v12 : FVec Ideal S1x1024 .f32) _ = _
  rw [V_gain]
  congr 1
  funext a
  apply Fin.ext
  match a with
  | ⟨0, _⟩ => show win0_11.index t 0 * 1 + 1 * 0 = 0; rw [e]; simp
  | ⟨1, _⟩ => show win0_11.index t 1 * 1024 + 1 * x.val = x.val; rw [e]; simp

theorem iblk12_apply (x : Fin 1024) : (iblk m c 12 t : Block.Row) (ix2 0 x) = bias m c (ix1 x) := by
  have e := (idx_in t).2.2.2.2.2.2.2.2.2.2.2.2.1
  rw [← row1024 (bias m c) x]
  unfold iblk
  rw [View.read_apply]
  show (V m c main_v13 : FVec Ideal S1x1024 .f32) _ = _
  rw [V_bias]
  congr 1
  funext a
  apply Fin.ext
  match a with
  | ⟨0, _⟩ => show win0_12.index t 0 * 1 + 1 * 0 = 0; rw [e]; simp
  | ⟨1, _⟩ => show win0_12.index t 1 * 1024 + 1 * x.val = x.val; rw [e]; simp

end Windows

/-! ## What a block holds -/

section Token

variable (c : Dev nD) (t : Fin cfg0.N) (r : Fin 512)

theorem prev_block (d : Fin 256) :
    Block.prev (t.val % 32) (iblk m c 1 t) (iblk m c 2 t) r d = Outproj.prev (args m c) (ptB t) (ptS t r) d := by
  have hr := r.isLt
  unfold Block.prev Outproj.prev
  by_cases h : r.val = 0
  · rw [if_pos h]
    by_cases hn : t.val % 32 = 0
    · rw [if_pos hn, if_pos (by show t.val % 32 * 512 + r.val = 0; omega)]
    · rw [if_neg hn, if_neg (by show ¬ t.val % 32 * 512 + r.val = 0; omega), iblk2_apply m c t hn d]
      exact congrArg (fun s => U m c (ix3 (ptB t) s d))
        (Fin.ext (by show t.val % 32 * 512 - 1 = t.val % 32 * 512 + r.val - 1; omega))
  · rw [if_neg h, if_neg (by show ¬ t.val % 32 * 512 + r.val = 0; omega), iblk1_apply]
    exact congrArg (fun s => U m c (ix3 (ptB t) s d))
      (Fin.ext (by show t.val % 32 * 512 + (r.val - 1) = t.val % 32 * 512 + r.val - 1; omega))

theorem next_block (d : Fin 256) :
    Block.next (t.val % 32) (iblk m c 1 t) (iblk m c 3 t) r d = Outproj.next (args m c) (ptB t) (ptS t r) d := by
  have hr := r.isLt
  unfold Block.next Outproj.next
  by_cases h : r.val = 511
  · rw [dif_pos h]
    by_cases hn : t.val % 32 = 31
    · rw [if_pos hn, dif_pos (by show t.val % 32 * 512 + r.val = 16383; omega)]
    · rw [if_neg hn, dif_neg (by show ¬ t.val % 32 * 512 + r.val = 16383; omega), iblk3_apply m c t hn d]
      exact congrArg (fun s => U m c (ix3 (ptB t) s d))
        (Fin.ext (by show (t.val % 32 + 1) * 512 = t.val % 32 * 512 + r.val + 1; omega))
  · rw [dif_neg h, dif_neg (by show ¬ t.val % 32 * 512 + r.val = 16383; omega), iblk1_apply]
    exact congrArg (fun s => U m c (ix3 (ptB t) s d))
      (Fin.ext (by show t.val % 32 * 512 + (r.val + 1) = t.val % 32 * 512 + r.val + 1; omega))

theorem conv_block (d : Fin 256) :
    Block.conv (t.val % 32) (iblk m c 1 t) (iblk m c 2 t) (iblk m c 3 t) (iblk m c 4 t) (iblk m c 10 t) r d
      = Outproj.conv (args m c) (ptB t) (ptS t r) d := by
  unfold Block.conv Outproj.conv
  rw [prev_block, next_block, iblk1_apply, iblk4_apply, iblk10_apply, iblk10_apply, iblk10_apply]
  rfl

theorem head_block (x : Fin 1024) (hd : Fin 8) :
    Block.headAt (iblk m c 0 t) (iblk m c 7 t) r x hd
      = Proj.dot ((args m c).o (ptB t) hd (ptS t r)) (fun k : Fin 64 => (args m c).w ⟨64 * hd.val + k.val, by omega⟩ x) := by
  unfold Block.headAt
  simp only [iblk0_apply, iblk7_apply, wHeads_apply]
  rfl

theorem mix_block (x : Fin 1024) :
    Block.mix (t.val % 32) (iblk m c 0 t) (iblk m c 1 t) (iblk m c 2 t) (iblk m c 3 t) (iblk m c 4 t) (iblk m c 5 t)
        (iblk m c 7 t) (iblk m c 8 t) (iblk m c 9 t) (iblk m c 10 t) r x
      = Outproj.mix (args m c) (ptB t) (ptS t r) x := by
  unfold Block.mix Outproj.mix
  have hc : Block.conv (t.val % 32) (iblk m c 1 t) (iblk m c 2 t) (iblk m c 3 t) (iblk m c 4 t) (iblk m c 10 t) r
      = Outproj.conv (args m c) (ptB t) (ptS t r) := funext fun d => conv_block m c t r d
  rw [hc]
  simp only [head_block, iblk5_apply, iblk8_apply, iblk9_apply, wConv_apply, wFour_apply]
  rfl

theorem row_block (x : Fin 1024) :
    out0_15 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (ix3 0 r x)
      = Outproj.row (args m c) (ptB t) (ptS t r) x := by
  refine (Block.out15 _ _ _ _ _ _ _ _ _ _ _ _ _ _ _ _ r x).trans ?_
  rw [(idx_in t).2.2.2.2.2.2.2.2.2.2.2.2.2.2]
  unfold Outproj.row
  simp only [mix_block, iblk6_apply, iblk11_apply, iblk12_apply]
  rfl

end Token

/-! ## The array -/

variable (c : Dev nD) (t : Fin cfg0.N)

def G15 : FVec Ideal S2x16384x1024 .f32 := fun i => Outproj.row (args m c) (i 0) (i 1) (i 2)

/-- The grid point whose block holds a token. -/
theorem point (b s : ℕ) (hb : b < 2) (hs : s < 16384) : ∃ t : Fin cfg0.N, t.val / 32 = b ∧ t.val % 32 = s / 512 :=
  ⟨⟨b * 32 + s / 512, lt_of_lt_of_eq (by omega) N_0.symm⟩, by show (b * 32 + s / 512) / 32 = b; omega,
    by show (b * 32 + s / 512) % 32 = s / 512; omega⟩

theorem row_out (y : S1x512x1024.Idx) :
    out0_15 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) y
      = Outproj.row (args m c) (ptB t) (ptS t (y 1)) (y 2) := by
  idx_vars y
  obtain rfl : y0 = 0 := Subsingleton.elim _ _
  exact row_block m c t y1 y2

theorem flushed15 : (dats m 0 c).flushed 15 t = ((cfg0.win 15).blk t).view.read (Elt Ideal) (G15 m c) := by
  have e := (idx_in t).2.2.2.2.2.2.2.2.2.2.2.2.2.1
  rw [Value.flushed15]
  funext y
  refine (row_out m c t ((cfg0.win 15).xinj (grid0.coords t) y)).trans ?_
  have hb : ((cfg0.win 15).blk t).view.emb y = ix3 (ptB t) (ptS t ((cfg0.win 15).xinj (grid0.coords t) y 1))
      ((cfg0.win 15).xinj (grid0.coords t) y 2) := by
    have h0 : (y 0).val < 1 := (y 0).isLt
    funext a
    apply Fin.ext
    match a with
    | ⟨0, _⟩ => show win0_15.index t 0 * 1 + 1 * (y 0).val = t.val / 32; rw [e]; simp; omega
    | ⟨1, _⟩ => show win0_15.index t 1 * 512 + 1 * (y 1).val = t.val % 32 * 512 + (y 1).val; rw [e]; simp
    | ⟨2, _⟩ => show win0_15.index t 2 * 1024 + 1 * (y 2).val = (y 2).val; rw [e]; simp
  rw [View.read_apply]
  show G15 m c (ix3 (ptB t) (ptS t ((cfg0.win 15).xinj (grid0.coords t) y 1))
      ((cfg0.win 15).xinj (grid0.coords t) y 2)) = _
  generalize G15 m c = g
  exact (congrArg g hb).symm

theorem cover15 (i : S2x16384x1024.Idx) :
    ∃ t : Fin cfg0.N, (cfg0.win 15).flush t = true ∧ i ∈ ((cfg0.win 15).blk t).view.set := by
  have h0 : (i 0).val < 2 := (i 0).isLt
  have h1 : (i 1).val < 16384 := (i 1).isLt
  have h2 : (i 2).val < 1024 := (i 2).isLt
  obtain ⟨t, ht, ht'⟩ := point (i 0).val (i 1).val h0 h1
  have e := (idx_in t).2.2.2.2.2.2.2.2.2.2.2.2.2.1
  have e0 : win0_15.index t 0 = t.val / 32 := by rw [e]; rfl
  have e1 : win0_15.index t 1 = t.val % 32 := by rw [e]; rfl
  have e2 : win0_15.index t 2 = 0 := by rw [e]; rfl
  refine ⟨t, flush0_15 t, ?_⟩
  show i ∈ ((View.whole main_v14_0).slice (win0_15.rect t)).set
  rw [View.set_slice_whole, Rect.mem_set_unit]
  intro a
  match a with
  | ⟨0, _⟩ => show win0_15.index t 0 * 1 ≤ (i 0).val ∧ (i 0).val < win0_15.index t 0 * 1 + 1; omega
  | ⟨1, _⟩ => show win0_15.index t 1 * 512 ≤ (i 1).val ∧ (i 1).val < win0_15.index t 1 * 512 + 512; omega
  | ⟨2, _⟩ => show win0_15.index t 2 * 1024 ≤ (i 2).val ∧ (i 2).val < win0_15.index t 2 * 1024 + 1024; omega

theorem final15 : (dats m 0 c).arrAt 15 cfg0.N = G15 m c :=
  (dats m 0 c).arrAt_eq_of_cover 15 (G15 m c) (fun t hf => flushed15 m c t) cover15

end Cert.OutprojIdeal.Array
end
-- ==== Proof.OnlineSoftmax.lean ====
module

public import Idealize.ShloMosaic.Lib.Pointwise

@[expose] public section

/-!
# The softmax that is accumulated block by block

Pure facts about the extended reals, without a program in sight. The scores are real numbers, what
is averaged may be any extended real. `carry_closed` says what the running maximum, the running sum
and the running weighted sum hold after some blocks; `ratio_eq` says that their quotient is the
softmax average written plainly, whatever real numbers the two sides subtract before they take
exponentials, and whether they are taken to base two or to base e.
-/

noncomputable section

namespace Cert.OnlineSoftmax

open Idealize.ShloMosaic

/-- A nonnegative real factor goes into a finite sum of arbitrary extended reals. -/
theorem mul_sum_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi,
      EReal.left_distrib_of_nonneg_of_ne_top (by exact_mod_cast hc) (EReal.coe_ne_top c), ih]

/-- A finite sum of reals, read as an extended real. -/
theorem coe_sum_real {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of finitely many reals, begun from −∞: −∞ for none, else a real. -/
theorem fold_max_real {ι : Type} (s : Finset ι) (f : ι → ℝ) :
    (s = ∅ ∧ s.fold max (⊥ : EReal) (fun i => (f i : EReal)) = ⊥) ∨
      ∃ r : ℝ, s.fold max (⊥ : EReal) (fun i => (f i : EReal)) = r := by
  classical
  induction s using Finset.induction_on with
  | empty => left; simp
  | insert i s hi ih =>
    right
    rw [Finset.fold_insert hi]
    rcases ih with ⟨_, h⟩ | ⟨r, h⟩
    · exact ⟨f i, by rw [h]; simp⟩
    · exact ⟨max (f i) r, by rw [h]; exact (EReal.coe_strictMono.monotone.map_max).symm⟩

/-- Over an index type that is not empty, that maximum is a real. -/
theorem fold_max_univ_real {ι : Type} [Fintype ι] [Nonempty ι] (f : ι → ℝ) :
    ∃ r : ℝ, Finset.univ.fold max (⊥ : EReal) (fun i => (f i : EReal)) = r := by
  rcases fold_max_real Finset.univ f with ⟨h, _⟩ | h
  · exact absurd h Finset.univ_nonempty.ne_empty
  · exact h

/-- The weight of a score `x` when `M` is subtracted from it. -/
def w (x M : ℝ) : ℝ := Real.rpow 2 (x - M)

theorem w_pos (x M : ℝ) : 0 < w x M := Real.rpow_pos_of_pos (by norm_num) _

theorem exp2_sub (x M : ℝ) : Ideal.exp2 ((x : EReal) - (M : EReal)) = (w x M : EReal) := by
  rw [← EReal.coe_sub, Ideal.exp2_coe, w]

/-- Changing what is subtracted from `M` to `M'` multiplies every weight by the same factor. -/
theorem w_shift (x M M' : ℝ) : w M M' * w x M = w x M' := by
  show (2 : ℝ) ^ (M - M') * (2 : ℝ) ^ (x - M) = (2 : ℝ) ^ (x - M')
  rw [← Real.rpow_add (by norm_num)]
  congr 1
  ring

/-- After `n ≥ 1` blocks of `B` scores, with a maximum, a sum and a weighted sum carried from one
block to the next and rescaled when the maximum moves: the maximum is some real `M`, and the sums
are those over all the scores so far, with `M` subtracted. -/
theorem carry_closed (B N : ℕ) [NeZero B] (S : ℕ → ℝ) (V : ℕ → EReal) (m l a : ℕ → EReal)
    (hm0 : m 0 = ⊥) (hl0 : l 0 = 0) (ha0 : a 0 = 0)
    (hm : ∀ n < N, m (n + 1)
      = max (m n) (Finset.univ.fold max (⊥ : EReal) fun x : Fin B => (S (n * B + x) : EReal)))
    (hl : ∀ n < N, l (n + 1) = Ideal.exp2 (m n - m (n + 1)) * l n
      + ∑ x : Fin B, Ideal.exp2 ((S (n * B + x) : EReal) - m (n + 1)))
    (ha : ∀ n < N, a (n + 1) = Ideal.exp2 (m n - m (n + 1)) * a n
      + ∑ x : Fin B, Ideal.exp2 ((S (n * B + x) : EReal) - m (n + 1)) * V (n * B + x)) :
    ∀ n, n < N → ∃ M : ℝ, m (n + 1) = M
      ∧ l (n + 1) = ∑ i ∈ Finset.range ((n + 1) * B), (w (S i) M : EReal)
      ∧ a (n + 1) = ∑ i ∈ Finset.range ((n + 1) * B), (w (S i) M : EReal) * V i := by
  intro n
  induction n with
  | zero =>
    intro h0
    obtain ⟨r, hr⟩ := fold_max_univ_real fun x : Fin B => S (0 * B + x)
    have hM : m (0 + 1) = (r : EReal) := by rw [hm 0 h0, hr, hm0]; simp
    refine ⟨r, hM, ?_, ?_⟩
    · rw [hl 0 h0, hl0, mul_zero, zero_add, hM, zero_add, one_mul, Finset.sum_range]
      refine Finset.sum_congr rfl fun x _ => ?_
      rw [exp2_sub, zero_mul, zero_add]
    · rw [ha 0 h0, ha0, mul_zero, zero_add, hM, zero_add, one_mul, Finset.sum_range]
      refine Finset.sum_congr rfl fun x _ => ?_
      rw [exp2_sub, zero_mul, zero_add]
  | succ n ih =>
    intro hn
    obtain ⟨M, hM, hL, hA⟩ := ih (by omega)
    obtain ⟨r, hr⟩ := fold_max_univ_real fun x : Fin B => S ((n + 1) * B + x)
    have hM' : m (n + 1 + 1) = ((max M r : ℝ) : EReal) := by
      rw [hm _ hn, hr, hM]; exact (EReal.coe_strictMono.monotone.map_max).symm
    refine ⟨max M r, hM', ?_, ?_⟩
    · rw [hl _ hn, hM, hM', hL, exp2_sub, mul_sum_real _ _ (w_pos _ _).le, Nat.add_mul (n + 1) 1 B,
        one_mul, Finset.sum_range_add]
      congr 1
      · refine Finset.sum_congr rfl fun i _ => ?_
        rw [← EReal.coe_mul, w_shift]
      · rw [Finset.sum_range]
        exact Finset.sum_congr rfl fun x _ => exp2_sub _ _
    · rw [ha _ hn, hM, hM', hA, exp2_sub, mul_sum_real _ _ (w_pos _ _).le, Nat.add_mul (n + 1) 1 B,
        one_mul, Finset.sum_range_add]
      congr 1
      · refine Finset.sum_congr rfl fun i _ => ?_
        rw [← mul_assoc, ← EReal.coe_mul, w_shift]
      · rw [Finset.sum_range]
        exact Finset.sum_congr rfl fun x _ => by rw [exp2_sub]

theorem block_lt {B N n : ℕ} (hn : N * B = n) {k : ℕ} (hk : k < N) (x : Fin B) : k * B + x < n := by
  have h1 : (k + 1) * B ≤ N * B := Nat.mul_le_mul_right _ hk
  have h2 := x.isLt
  rw [Nat.add_mul, one_mul] at h1
  omega

/-- The same after all `N` blocks, the scores and the values given for the `n = N · B` positions. -/
theorem carry_total (B N n : ℕ) [NeZero B] (hN : 0 < N) (hn : N * B = n) (S : Fin n → ℝ)
    (V : Fin n → EReal) (m l a : ℕ → EReal)
    (hm0 : m 0 = ⊥) (hl0 : l 0 = 0) (ha0 : a 0 = 0)
    (hm : ∀ k (h : k < N), m (k + 1) = max (m k)
      (Finset.univ.fold max (⊥ : EReal) fun x : Fin B => (S ⟨k * B + x, block_lt hn h x⟩ : EReal)))
    (hl : ∀ k (h : k < N), l (k + 1) = Ideal.exp2 (m k - m (k + 1)) * l k
      + ∑ x : Fin B, Ideal.exp2 ((S ⟨k * B + x, block_lt hn h x⟩ : EReal) - m (k + 1)))
    (ha : ∀ k (h : k < N), a (k + 1) = Ideal.exp2 (m k - m (k + 1)) * a k
      + ∑ x : Fin B, Ideal.exp2 ((S ⟨k * B + x, block_lt hn h x⟩ : EReal) - m (k + 1))
          * V ⟨k * B + x, block_lt hn h x⟩) :
    ∃ M : ℝ, l N = ∑ i : Fin n, (w (S i) M : EReal)
      ∧ a N = ∑ i : Fin n, (w (S i) M : EReal) * V i := by
  obtain ⟨S', hS'⟩ : ∃ S' : ℕ → ℝ, ∀ m (h : m < n), S' m = S ⟨m, h⟩ :=
    ⟨fun i => if h : i < n then S ⟨i, h⟩ else 0, fun m h => dif_pos h⟩
  obtain ⟨V', hV'⟩ : ∃ V' : ℕ → EReal, ∀ m (h : m < n), V' m = V ⟨m, h⟩ :=
    ⟨fun i => if h : i < n then V ⟨i, h⟩ else 0, fun m h => dif_pos h⟩
  obtain ⟨N, rfl⟩ : ∃ N', N = N' + 1 := ⟨N - 1, by omega⟩
  obtain ⟨M, _, hL, hA⟩ := carry_closed B (N + 1) S' V' m l a hm0 hl0 ha0
    (fun k h => by simp only [hm k h, hS' _ (block_lt hn h _)])
    (fun k h => by rw [hl k h]; simp only [hS' _ (block_lt hn h _)])
    (fun k h => by rw [ha k h]; simp only [hS' _ (block_lt hn h _), hV' _ (block_lt hn h _)])
    N (Nat.lt_succ_self N)
  refine ⟨M, ?_, ?_⟩
  · rw [hL, hn, Finset.sum_range]
    exact Finset.sum_congr rfl fun i _ => by rw [hS' _ i.isLt]
  · rw [hA, hn, Finset.sum_range]
    exact Finset.sum_congr rfl fun i _ => by rw [hS' _ i.isLt, hV' _ i.isLt]

/-- The quotient of the two carried sums is the plain softmax average of `V`. On the left the scores
are divided by `log 2` and the exponentials taken to base two, with `M` subtracted; on the right the
scores are as they are and the exponentials to base e, with `M'` subtracted. -/
theorem ratio_eq (n : ℕ) [NeZero n] (s : Fin n → ℝ) (V : Fin n → EReal) (S : Fin n → ℝ)
    (hS : ∀ i, S i = s i / Real.log 2) (M M' : ℝ) :
    Ideal.div (∑ i, (w (S i) M : EReal) * V i) (∑ i, (w (S i) M : EReal))
      = ∑ i, Ideal.div (Ideal.exp ((s i : EReal) - (M' : EReal)))
          (∑ k, Ideal.exp ((s k : EReal) - (M' : EReal))) * V i := by
  have hlog : Real.log 2 ≠ 0 := (Real.log_pos (by norm_num)).ne'
  have hexp : ∀ i, Ideal.exp ((s i : EReal) - (M' : EReal)) = ((Real.exp (s i - M') : ℝ) : EReal) :=
    fun i => by rw [← EReal.coe_sub, Ideal.exp_coe]
  -- the factor between the weights of the two sides
  let c : ℝ := Real.exp (M' - M * Real.log 2)
  have hc : 0 < c := Real.exp_pos _
  have hw : ∀ i, w (S i) M = c * Real.exp (s i - M') := fun i => by
    show (2 : ℝ) ^ (S i - M) = _
    rw [Real.rpow_def_of_pos (by norm_num), ← Real.exp_add, hS]
    congr 1
    field_simp
    ring
  let E : ℝ := ∑ i, Real.exp (s i - M')
  have hE : 0 < E := Finset.sum_pos (fun i _ => Real.exp_pos _) Finset.univ_nonempty
  have hden : (∑ i, (w (S i) M : EReal)) = ((c * E : ℝ) : EReal) := by
    rw [← coe_sum_real]
    congr 1
    rw [Finset.mul_sum]
    exact Finset.sum_congr rfl fun i _ => hw i
  have hden' : (∑ k, Ideal.exp ((s k : EReal) - (M' : EReal))) = (E : EReal) := by
    simp only [hexp]
    exact (coe_sum_real _ _).symm
  have hnum : (∑ i, (w (S i) M : EReal) * V i)
      = (c : EReal) * ∑ i, ((Real.exp (s i - M') : ℝ) : EReal) * V i := by
    rw [mul_sum_real _ _ hc.le]
    refine Finset.sum_congr rfl fun i _ => ?_
    rw [hw, EReal.coe_mul, mul_assoc]
  rw [hden, hden', Ideal.div_coe (mul_pos hc hE).ne', hnum, mul_comm, ← mul_assoc, ← EReal.coe_mul]
  have hcE : 1 / (c * E) * c = 1 / E := by field_simp
  rw [hcE, mul_sum_real _ _ (by positivity)]
  refine Finset.sum_congr rfl fun i _ => ?_
  rw [hexp, Ideal.div_coe hE.ne', ← mul_assoc, mul_comm ((1 / E : ℝ) : EReal)]

/-- The softmax average, written plainly: the largest score is subtracted, the exponentials are
divided by their sum, and the quotients weigh `V`. -/
def avg {n : ℕ} (s : Fin n → EReal) (V : Fin n → EReal) : EReal :=
  ∑ i, Ideal.div (Ideal.exp (s i - max ⊥ (Finset.univ.fold max ⊥ s)))
    (∑ k, Ideal.exp (s k - max ⊥ (Finset.univ.fold max ⊥ s))) * V i

/-- With real scores, the quotient of the two carried sums is the plain average. -/
theorem ratio_eq_avg (n : ℕ) [NeZero n] (s : Fin n → ℝ) (V : Fin n → EReal) (M : ℝ) :
    Ideal.div (∑ i, (w (s i / Real.log 2) M : EReal) * V i) (∑ i, (w (s i / Real.log 2) M : EReal))
      = avg (fun i => (s i : EReal)) V := by
  obtain ⟨r, hr⟩ := fold_max_univ_real s
  rw [ratio_eq n s V (fun i => s i / Real.log 2) (fun _ => rfl) M r, avg, hr]
  simp

/-! ## The two scores -/

/-- A score as the reference takes it: the two parts of the query and of the key multiplied apart. -/
def score (c : EReal) (q k : Fin 96 → EReal) : EReal :=
  (∑ x : Fin 64, q ⟨x, by omega⟩ * c * k ⟨x, by omega⟩)
    + ∑ x : Fin 32, q ⟨64 + x, by omega⟩ * c * k ⟨64 + x, by omega⟩

/-- With finite queries and keys the reference's score is a real `s`, and the score of a query that was
also divided by `log 2` is `s / log 2`. -/
theorem score_real (c : ℝ) (q k : Fin 96 → EReal) (hq : ∀ x, ∃ r : ℝ, q x = r)
    (hk : ∀ x, ∃ r : ℝ, k x = r) :
    ∃ s : ℝ, score c q k = s
      ∧ ∑ x : Fin 96, Ideal.div (q x * c) (Real.log 2 : ℝ) * k x = ((s / Real.log 2 : ℝ) : EReal) := by
  choose q' hq using hq
  choose k' hk using hk
  have hlog : Real.log 2 ≠ 0 := (Real.log_pos (by norm_num)).ne'
  refine ⟨∑ x : Fin 96, q' x * c * k' x, ?_, ?_⟩
  · have e : ∑ x : Fin 96, q' x * c * k' x
        = (∑ x : Fin 64, q' ⟨x, by omega⟩ * c * k' ⟨x, by omega⟩)
          + ∑ x : Fin 32, q' ⟨64 + x, by omega⟩ * c * k' ⟨64 + x, by omega⟩ :=
      Fin.sum_univ_add (a := 64) (b := 32) fun x : Fin 96 => q' x * c * k' x
    rw [e, score, EReal.coe_add, coe_sum_real, coe_sum_real]
    simp only [hq, hk, EReal.coe_mul]
  · rw [Finset.sum_div, coe_sum_real]
    refine Finset.sum_congr rfl fun x _ => ?_
    rw [hq, hk, Ideal.div_coe hlog, ← EReal.coe_mul, ← EReal.coe_mul, ← EReal.coe_mul]
    congr 1
    field_simp

end Cert.OnlineSoftmax
end
-- ==== Proof.Route.lean ====
module

public import proofs.«01_k».proof.Proof.OnlineSoftmax
public import Idealize.ShloMosaic.Lib.SortPrefix

@[expose] public section

/-!
# The first of the greatest

Where a row of values is greatest, among the places that a condition admits, and the first such place
where several share the value; how a running maximum, a running minimum of places and a stable sort
find it.
-/

noncomputable section

namespace Route

open Idealize.ShloMosaic

/-- `a` is the first place admitted by `P` where `v` is greatest. -/
structure First {n : ℕ} (P : Fin n → Prop) (v : Fin n → EReal) (a : Fin n) : Prop where
  mem : P a
  le : ∀ b, P b → v b ≤ v a
  lt : ∀ b, b < a → P b → v b < v a

theorem exists_first {n : ℕ} (P : Fin n → Prop) (v : Fin n → EReal) (h : ∃ a, P a) : ∃ a, First P v a := by
  classical
  obtain ⟨a0, h0⟩ := h
  obtain ⟨a, ha, hmax⟩ := Finset.exists_max_image (Finset.univ.filter P) v ⟨a0, by simpa using h0⟩
  obtain ⟨b, hb, hmin⟩ := Finset.exists_min_image (Finset.univ.filter fun y => P y ∧ v y = v a) (fun y => y)
    ⟨a, by simpa using ha⟩
  simp only [Finset.mem_filter, Finset.mem_univ, true_and] at ha hmax hb hmin
  refine ⟨b, hb.1, fun y hy => (hmax y hy).trans_eq hb.2.symm, fun y hy hP => ?_⟩
  refine lt_of_le_of_ne ((hmax y hP).trans_eq hb.2.symm) fun e => ?_
  exact absurd (hmin y ⟨hP, e.trans hb.2⟩) (not_le.2 hy)

/-- A running maximum over the admitted places. -/
theorem fold_max {n : ℕ} (P : Fin n → Prop) [DecidablePred P] (v : Fin n → EReal) (a : Fin n) (h : First P v a) :
    Finset.fold max ⊥ (fun x => if P x then v x else ⊥) Finset.univ = v a := by
  refine le_antisymm ?_ ?_
  · refine Finset.fold_max_le _ |>.2 ⟨bot_le, fun x _ => ?_⟩
    split_ifs with hx
    · exact h.le x hx
    · exact bot_le
  · refine Finset.le_fold_max _ |>.2 (Or.inr ⟨a, Finset.mem_univ a, ?_⟩)
    rw [if_pos h.mem]

theorem slt_small (a b : ℕ) (ha : a < 2147483648) (hb : b < 2147483648) :
    (BitVec.ofNat 32 a).slt (BitVec.ofNat 32 b) = decide (a < b) := by
  have e : ∀ k : ℕ, k < 2147483648 → (BitVec.ofNat 32 k).toInt = k := fun k hk => by
    have h : (BitVec.ofNat 32 k).toNat = k := by
      rw [BitVec.toNat_ofNat]
      omega
    rw [BitVec.toInt_eq_toNat_of_lt (by rw [h]; omega), h]
  unfold BitVec.slt
  rw [e a ha, e b hb]
  simp

/-- A running minimum of small words is the word of the least. -/
theorem fold_minsi {ι : Type} [DecidableEq ι] (f : ι → ℕ) (hf : ∀ x, f x < 2147483648) (k : ℕ) (hk : ∀ x, k ≤ f x)
    (w : ι) (hw : f w = k) (s : Finset ι) (hs : w ∈ s) :
    Finset.fold IntOp.minsi (2147483647#32) (fun x => BitVec.ofNat 32 (f x)) s = BitVec.ofNat 32 k := by
  have key : ∀ s : Finset ι, ∃ j : ℕ, k ≤ j ∧ j < 2147483648 ∧ (w ∈ s → j = k)
      ∧ Finset.fold IntOp.minsi (2147483647#32) (fun x => BitVec.ofNat 32 (f x)) s = BitVec.ofNat 32 j := by
    intro s
    induction s using Finset.induction_on with
    | empty => exact ⟨2147483647, by have := hk w; have := hf w; omega, by omega, fun h => absurd h (by simp), rfl⟩
    | insert x s hx ih =>
      obtain ⟨j, h1, h2, h3, h4⟩ := ih
      refine ⟨min (f x) j, le_min (hk x) h1, by omega, fun hm => ?_, ?_⟩
      · rcases Finset.mem_insert.1 hm with e | e
        · rw [← e, hw]
          exact min_eq_left h1
        · rw [h3 e]
          exact min_eq_right (hk x)
      · rw [Finset.fold_insert hx, h4]
        unfold IntOp.minsi
        rw [slt_small _ _ (hf x) h2]
        by_cases hlt : f x < j
        · simp [hlt, min_eq_left hlt.le]
        · simp [hlt, min_eq_right (not_lt.1 hlt)]
  obtain ⟨j, -, -, h3, h4⟩ := key s
  rw [h4, h3 hs]

/-- The least admitted place whose value is the greatest, as a running minimum over the lanes. -/
theorem fold_lane {n : ℕ} (hn : n < 1048576) (P : Fin n → Prop) [DecidablePred P] (v : Fin n → EReal) (a : Fin n)
    (h : First P v a) :
    Finset.fold IntOp.minsi (2147483647#32)
      (fun x : Fin n => if P x ∧ v x = v a then BitVec.ofNat 32 x.val else 1048576#32) Finset.univ
      = BitVec.ofNat 32 a.val := by
  classical
  have e : (fun x : Fin n => if P x ∧ v x = v a then BitVec.ofNat 32 x.val else 1048576#32)
      = fun x : Fin n => BitVec.ofNat 32 (if P x ∧ v x = v a then x.val else 1048576) := by
    funext x
    split_ifs <;> rfl
  rw [e]
  refine fold_minsi _ (fun x => ?_) a.val (fun x => ?_) a ?_ _ (Finset.mem_univ a)
  · split_ifs <;> omega
  · split_ifs with hx
    · by_contra hc
      exact absurd hx.2 (h.lt x (by rw [Fin.lt_def]; omega) hx.1).ne
    · omega
  · rw [if_pos ⟨h.mem, rfl⟩]

/-! ## A stable sort -/

theorem insertBefore_congr {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (by simp), ih fun c hc => h c (by simp [hc])]

theorem stableSort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- Greater values first, and earlier places first among equal values. -/
def ahead {n : ℕ} (v : Fin n → EReal) (k k' : Fin n) : Bool :=
  decide (v k' < v k) || (decide (v k = v k') && decide (k < k'))

theorem ahead_total {n : ℕ} (v : Fin n → EReal) : StrictTotalBefore (ahead v) := by
  refine ⟨fun a => ?_, fun a b c hab hbc => ?_, fun a b hne => ?_⟩
  · simp [ahead]
  · simp only [ahead, Bool.or_eq_true, Bool.and_eq_true, decide_eq_true_eq] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  · simp only [ahead, Bool.or_eq_true, Bool.and_eq_true, decide_eq_true_eq]
    rcases lt_trichotomy (v a) (v b) with h | h | h
    · exact Or.inr (Or.inl h)
    · rcases lt_or_gt_of_ne hne with l | l
      · exact Or.inl (Or.inr ⟨h, l⟩)
      · exact Or.inr (Or.inr ⟨h.symm, l⟩)
    · exact Or.inl (Or.inl h)

theorem sortedFrom_ahead {n : ℕ} (v : Fin n → EReal) (k : Fin n) :
    sortedFrom (fun x y : Fin n => decide (v y < v x)) k = sortedFrom (ahead v) k := by
  have e : sortPositions n (fun x y : Fin n => decide (v y < v x)) = sortPositions n (ahead v) := by
    unfold sortPositions
    refine stableSort_congr _ _ _ ?_
    refine (List.pairwise_lt_finRange n).imp fun {a b} hab => ?_
    have : decide (b < a) = false := by simp [hab.le]
    simp [ahead, this]
  exact List.get_of_eq e _

/-- The place that a stable descending sort puts first. -/
theorem sorted_first {n : ℕ} (v : Fin n → EReal) (a : Fin n) (h : First (fun _ => True) v a) (k : Fin n) (hk : k.val = 0) :
    sortedFrom (fun x y : Fin n => decide (v y < v x)) k = a := by
  rw [sortedFrom_ahead]
  have e := (ahead_total v).sortedFrom_eq_of_prefix (k := 1) (by have := k.isLt; omega) (fun _ => a)
    (fun _ _ _ => Subsingleton.elim _ _) (fun i j hij => absurd hij (by simp [Subsingleton.elim i j]))
    (fun i p hp => ?_) 0
  · rw [← e]
    exact congrArg _ (Fin.ext hk)
  · have hpa : p ≠ a := fun e => hp 0 e.symm
    rw [Bool.eq_false_iff]
    simp only [ahead, ne_eq, Bool.or_eq_true, Bool.and_eq_true, decide_eq_true_eq]
    rintro (hc | ⟨hc, hl⟩)
    · exact absurd hc (not_lt.2 (h.le p trivial))
    · exact absurd hc (h.lt p hl trivial).ne

/-- The place that a stable descending sort puts second. -/
theorem sorted_second {n : ℕ} (v : Fin n → EReal) (a b : Fin n) (ha : First (fun _ => True) v a)
    (hb : First (fun y => y ≠ a) v b) (k : Fin n) (hk : k.val = 1) :
    sortedFrom (fun x y : Fin n => decide (v y < v x)) k = b := by
  rw [sortedFrom_ahead]
  have e := (ahead_total v).sortedFrom_eq_of_prefix (k := 2) (by have := k.isLt; omega) ![a, b] ?_ ?_ ?_ 1
  · refine Eq.trans ?_ e
    exact congrArg _ (Fin.ext hk)
  · intro i j hij
    fin_cases i <;> fin_cases j <;> first | rfl | exact absurd hij hb.mem | exact absurd hij.symm hb.mem
  · intro i j hij
    fin_cases i <;> fin_cases j <;> first | exact absurd hij (by decide) | skip
    show ahead v b a = false
    rw [Bool.eq_false_iff]
    simp only [ahead, ne_eq, Bool.or_eq_true, Bool.and_eq_true, decide_eq_true_eq]
    rintro (hc | ⟨hc, hl⟩)
    · exact absurd hc (not_lt.2 (ha.le b trivial))
    · exact absurd hc (ha.lt b hl trivial).ne
  · intro i p hp
    have hpa : p ≠ a := fun e => hp 0 e.symm
    rw [Bool.eq_false_iff]
    fin_cases i
    · show ¬ ahead v p a = true
      simp only [ahead, ne_eq, Bool.or_eq_true, Bool.and_eq_true, decide_eq_true_eq]
      rintro (hc | ⟨hc, hl⟩)
      · exact absurd hc (not_lt.2 (ha.le p trivial))
      · exact absurd hc (ha.lt p hl trivial).ne
    · show ¬ ahead v p b = true
      simp only [ahead, ne_eq, Bool.or_eq_true, Bool.and_eq_true, decide_eq_true_eq]
      rintro (hc | ⟨hc, hl⟩)
      · exact absurd hc (not_lt.2 (hb.le p hpa))
      · exact absurd hc (hb.lt p hl hpa).ne

end Route
end
-- ==== Proof.RouteBlock.lean ====
module

public import proofs.«01_k».proof.Proof.OutprojBlock
public import proofs.«01_k».proof.Proof.Route

@[expose] public section

/-!
# The routing weights of one grid point

What a grid point stores into the block of routing weights, at an index: from the logits of a row, the
place of the greatest group logit, and the places of the greatest and the second greatest expert logit
of that group.
-/

set_option maxRecDepth 16384

noncomputable section

namespace Cert.OutprojIdeal.Block

open Cert.OutprojIdeal Cert.OutprojIdeal.Gen Idealize.ShloMosaic Idealize.ShloMosaic.TcCoe Idealize.SL.Sem
open Route (First)

abbrev Logits := FVec Ideal S512x128 .f32
abbrev WRoute := Vec Ideal S1024x128 .f32
abbrev BRoute := Vec Ideal S1x128 .f32

/-! ## Conditions on lanes -/

theorem neg_inf : Ideal.ofBits FTy.f32 4286578688#32 = (⊥ : EReal) := by simp [Ideal.ofBits, Ideal.ieee]

theorem select_bool {α : Type} (p : Bool) (a b : α) : Scalar.select (BitVec.ofBool p) a b = if p = true then a else b := by
  cases p <;> rfl

theorem andi_bool (p q : Bool) : IntOp.andi (BitVec.ofBool p) (BitVec.ofBool q) = BitVec.ofBool (p && q) := by
  cases p <;> cases q <;> rfl

theorem slt_lane (a b : ℕ) (ha : a < 2147483648) (hb : b < 2147483648) :
    IntOp.cmpi CmpIPredicate.slt (BitVec.ofNat 32 a) (BitVec.ofNat 32 b) = BitVec.ofBool (decide (a < b)) := by
  unfold IntOp.cmpi
  exact congrArg BitVec.ofBool (Route.slt_small a b ha hb)

theorem slt_four (x : Fin 128) :
    IntOp.cmpi CmpIPredicate.slt (BitVec.ofNat 32 x.val) 4#32 = BitVec.ofBool (decide (x.val < 4)) :=
  slt_lane x.val 4 (by omega) (by omega)

theorem sge_lane (a b : ℕ) (ha : a < 2147483648) (hb : b < 2147483648) :
    IntOp.cmpi CmpIPredicate.sge (BitVec.ofNat 32 a) (BitVec.ofNat 32 b) = BitVec.ofBool (decide (b ≤ a)) := by
  unfold IntOp.cmpi
  refine congrArg BitVec.ofBool ?_
  show (BitVec.ofNat 32 b).sle (BitVec.ofNat 32 a) = _
  rw [BitVec.sle_eq_not_slt, Route.slt_small a b ha hb]
  by_cases h : a < b
  · simp [h]
  · simp [h, not_lt.1 h]

theorem ofNat_inj (a b : ℕ) (ha : a < 2147483648) (hb : b < 2147483648) :
    BitVec.ofNat 32 a = BitVec.ofNat 32 b ↔ a = b := by
  rw [← BitVec.toNat_inj, BitVec.toNat_ofNat, BitVec.toNat_ofNat]
  omega

theorem eq_lane (x y : Fin 128) :
    IntOp.cmpi CmpIPredicate.eq (BitVec.ofNat 32 x.val) (BitVec.ofNat 32 y.val) = BitVec.ofBool (decide (x = y)) := by
  unfold IntOp.cmpi
  refine congrArg BitVec.ofBool ?_
  have h := ofNat_inj x.val y.val (by omega) (by omega)
  rw [← Fin.ext_iff] at h
  rw [← decide_eq_decide.2 h]
  rfl

theorem ne_lane (x y : Fin 128) :
    IntOp.cmpi CmpIPredicate.ne (BitVec.ofNat 32 x.val) (BitVec.ofNat 32 y.val) = BitVec.ofBool (decide (x ≠ y)) := by
  unfold IntOp.cmpi
  refine congrArg BitVec.ofBool ?_
  have h := ofNat_inj x.val y.val (by omega) (by omega)
  rw [← Fin.ext_iff] at h
  by_cases e : x = y
  · simp [e]
  · have e' := fun c => e (h.1 c)
    simp [e, bne, beq_eq_false_iff_ne.2 e']

/-- The greatest admitted value of a row, as the masked maximum. -/
theorem masked_max (P : Fin 128 → Prop) [DecidablePred P] (v : Fin 128 → EReal) (a : Fin 128) (h : First P v a) :
    Finset.fold max (⊥ : EReal) (fun x => Scalar.select (BitVec.ofBool (decide (P x))) (v x) ⊥) Finset.univ = v a := by
  refine Eq.trans ?_ (Route.fold_max P v a h)
  refine congrArg (fun f : Fin 128 → EReal => Finset.fold max (⊥ : EReal) f Finset.univ) (funext fun x => ?_)
  rw [select_bool]
  simp

/-- The lane of the greatest admitted value of a row, as the masked minimum of lanes. -/
theorem masked_lane (P : Fin 128 → Prop) [DecidablePred P] (v : Fin 128 → EReal) (a : Fin 128) (h : First P v a) :
    Finset.fold IntOp.minsi (2147483647#32)
      (fun x : Fin 128 => Scalar.select (IntOp.andi (BitVec.ofBool (decide (P x))) (BitVec.ofBool (decide (v x = v a))))
        (BitVec.ofNat 32 x.val) 1048576#32) Finset.univ = BitVec.ofNat 32 a.val := by
  refine Eq.trans ?_ (Route.fold_lane (by omega) P v a h)
  refine congrArg (fun f : Fin 128 → BitVec 32 => Finset.fold IntOp.minsi (2147483647#32) f Finset.univ) (funext fun x => ?_)
  rw [andi_bool, select_bool]
  simp

/-! ## The payloads at an index -/

/-- The logits of a row: the updated row times a column of the routing weight, and the bias. -/
def logit (h : Fin 1024 → EReal) (w : WRoute) (b : BRoute) (x : Fin 128) : EReal :=
  (∑ k : Fin 1024, h k * w (ix2 k x)) + b (ix2 0 x)

/-- A row's group logits, with the other lanes at minus infinity. -/
def groupLanes (L : Fin 128 → EReal) (x : Fin 128) : EReal := if x.val < 4 then L x else ⊥

section Rows

variable (g : Row) (y : Mix) (w : WRoute) (b : BRoute) (r : Fin 512)

theorem pay18_apply (gs : Fin 128) (h : First (fun x : Fin 128 => x.val < 4) (fun x => k0_pay14 g y w b (ix2 r x)) gs) :
    k0_pay18 g y w b (ix2 r 0) = Ideal.div 1 (∑ x : Fin 128, Ideal.exp
      (groupLanes (fun x => k0_pay14 g y w b (ix2 r x)) x - k0_pay14 g y w b (ix2 r gs))) := by
  pointwise [k0_pay18, k0_pay17, k0_pay16, k0_pay15]
  generalize k0_pay14 g y w b = L at h ⊢
  simp only [neg_inf, slt_four]
  rw [masked_max (fun x : Fin 128 => x.val < 4) (fun x => (L (ix2 r x) : EReal)) gs h]
  simp only [select_bool, decide_eq_true_eq]
  rfl

theorem pay19_apply (gs : Fin 128) (h : First (fun x : Fin 128 => x.val < 4) (fun x => k0_pay14 g y w b (ix2 r x)) gs) :
    k0_pay19 g y w b (ix2 r 0) = BitVec.ofNat 32 (4 + 8 * gs.val) := by
  pointwise [k0_pay19, k0_pay17, k0_pay16, k0_pay15]
  generalize k0_pay14 g y w b = L at h ⊢
  simp only [neg_inf, slt_four]
  rw [masked_max (fun x : Fin 128 => x.val < 4) (fun x => (L (ix2 r x) : EReal)) gs h]
  rw [masked_lane (fun x : Fin 128 => x.val < 4) (fun x => (L (ix2 r x) : EReal)) gs h]
  unfold IntOp.addi IntOp.muli
  rw [show 8#32 = BitVec.ofNat 32 8 from rfl, show 4#32 = BitVec.ofNat 32 4 from rfl, ← BitVec.ofNat_mul, ← BitVec.ofNat_add,
    mul_comm]

end Rows

/-- The expert lanes of the group whose first lane is `lo`. -/
abbrev inGroup (lo : ℕ) (x : Fin 128) : Prop := lo ≤ x.val ∧ x.val < lo + 8

theorem pay22_apply (a : Logits) (l : IVec S512x128 32) (p : FVec Ideal S512x1 .f32) (q : IVec S512x128 1) (o : IVec S512x1 32)
    (r : Fin 512) (lo : ℕ) (hlo : lo < 128) (hl : ∀ x : Fin 128, l (ix2 r x) = BitVec.ofNat 32 x.val)
    (hq : ∀ x : Fin 128, q (ix2 r x) = BitVec.ofBool (decide (lo ≤ x.val))) (ho : o (ix2 r 0) = BitVec.ofNat 32 (lo + 8))
    (i j : Fin 128) (hi : First (inGroup lo) (fun x => a (ix2 r x)) i)
    (hj : First (fun x => inGroup lo x ∧ x ≠ i) (fun x => a (ix2 r x)) j) (x : Fin 128) :
    k0_pay22 a l p q o (ix2 r x)
      = (if x = i then Ideal.div 1 (1 + Ideal.exp ((a (ix2 r j) : EReal) - a (ix2 r i)))
          else if x = j then Ideal.exp ((a (ix2 r j) : EReal) - a (ix2 r i))
              * Ideal.div 1 (1 + Ideal.exp ((a (ix2 r j) : EReal) - a (ix2 r i))) else 0)
        * p (ix2 r 0) := by
  pointwise [k0_pay22]
  have hx : ∀ x : Fin 128, x.val < 2147483648 := fun x => lt_of_lt_of_le x.isLt (by omega)
  have e1 : ∀ x : Fin 128, IntOp.andi (BitVec.ofBool (decide (lo ≤ x.val))) (BitVec.ofBool (decide (x.val < lo + 8)))
      = BitVec.ofBool (decide (inGroup lo x)) := fun x => by rw [andi_bool, ← Bool.decide_and]
  have e2 : ∀ x : Fin 128, IntOp.andi (BitVec.ofBool (decide (inGroup lo x))) (BitVec.ofBool (decide (x ≠ i)))
      = BitVec.ofBool (decide (inGroup lo x ∧ x ≠ i)) := fun x => by rw [andi_bool, ← Bool.decide_and]
  simp only [neg_inf, hl, hq, ho, slt_lane _ (lo + 8) (hx _) (by omega), e1]
  simp only [masked_max (inGroup lo) (fun x => (a (ix2 r x) : EReal)) i hi]
  simp only [masked_lane (inGroup lo) (fun x => (a (ix2 r x) : EReal)) i hi, ne_lane, e2]
  simp only [masked_max (fun x => inGroup lo x ∧ x ≠ i) (fun x => (a (ix2 r x) : EReal)) j hj]
  simp only [masked_lane (fun x => inGroup lo x ∧ x ≠ i) (fun x => (a (ix2 r x) : EReal)) j hj, eq_lane, select_bool,
    decide_eq_true_eq]

/-- The routing weights of a row, from its logits: the lane `i` of the greatest expert logit of the group, the lane `j` of
the second, and the lane `gs` of the greatest group logit. -/
def weights (L : Fin 128 → EReal) (gs i j x : Fin 128) : EReal :=
  (if x = i then Ideal.div 1 (1 + Ideal.exp (L j - L i))
      else if x = j then Ideal.exp (L j - L i) * Ideal.div 1 (1 + Ideal.exp (L j - L i)) else 0)
    * Ideal.div 1 (∑ x : Fin 128, Ideal.exp (groupLanes L x - L gs))

section Rows

variable (g : Row) (y : Mix) (w : WRoute) (b : BRoute) (r : Fin 512)

theorem pay14_apply (x : Fin 128) :
    k0_pay14 g y w b (ix2 r x) = logit (fun k => (y (ix2 r k) : EReal) + g (ix2 0 k)) w b x := by
  pointwise [k0_pay14, k0_pay12]
  rfl

theorem pay1_apply (gs i j : Fin 128) (L : Fin 128 → EReal)
    (hL : L = logit (fun k => (y (ix2 r k) : EReal) + g (ix2 0 k)) w b)
    (h : First (fun x : Fin 128 => x.val < 4) L gs) (hi : First (inGroup (4 + 8 * gs.val)) L i)
    (hj : First (fun x => inGroup (4 + 8 * gs.val) x ∧ x ≠ i) L j) (x : Fin 128) :
    k0_pay1 (k0_pay22 (k0_pay14 g y w b) (iota .tc S512x128 32 [1] iota_S512x128_d1_w32) (k0_pay18 g y w b)
      (k0_pay20 g y w b) (k0_pay21 g y w b)) (ix3 0 r x) = weights L gs i j x := by
  have e : ∀ x, k0_pay14 g y w b (ix2 r x) = L x := fun x => by rw [pay14_apply, hL]
  have eL : (fun x => k0_pay14 g y w b (ix2 r x)) = L := funext e
  have hgs : gs.val < 4 := h.mem
  have h' : First (fun x : Fin 128 => x.val < 4) (fun x => k0_pay14 g y w b (ix2 r x)) gs := by rw [eL]; exact h
  have h19 := pay19_apply g y w b r gs h'
  pointwise [k0_pay1]
  refine (pay22_apply _ _ _ _ _ r (4 + 8 * gs.val) (by omega) (fun x => ?_) (fun x => ?_) ?_ i j ?_ ?_ x).trans ?_
  · pointwise []
  · pointwise [k0_pay20]
    rw [h19]
    exact sge_lane _ _ (by omega) (by omega)
  · pointwise [k0_pay21]
    rw [h19]
    exact (BitVec.ofNat_add _ _).symm
  · rw [eL]; exact hi
  · rw [eL]; exact hj
  · rw [pay18_apply g y w b r gs h']
    simp only [e]
    rfl

end Rows

/-- The updated row that a grid point computes, at a column. -/
def updated (n : ℕ) (x0 : Att) (x1 : Ch) (x2 x3 : Halo) (x4 x5 : Ch) (x6 : Tok) (x7 : WAtt) (x8 x9 : WCh)
    (x10 : Taps) (x11 x12 : Row) (r : Fin 512) (x : Fin 1024) : EReal :=
  Experts.norm cols small (fun y : Fin 1024 => alpha * (x6 (ix3 0 r y) : EReal)
      + mix n x0 x1 x2 x3 x4 x5 x7 x8 x9 x10 r y) (fun y => x11 (ix2 0 y)) (fun y => x12 (ix2 0 y)) x

section Out

variable (i : grid0.Coords) (x0 : Att) (x1 : Ch) (x2 x3 : Halo) (x4 x5 : Ch) (x6 : Tok) (x7 : WAtt) (x8 x9 : WCh)
    (x10 : Taps) (x11 x12 : Row) (x13 : WRoute) (x14 : BRoute) (r : Fin 512)

theorem row_apply (x : Fin 1024) :
    (k0_pay24 i x0 x1 x2 x3 x4 x5 x6 x7 x8 x9 x10 x11 x12 x13 x14 (ix2 r x) : EReal)
        + k0_pay23 i x0 x1 x2 x3 x4 x5 x6 x7 x8 x9 x10 x11 x12 x13 x14 (ix2 0 x)
      = updated (i 1).val x0 x1 x2 x3 x4 x5 x6 x7 x8 x9 x10 x11 x12 r x := by
  refine Eq.trans ?_ (out15 i x0 x1 x2 x3 x4 x5 x6 x7 x8 x9 x10 x11 x12 x13 x14 r x)
  unfold out0_15
  rw [View.canon_unit_zero hz3]
  pointwise [k0_pay13, k0_pay12]

theorem out16 (gs j k : Fin 128) (L : Fin 128 → EReal)
    (hL : L = logit (updated (i 1).val x0 x1 x2 x3 x4 x5 x6 x7 x8 x9 x10 x11 x12 r) x13 x14)
    (h : First (fun x : Fin 128 => x.val < 4) L gs) (hj : First (inGroup (4 + 8 * gs.val)) L j)
    (hk : First (fun x => inGroup (4 + 8 * gs.val) x ∧ x ≠ j) L k) (x : Fin 128) :
    out0_16 i x0 x1 x2 x3 x4 x5 x6 x7 x8 x9 x10 x11 x12 x13 x14 (ix3 0 r x) = weights L gs j k x := by
  unfold out0_16
  rw [View.canon_unit_zero hz3]
  simp only [View.ld_unit_zero (S := S1024x128) hz2, View.ld_unit_zero (S := S1x128) hz2]
  refine pay1_apply _ _ _ _ r gs j k L ?_ h hj hk x
  rw [hL]
  exact congrArg (fun f => logit f x13 x14) (funext fun x => (row_apply i x0 x1 x2 x3 x4 x5 x6 x7 x8 x9 x10 x11 x12 x13 x14 r x).symm)

end Out

end Cert.OutprojIdeal.Block
end
-- ==== Proof.RouteTok.lean ====
module

public import proofs.«01_k».proof.Proof.RouteBlock
public import proofs.«01_k».proof.Proof.OutprojTok

@[expose] public section

/-!
# The routing weights of one token

The routing weights from a token's group logits and expert logits, where these are real numbers: what
the kernel makes of the lanes of a row, and what the softmaxes, the choices and the normalisation of the
reference make of the logits, are the same.
-/

noncomputable section

namespace Route

open Idealize.ShloMosaic

/-! ## Real numbers among the extended reals -/

/-- A value that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.sum {ι : Type} (s : Finset ι) (f : ι → EReal) (h : ∀ x, IsReal (f x)) : IsReal (∑ x ∈ s, f x) := by
  classical
  induction s using Finset.induction_on with
  | empty => exact IsReal.zero
  | insert a s ha ih =>
    rw [Finset.sum_insert ha]
    exact (h a).add ih

theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul]
  congr 1
  ring

theorem exp_real (a : ℝ) : Ideal.exp (a : EReal) = (Real.exp a : EReal) := rfl

theorem rsqrt_real (a : ℝ) (h : 0 < a) : IsReal (Ideal.rsqrt (a : EReal)) := by
  refine ⟨(Real.sqrt a)⁻¹, ?_⟩
  show (if a < 0 then (⊥ : EReal) else if a = 0 then ⊤ else ((Real.sqrt a)⁻¹ : ℝ)) = _
  rw [if_neg (not_lt.2 h.le), if_neg h.ne']

/-- The layer norm of real numbers is real. -/
theorem norm_real {D : ℕ} (n ε : ℝ) (hn : 0 < n) (hε : 0 < ε) (y g b : Fin D → EReal) (hy : ∀ x, IsReal (y x))
    (hg : ∀ x, IsReal (g x)) (hb : ∀ x, IsReal (b x)) (d : Fin D) : IsReal (Experts.norm n ε y g b d) := by
  choose y' hy' using hy
  obtain rfl : y = fun x => (y' x : EReal) := funext hy'
  unfold Experts.norm
  have hm : Ideal.div (∑ x, (y' x : EReal)) (n : EReal) = (((∑ x, y' x) / n : ℝ) : EReal) := by
    rw [coe_sum, div_real _ _ hn.ne']
  rw [hm]
  generalize (∑ x, y' x) / n = μ
  have hv : Ideal.div (∑ x, ((y' x : EReal) - (μ : EReal)) * ((y' x : EReal) - (μ : EReal))) (n : EReal) + (ε : EReal)
      = (((∑ x, (y' x - μ) * (y' x - μ)) / n + ε : ℝ) : EReal) := by
    rw [EReal.coe_add, ← div_real _ _ hn.ne', ← coe_sum]
    simp only [EReal.coe_mul, EReal.coe_sub]
  rw [hv]
  refine ((((IsReal.sub ⟨_, rfl⟩ ⟨_, rfl⟩).mul (rsqrt_real _ ?_)).mul (hg d))).add (hb d)
  exact add_pos_of_nonneg_of_pos (div_nonneg (Finset.sum_nonneg fun x _ => mul_self_nonneg _) hn.le) hε

/-! ## Places under a map of values or of places -/

theorem First.of_values {n : ℕ} {P : Fin n → Prop} {v u : Fin n → EReal} {a : Fin n} (h : First P v a)
    (hle : ∀ x y, v x ≤ v y → u x ≤ u y) (hlt : ∀ x y, v x < v y → u x < u y) : First P u a :=
  ⟨h.mem, fun b hb => hle _ _ (h.le b hb), fun b hl hb => hlt _ _ (h.lt b hl hb)⟩

theorem First.of_places {n k : ℕ} {P : Fin n → Prop} {Q : Fin k → Prop} {v : Fin n → EReal} {u : Fin k → EReal} {a : Fin n}
    (h : First P v a) (f : Fin n → Fin k) (hf : ∀ x y, f x < f y → x < y) (hQ : ∀ z, Q z ↔ ∃ x, P x ∧ f x = z)
    (hu : ∀ x, u (f x) = v x) : First Q u (f a) := by
  refine ⟨(hQ _).2 ⟨a, h.mem, rfl⟩, fun b hb => ?_, fun b hl hb => ?_⟩
  · obtain ⟨x, hx, rfl⟩ := (hQ b).1 hb
    rw [hu, hu]
    exact h.le x hx
  · obtain ⟨x, hx, rfl⟩ := (hQ b).1 hb
    rw [hu, hu]
    exact h.lt x (hf _ _ hl) hx

/-! ## A softmax of reals -/

/-- The softmax of a row, with its greatest value given. -/
def soft {n : ℕ} (v : Fin n → EReal) (M : EReal) (x : Fin n) : EReal :=
  Ideal.div (Ideal.exp (v x - M)) (∑ y, Ideal.exp (v y - M))

def total {n : ℕ} (v : Fin n → ℝ) (M : ℝ) : ℝ := ∑ y, Real.exp (v y - M)

theorem total_pos {n : ℕ} (v : Fin n → ℝ) (M : ℝ) (a : Fin n) : 0 < total v M :=
  Finset.sum_pos (fun _ _ => Real.exp_pos _) ⟨a, Finset.mem_univ a⟩

theorem sum_exp {n : ℕ} (v : Fin n → ℝ) (M : ℝ) : ∑ y, Ideal.exp ((v y : EReal) - (M : EReal)) = (total v M : EReal) := by
  simp only [← EReal.coe_sub, exp_real, coe_sum]
  rfl

theorem soft_real {n : ℕ} (v : Fin n → ℝ) (M : ℝ) (x : Fin n) :
    soft (fun y => (v y : EReal)) M x = ((Real.exp (v x - M) / total v M : ℝ) : EReal) := by
  unfold soft
  rw [sum_exp, ← EReal.coe_sub, exp_real, div_real _ _ (total_pos v M x).ne']

theorem first_soft {n : ℕ} (P : Fin n → Prop) (v : Fin n → ℝ) (M : ℝ) (a : Fin n)
    (h : First P (fun y => (v y : EReal)) a) : First P (soft (fun y => (v y : EReal)) M) a := by
  refine h.of_values (fun x y hxy => ?_) fun x y hxy => ?_
  · rw [soft_real, soft_real, EReal.coe_le_coe_iff]
    have := EReal.coe_le_coe_iff.1 hxy
    exact div_le_div_of_nonneg_right (Real.exp_le_exp.2 (by linarith)) (total_pos v M x).le
  · rw [soft_real, soft_real, EReal.coe_lt_coe_iff]
    have := EReal.coe_lt_coe_iff.1 hxy
    exact div_lt_div_of_pos_right (Real.exp_lt_exp.2 (by linarith)) (total_pos v M x)

/-! ## The routing weights -/

/-- The weight of expert `e` of group `g`: of the group `gs` with the greatest logit, the experts `i` and `j` with the two
greatest logits share that group's probability. -/
def routed (G : Fin 4 → EReal) (E : Fin 4 → Fin 8 → EReal) (gs : Fin 4) (i j : Fin 8) (g : Fin 4) (e : Fin 8) : EReal :=
  if g = gs then
    (if e = i then Ideal.div 1 (1 + Ideal.exp (E gs j - E gs i))
      else if e = j then Ideal.exp (E gs j - E gs i) * Ideal.div 1 (1 + Ideal.exp (E gs j - E gs i)) else 0)
    * Ideal.div 1 (∑ x, Ideal.exp (G x - G gs))
  else 0

/-- The weights that softmaxes, one-hot choices and a normalisation give. -/
def plain (G : Fin 4 → EReal) (E : Fin 4 → Fin 8 → EReal) (gs : Fin 4) (i j : Fin 8) (g : Fin 4) (e : Fin 8) : EReal :=
  (if gs = g then 1 else 0)
    * (((if i = e then 1 else 0) * Ideal.div (soft (E gs) (E gs i) i) (soft (E gs) (E gs i) i + soft (E gs) (E gs i) j)
        + (if j = e then 1 else 0) * Ideal.div (soft (E gs) (E gs i) j) (soft (E gs) (E gs i) i + soft (E gs) (E gs i) j))
      * ∑ x, soft G (G gs) x * (if gs = x then 1 else 0))

theorem plain_eq (G : Fin 4 → EReal) (E : Fin 4 → Fin 8 → EReal) (hG : ∀ g, IsReal (G g)) (hE : ∀ g e, IsReal (E g e))
    (gs : Fin 4) (i j : Fin 8) (hij : j ≠ i) (g : Fin 4) (e : Fin 8) :
    plain G E gs i j g e = routed G E gs i j g e := by
  choose G' hG' using hG
  choose E' hE' using hE gs
  obtain rfl : G = fun x => (G' x : EReal) := funext hG'
  have hEr : E gs = fun x => (E' x : EReal) := funext hE'
  unfold plain routed
  by_cases hg : g = gs
  · subst hg
    rw [if_pos rfl, if_pos rfl, one_mul]
    have hS := total_pos E' (E' i) i
    have hT := total_pos G' (G' g) g
    have eg : ∑ x, soft (fun x => (G' x : EReal)) (G' g) x * (if g = x then 1 else 0)
        = Ideal.div 1 (∑ x, Ideal.exp ((G' x : EReal) - (G' g : EReal))) := by
      rw [Finset.sum_eq_single g]
      · rw [if_pos rfl, mul_one, soft_real, sum_exp, ← EReal.coe_one, div_real _ _ hT.ne', sub_self, Real.exp_zero]
      · intro x _ hx
        rw [if_neg hx.symm, mul_zero]
      · intro h
        exact absurd (Finset.mem_univ g) h
    rw [eg]
    refine congrArg (· * _) ?_
    rw [hEr]
    dsimp only
    have hR := Real.exp_pos (E' j - E' i)
    rw [soft_real, soft_real, sub_self, Real.exp_zero, ← EReal.coe_add, ← EReal.coe_sub, exp_real, ← EReal.coe_one,
      ← EReal.coe_add, div_real _ _ (by positivity), div_real _ _ (by positivity), div_real _ _ (by positivity)]
    by_cases h1 : e = i
    · subst h1
      rw [if_pos rfl, if_neg hij, if_pos rfl, EReal.coe_one, one_mul, zero_mul, add_zero]
      congr 1
      field_simp
    · rw [if_neg (Ne.symm h1), if_neg h1, zero_mul, zero_add]
      by_cases h2 : e = j
      · subst h2
        rw [if_pos rfl, if_pos rfl, EReal.coe_one, one_mul, ← EReal.coe_mul]
        congr 1
        field_simp
      · rw [if_neg (Ne.symm h2), if_neg h2, zero_mul]
  · rw [if_neg (Ne.symm hg), if_neg hg, zero_mul]

/-! ## The lanes of a row -/

open Cert.OutprojIdeal.Block (weights groupLanes inGroup)

/-- The lane of a group's logit, and the lane of an expert's. -/
def glane (g : Fin 4) : Fin 128 := ⟨g.val, by omega⟩
def lane (g : Fin 4) (e : Fin 8) : Fin 128 := ⟨4 + 8 * g.val + e.val, by omega⟩

section Lanes

variable (L : Fin 128 → EReal) (G : Fin 4 → EReal) (E : Fin 4 → Fin 8 → EReal) (hLG : ∀ g, L (glane g) = G g)
  (hLE : ∀ g e, L (lane g e) = E g e)

include hLG in
theorem first_group (gs : Fin 4) (h : First (fun _ => True) G gs) : First (fun x : Fin 128 => x.val < 4) L (glane gs) := by
  refine h.of_places glane (fun x y hxy => hxy) (fun z => ?_) hLG
  constructor
  · intro hz
    exact ⟨⟨z.val, hz⟩, trivial, rfl⟩
  · rintro ⟨x, -, rfl⟩
    exact x.isLt

include hLE in
theorem first_expert (gs : Fin 4) (i : Fin 8) (h : First (fun _ => True) (E gs) i) :
    First (inGroup (4 + 8 * (glane gs).val)) L (lane gs i) := by
  refine h.of_places (lane gs) (fun x y hxy => ?_) (fun z => ?_) (hLE gs)
  · rw [Fin.lt_def] at hxy ⊢
    unfold lane at hxy
    dsimp only at hxy
    omega
  · constructor
    · rintro ⟨h1, h2⟩
      unfold glane at h1 h2
      dsimp only at h1 h2
      exact ⟨⟨z.val - (4 + 8 * gs.val), by omega⟩, trivial, Fin.ext (by unfold lane; dsimp only; omega)⟩
    · rintro ⟨x, -, rfl⟩
      have := x.isLt
      unfold lane glane inGroup
      dsimp only
      omega

theorem lane_inj (g g' : Fin 4) (e e' : Fin 8) : lane g e = lane g' e' ↔ g = g' ∧ e = e' := by
  rw [Fin.ext_iff, Fin.ext_iff, Fin.ext_iff]
  unfold lane
  dsimp only
  omega

include hLE in
theorem first_second (gs : Fin 4) (i j : Fin 8) (h : First (fun e => e ≠ i) (E gs) j) :
    First (fun x => inGroup (4 + 8 * (glane gs).val) x ∧ x ≠ lane gs i) L (lane gs j) := by
  refine h.of_places (lane gs) (fun x y hxy => ?_) (fun z => ?_) (hLE gs)
  · rw [Fin.lt_def] at hxy ⊢
    unfold lane at hxy
    dsimp only at hxy
    omega
  · constructor
    · rintro ⟨⟨h1, h2⟩, h3⟩
      unfold glane at h1 h2
      dsimp only at h1 h2
      have hz : lane gs ⟨z.val - (4 + 8 * gs.val), by omega⟩ = z := Fin.ext (by unfold lane; dsimp only; omega)
      refine ⟨⟨z.val - (4 + 8 * gs.val), by omega⟩, fun e => h3 ?_, hz⟩
      rw [← hz, e]
    · rintro ⟨x, hx, rfl⟩
      refine ⟨?_, fun e => hx ((lane_inj _ _ _ _).1 e).2⟩
      have := x.isLt
      unfold lane glane inGroup
      dsimp only
      omega

include hLG in
theorem sum_groupLanes (M : ℝ) :
    ∑ x : Fin 128, Ideal.exp (groupLanes L x - (M : EReal)) = ∑ g, Ideal.exp (G g - (M : EReal)) := by
  have e : ∑ x : Fin 128, Ideal.exp (groupLanes L x - (M : EReal))
      = ∑ x : Fin (4 + 124), Ideal.exp (groupLanes L x - (M : EReal)) := rfl
  rw [e, Fin.sum_univ_add]
  have h0 : ∀ x : Fin 124, Ideal.exp (groupLanes L (Fin.natAdd 4 x) - (M : EReal)) = 0 := by
    intro x
    have : groupLanes L (Fin.natAdd 4 x) = ⊥ := if_neg (by show ¬ 4 + x.val < 4; omega)
    rw [this, EReal.bot_sub]
    rfl
  rw [Finset.sum_eq_zero fun x _ => h0 x, add_zero]
  refine Finset.sum_congr rfl fun g _ => ?_
  have : groupLanes L (Fin.castAdd 124 g) = G g := (if_pos (by show g.val < 4; omega)).trans (hLG g)
  rw [this]

include hLG hLE in
/-- What the kernel stores in an expert's lane. -/
theorem weights_lane (hG : ∀ g, IsReal (G g)) (gs : Fin 4) (i j : Fin 8) (g : Fin 4) (e : Fin 8) :
    weights L (glane gs) (lane gs i) (lane gs j) (lane g e) = routed G E gs i j g e := by
  unfold weights routed
  obtain ⟨M, hM⟩ := hG gs
  rw [hLG, hLE, hLE, hM, sum_groupLanes L G hLG M]
  simp only [lane_inj]
  by_cases hg : g = gs
  · simp only [hg, true_and, if_true]
  · simp only [hg, false_and, if_false, zero_mul]

/-- What the kernel stores in the other lanes. -/
theorem weights_other (gs : Fin 4) (i j : Fin 8) (x : Fin 128) (hx : x.val < 4 ∨ 36 ≤ x.val) :
    weights L (glane gs) (lane gs i) (lane gs j) x = 0 := by
  have h : ∀ e : Fin 8, x ≠ lane gs e := by
    intro e he
    rw [he] at hx
    unfold lane at hx
    dsimp only at hx
    omega
  unfold weights
  rw [if_neg (h i), if_neg (h j), zero_mul]

end Lanes

/-! ## The choices -/

/-- The first place of the greatest value, and of the greatest value elsewhere. -/
def best {n : ℕ} [NeZero n] (v : Fin n → EReal) : Fin n := Classical.epsilon (First (fun _ => True) v)
def next {n : ℕ} [NeZero n] (v : Fin n → EReal) : Fin n := Classical.epsilon (First (fun x => x ≠ best v) v)

theorem best_spec {n : ℕ} [NeZero n] (v : Fin n → EReal) : First (fun _ => True) v (best v) :=
  Classical.epsilon_spec (exists_first _ v ⟨0, trivial⟩)

theorem next_spec (v : Fin 8 → EReal) : First (fun x => x ≠ best v) v (next v) := by
  refine Classical.epsilon_spec (exists_first _ v ?_)
  by_cases h : best v = 0
  · exact ⟨1, by rw [h]; decide⟩
  · exact ⟨0, Ne.symm h⟩

/-- The routing weights of a token in the lanes of a row. -/
def lanes (G : Fin 4 → EReal) (E : Fin 4 → Fin 8 → EReal) (x : Fin 128) : EReal :=
  if h : 4 ≤ x.val ∧ x.val < 36 then
    routed G E (best G) (best (E (best G))) (next (E (best G))) ⟨(x.val - 4) / 8, by omega⟩ ⟨(x.val - 4) % 8, by omega⟩
  else 0

theorem weights_eq (L : Fin 128 → EReal) (G : Fin 4 → EReal) (E : Fin 4 → Fin 8 → EReal) (hLG : ∀ g, L (glane g) = G g)
    (hLE : ∀ g e, L (lane g e) = E g e) (hG : ∀ g, IsReal (G g)) (x : Fin 128) :
    weights L (glane (best G)) (lane (best G) (best (E (best G)))) (lane (best G) (next (E (best G)))) x
      = lanes G E x := by
  unfold lanes
  by_cases h : 4 ≤ x.val ∧ x.val < 36
  · rw [dif_pos h, ← weights_lane L G E hLG hLE hG]
    refine congrArg _ (Fin.ext ?_)
    unfold lane
    dsimp only
    omega
  · rw [dif_neg h]
    exact weights_other L _ _ _ x (by omega)

end Route
end

noncomputable section

namespace Outproj

open Idealize.ShloMosaic

/-- The router's arguments: the weight and the bias of the group logits, and those of the expert logits. -/
structure Router where
  wg : Fin 1024 → Fin 4 → EReal
  bg : Fin 4 → EReal
  we : Fin 1024 → Fin 4 → Fin 8 → EReal
  be : Fin 4 → Fin 8 → EReal

/-- The group logits and the expert logits of a row of the stream. -/
def group (R : Router) (h : Fin 1024 → EReal) (g : Fin 4) : EReal := (∑ k, h k * R.wg k g) + R.bg g
def expert (R : Router) (h : Fin 1024 → EReal) (g : Fin 4) (e : Fin 8) : EReal := (∑ k, h k * R.we k g e) + R.be g e

/-- The routing weights of a token. -/
def route (A : Args) (R : Router) (b : Fin 2) (s : Fin 16384) (x : Fin 128) : EReal :=
  Route.lanes (group R (row A b s)) (expert R (row A b s)) x

open Route (IsReal)

/-- All arguments are real numbers. -/
structure Real (A : Args) (R : Router) : Prop where
  o : ∀ b hd s k, IsReal (A.o b hd s k)
  u : ∀ b s d, IsReal (A.u b s d)
  bg : ∀ b s d, IsReal (A.bg b s d)
  f : ∀ b s d, IsReal (A.f b s d)
  h : ∀ b s x, IsReal (A.h b s x)
  taps : ∀ j d, IsReal (A.taps j d)
  w : ∀ k x, IsReal (A.w k x)
  g : ∀ x, IsReal (A.g x)
  b : ∀ x, IsReal (A.b x)
  wg : ∀ k g, IsReal (R.wg k g)
  gb : ∀ g, IsReal (R.bg g)
  we : ∀ k g e, IsReal (R.we k g e)
  eb : ∀ g e, IsReal (R.be g e)

theorem dot_real {n : ℕ} (a w : Fin n → EReal) (ha : ∀ k, IsReal (a k)) (hw : ∀ k, IsReal (w k)) : IsReal (Proj.dot a w) :=
  IsReal.sum _ _ fun k => (ha k).mul (hw k)

open Cert.OutprojIdeal.Block (alpha cols small)

theorem alpha_real : IsReal alpha := by
  unfold alpha
  simp only [Ideal.ofBits, Ideal.ieee]
  norm_num
  exact ⟨_, rfl⟩

theorem cols_real : ∃ n : ℝ, 0 < n ∧ cols = n := by
  refine ⟨1024, by norm_num, ?_⟩
  unfold cols
  simp [Ideal.ofBits, Ideal.ieee, -EReal.coe_mul]
  norm_num

theorem small_real : ∃ n : ℝ, 0 < n ∧ small = n := by
  unfold small
  simp only [Ideal.ofBits, Ideal.ieee]
  norm_num
  refine ⟨_, ?_, rfl⟩
  rw [if_neg (by decide)]
  positivity

section Finite

variable {A : Args} {R : Router} (h : Real A R) (b : Fin 2) (s : Fin 16384)

include h

theorem conv_real (d : Fin 256) : IsReal (conv A b s d) := by
  have hp : IsReal (prev A b s d) := by
    unfold prev
    split_ifs
    · exact IsReal.zero
    · exact h.u _ _ _
  have hn : IsReal (next A b s d) := by
    unfold next
    split_ifs
    · exact IsReal.zero
    · exact h.u _ _ _
  exact (h.bg _ _ _).mul (((hp.mul (h.taps _ _)).add ((h.u _ _ _).mul (h.taps _ _))).add (hn.mul (h.taps _ _)))

theorem mix_real (x : Fin 1024) : IsReal (mix A b s x) :=
  (IsReal.sum _ _ fun hd => dot_real _ _ (h.o b hd s) fun k => h.w _ _).add
    ((dot_real _ _ (conv_real h b s) fun k => h.w _ _).add (dot_real _ _ (h.f b s) fun k => h.w _ _))

theorem row_real (x : Fin 1024) : IsReal (row A b s x) := by
  obtain ⟨n, hn, en⟩ := cols_real
  obtain ⟨ε, hε, eε⟩ := small_real
  unfold row
  rw [en, eε]
  exact Route.norm_real n ε hn hε _ _ _ (fun y => (alpha_real.mul (h.h b s y)).add (mix_real h b s y)) h.g h.b x

theorem group_real (g : Fin 4) : IsReal (group R (row A b s) g) :=
  (IsReal.sum _ _ fun k => (row_real h b s k).mul (h.wg k g)).add (h.gb g)

theorem expert_real (g : Fin 4) (e : Fin 8) : IsReal (expert R (row A b s) g e) :=
  (IsReal.sum _ _ fun k => (row_real h b s k).mul (h.we k g e)).add (h.eb g e)

end Finite

end Outproj
end
-- ==== Proof.RouteArray.lean ====
module

public import proofs.«01_k».proof.Proof.OutprojArray
public import proofs.«01_k».proof.Proof.RouteTok

@[expose] public section

/-!
# The array of routing weights

What the kernel leaves in its second result: the router's weights that the host prepares, the blocks
that hold them, what a grid point stores, and the whole array.
-/

set_option maxRecDepth 16384

noncomputable section

namespace Cert.OutprojIdeal.Array

open Cert.OutprojIdeal Cert.OutprojIdeal.Gen Idealize.ShloMosaic Idealize.ShloMosaic.TcCoe Idealize.SL.Sem
open Idealize.ShloMosaic.Pipeline (Dat)
open Route (lane glane)

variable (m : (ℓ : Loc nD τ sig) → Buf (Elt Ideal) ℓ)

abbrev WG (c : Dev nD) : FVec Ideal S1024x4 .f32 := m ((c : Thread nD τ).loc main_arg9)
abbrev GB (c : Dev nD) : FVec Ideal S4 .f32 := m ((c : Thread nD τ).loc main_arg10)
abbrev WE (c : Dev nD) : FVec Ideal S1024x4x8 .f32 := m ((c : Thread nD τ).loc main_arg11)
abbrev EB (c : Dev nD) : FVec Ideal S4x8 .f32 := m ((c : Thread nD τ).loc main_arg12)

/-- The router's arguments as functions of their indices. -/
def router (c : Dev nD) : Outproj.Router where
  wg k g := WG m c (ix2 k g)
  bg g := GB m c (ix1 g)
  we k g e := WE m c (ix3 k g e)
  be g e := EB m c (ix2 g e)

/-! ## The prepared weights -/

def wLanes (wg : FVec Ideal S1024x4 .f32) (we : FVec Ideal S1024x4x8 .f32) : FVec Ideal S1024x128 .f32 :=
  pad S1024x128 ![0, 0] ![0, 92] ![0, 0]
    (concatenate S1024x36 1 [⟨S1024x4, wg⟩, ⟨S1024x32, shapeCast S1024x32 we shapeCasts_S1024x4x8_S1024x32⟩]
      concatenates_S1024x4_S1024x32_S1024x36_d1)
    (sitofp .f32 (constantI S_ 32 0#32)) pads_S1024x36_S1024x128_000_0920 h_S_

def bLanes (gb : FVec Ideal S4 .f32) (eb : FVec Ideal S4x8 .f32) : FVec Ideal S1x128 .f32 :=
  pad S1x128 ![0, 0] ![0, 92] ![0, 0]
    (broadcastInDim S1x36 ![1] bcast_S36_S1x36_1
      (concatenate S36 0 [⟨S4, gb⟩, ⟨S32, shapeCast S32 eb shapeCasts_S4x8_S32⟩] concatenates_S4_S32_S36_d0))
    (sitofp .f32 (constantI S_ 32 0#32)) pads_S1x36_S1x128_000_0920 h_S_

section Lanes

variable (wg : FVec Ideal S1024x4 .f32) (we : FVec Ideal S1024x4x8 .f32) (gb : FVec Ideal S4 .f32)
  (eb : FVec Ideal S4x8 .f32) (k : Fin 1024) (g : Fin 4) (e : Fin 8)

theorem wLanes_group : wLanes wg we (ix2 k (glane g)) = wg (ix2 k g) := by
  pointwise [wLanes, glane]
  rw [dif_pos (by omega)]

theorem wLanes_expert : wLanes wg we (ix2 k (lane g e)) = we (ix3 k g e) := by
  pointwise [wLanes, lane]
  rw [dif_pos (by omega), dif_neg (by omega)]
  exact congrArg₂ (fun p q => we (ix3 k p q)) (Fin.ext (by dsimp only; omega)) (Fin.ext (by dsimp only; omega))

theorem bLanes_group : bLanes gb eb (ix2 0 (glane g)) = gb (ix1 g) := by
  pointwise [bLanes, glane]
  rw [dif_pos (by omega)]

theorem bLanes_expert : bLanes gb eb (ix2 0 (lane g e)) = eb (ix2 g e) := by
  pointwise [bLanes, lane]
  rw [dif_pos (by omega), dif_neg (by omega)]
  exact congrArg₂ (fun p q => eb (ix2 p q)) (Fin.ext (by dsimp only; omega)) (Fin.ext (by dsimp only; omega))

end Lanes

theorem V_route (c : Dev nD) : @Eq (FVec Ideal S1024x128 .f32) (V m c main_v7) (wLanes (WG m c) (WE m c)) := by
  unfold V; rfl
theorem V_rbias (c : Dev nD) : @Eq (FVec Ideal S1x128 .f32) (V m c main_v11) (bLanes (GB m c) (EB m c)) := by
  unfold V; rfl

/-! ## The blocks -/

theorem idx_route : ∀ t : Fin cfg0.N, win0_13.index t = ![0, 0] ∧ win0_14.index t = ![0, 0]
    ∧ win0_16.index t = ![t.val / 32, t.val % 32, 0] :=
  (by decide +kernel : ∀ t : Fin grid0.N, _)

section Windows

variable (c : Dev nD) (t : Fin cfg0.N) (r : Fin 512)

theorem iblk13_apply (k : Fin 1024) (x : Fin 128) :
    (iblk m c 13 t : Block.WRoute) (ix2 k x) = wLanes (WG m c) (WE m c) (ix2 k x) := by
  have e := (idx_route t).1
  unfold iblk
  rw [View.read_apply]
  show (V m c main_v7 : FVec Ideal S1024x128 .f32) _ = _
  rw [V_route]
  generalize wLanes (WG m c) (WE m c) = z
  congr 1
  funext a
  apply Fin.ext
  match a with
  | ⟨0, _⟩ => show win0_13.index t 0 * 1024 + 1 * k.val = k.val; rw [e]; simp
  | ⟨1, _⟩ => show win0_13.index t 1 * 128 + 1 * x.val = x.val; rw [e]; simp

theorem iblk14_apply (x : Fin 128) : (iblk m c 14 t : Block.BRoute) (ix2 0 x) = bLanes (GB m c) (EB m c) (ix2 0 x) := by
  have e := (idx_route t).2.1
  unfold iblk
  rw [View.read_apply]
  show (V m c main_v11 : FVec Ideal S1x128 .f32) _ = _
  rw [V_rbias]
  generalize bLanes (GB m c) (EB m c) = z
  congr 1
  funext a
  apply Fin.ext
  match a with
  | ⟨0, _⟩ => show win0_14.index t 0 * 1 + 1 * 0 = 0; rw [e]; simp
  | ⟨1, _⟩ => show win0_14.index t 1 * 128 + 1 * x.val = x.val; rw [e]; simp

theorem updated_block (x : Fin 1024) :
    Block.updated (grid0.coords t 1).val (iblk m c 0 t) (iblk m c 1 t) (iblk m c 2 t) (iblk m c 3 t) (iblk m c 4 t)
        (iblk m c 5 t) (iblk m c 6 t) (iblk m c 7 t) (iblk m c 8 t) (iblk m c 9 t) (iblk m c 10 t) (iblk m c 11 t)
        (iblk m c 12 t) r x
      = Outproj.row (args m c) (ptB t) (ptS t r) x :=
  (Block.out15 (grid0.coords t) _ _ _ _ _ _ _ _ _ _ _ _ _ (iblk m c 13 t) (iblk m c 14 t) r x).symm.trans
    (row_block m c t r x)

/-- The logits in a row's lanes. -/
def rowLogits (x : Fin 128) : EReal :=
  Block.logit (Outproj.row (args m c) (ptB t) (ptS t r)) (iblk m c 13 t) (iblk m c 14 t) x

theorem rowLogits_group (g : Fin 4) :
    rowLogits m c t r (glane g) = Outproj.group (router m c) (Outproj.row (args m c) (ptB t) (ptS t r)) g := by
  unfold rowLogits Block.logit
  simp only [iblk13_apply, iblk14_apply, wLanes_group, bLanes_group]
  rfl

theorem rowLogits_expert (g : Fin 4) (e : Fin 8) :
    rowLogits m c t r (lane g e) = Outproj.expert (router m c) (Outproj.row (args m c) (ptB t) (ptS t r)) g e := by
  unfold rowLogits Block.logit
  simp only [iblk13_apply, iblk14_apply, wLanes_expert, bLanes_expert]
  rfl

variable (hR : Outproj.Real (args m c) (router m c))

include hR in
theorem route_block (x : Fin 128) :
    out0_16 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) (ix3 0 r x)
      = Outproj.route (args m c) (router m c) (ptB t) (ptS t r) x := by
  have hG := rowLogits_group m c t r
  have hE := rowLogits_expert m c t r
  refine (Block.out16 (grid0.coords t) _ _ _ _ _ _ _ _ _ _ _ _ _ _ _ r _ _ _ (rowLogits m c t r) ?_
    (Route.first_group _ _ hG _ (Route.best_spec _)) (Route.first_expert _ _ hE _ _ (Route.best_spec _))
    (Route.first_second _ _ hE _ _ _ (Route.next_spec _)) x).trans
    (Route.weights_eq _ _ _ hG hE (Outproj.group_real hR _ _) x)
  unfold rowLogits
  exact funext fun x => congrArg (fun f => Block.logit f (iblk m c 13 t) (iblk m c 14 t) x)
    (funext fun y => (updated_block m c t r y).symm)

end Windows

/-! ## The array -/

variable (c : Dev nD) (t : Fin cfg0.N) (hR : Outproj.Real (args m c) (router m c))

def G16 : FVec Ideal S2x16384x128 .f32 := fun i => Outproj.route (args m c) (router m c) (i 0) (i 1) (i 2)

include hR in
theorem route_out (y : S1x512x128.Idx) :
    out0_16 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t)
        (iblk m c 13 t) (iblk m c 14 t) y
      = Outproj.route (args m c) (router m c) (ptB t) (ptS t (y 1)) (y 2) := by
  idx_vars y
  obtain rfl : y0 = 0 := Subsingleton.elim _ _
  exact route_block m c t y1 hR y2

include hR in
theorem flushed16 : (dats m 0 c).flushed 16 t = ((cfg0.win 16).blk t).view.read (Elt Ideal) (G16 m c) := by
  have e := (idx_route t).2.2
  rw [Value.flushed16]
  funext y
  refine (route_out m c t hR ((cfg0.win 16).xinj (grid0.coords t) y)).trans ?_
  have hb : ((cfg0.win 16).blk t).view.emb y = ix3 (ptB t) (ptS t ((cfg0.win 16).xinj (grid0.coords t) y 1))
      ((cfg0.win 16).xinj (grid0.coords t) y 2) := by
    have h0 : (y 0).val < 1 := (y 0).isLt
    funext a
    apply Fin.ext
    match a with
    | ⟨0, _⟩ => show win0_16.index t 0 * 1 + 1 * (y 0).val = t.val / 32; rw [e]; simp; omega
    | ⟨1, _⟩ => show win0_16.index t 1 * 512 + 1 * (y 1).val = t.val % 32 * 512 + (y 1).val; rw [e]; simp
    | ⟨2, _⟩ => show win0_16.index t 2 * 128 + 1 * (y 2).val = (y 2).val; rw [e]; simp
  rw [View.read_apply]
  show G16 m c (ix3 (ptB t) (ptS t ((cfg0.win 16).xinj (grid0.coords t) y 1))
      ((cfg0.win 16).xinj (grid0.coords t) y 2)) = _
  generalize G16 m c = g
  exact (congrArg g hb).symm

theorem cover16 (i : S2x16384x128.Idx) :
    ∃ t : Fin cfg0.N, (cfg0.win 16).flush t = true ∧ i ∈ ((cfg0.win 16).blk t).view.set := by
  have h0 : (i 0).val < 2 := (i 0).isLt
  have h1 : (i 1).val < 16384 := (i 1).isLt
  have h2 : (i 2).val < 128 := (i 2).isLt
  obtain ⟨t, ht, ht'⟩ := point (i 0).val (i 1).val h0 h1
  have e := (idx_route t).2.2
  have e0 : win0_16.index t 0 = t.val / 32 := by rw [e]; rfl
  have e1 : win0_16.index t 1 = t.val % 32 := by rw [e]; rfl
  have e2 : win0_16.index t 2 = 0 := by rw [e]; rfl
  refine ⟨t, flush0_16 t, ?_⟩
  show i ∈ ((View.whole main_v14_1).slice (win0_16.rect t)).set
  rw [View.set_slice_whole, Rect.mem_set_unit]
  intro a
  match a with
  | ⟨0, _⟩ => show win0_16.index t 0 * 1 ≤ (i 0).val ∧ (i 0).val < win0_16.index t 0 * 1 + 1; omega
  | ⟨1, _⟩ => show win0_16.index t 1 * 512 ≤ (i 1).val ∧ (i 1).val < win0_16.index t 1 * 512 + 512; omega
  | ⟨2, _⟩ => show win0_16.index t 2 * 128 ≤ (i 2).val ∧ (i 2).val < win0_16.index t 2 * 128 + 128; omega

include hR in
theorem final16 : (dats m 0 c).arrAt 16 cfg0.N = G16 m c :=
  (dats m 0 c).arrAt_eq_of_cover 16 (G16 m c) (fun t hf => flushed16 m c t hR) cover16

end Cert.OutprojIdeal.Array
end
-- ==== Proof.OutprojRef.lean ====
module

public import proofs.«01_k».proof.Proof.Gen.OutprojRefIdeal.Run
public import proofs.«01_k».proof.Proof.OutprojTok

@[expose] public section

/-!
# What the out-projection reference computes

The reference's result at an index, in the terms of `OutprojTok`.
-/

set_option maxRecDepth 16384

noncomputable section

namespace Cert.OutprojRefIdeal.Value

open Cert.OutprojRefIdeal Cert.OutprojRefIdeal.Gen Idealize.ShloMosaic Idealize.ShloMosaic.TcCoe Idealize.SL.Sem
open Cert.OutprojIdeal.Block (alpha cols small)

abbrev T := FVec Ideal S2x16384x1024 .f32
abbrev Ch := FVec Ideal S2x16384x256 .f32
abbrev Taps := FVec Ideal S3x256 .f32

/-! ## The norm -/

def mean (y : T) : FVec Ideal S2x16384x1 .f32 :=
  Host.divf (broadcastInDim S2x16384x1 ![0, 1] bcast_S2x16384_S2x16384x1_0_1
      (Host.reduceAdd y (constant S_ .f32 0x00000000#32) reducesTo_S2x16384x1024_S2x16384_d2 h_S_))
    (broadcastInDim S2x16384x1 ![] bcast_S_S2x16384x1 (constant S_ .f32 0x44800000#32))

def across (v : FVec Ideal S2x16384x1 .f32) : T :=
  broadcastInDim S2x16384x1024 ![0, 1, 2] bcast_S2x16384x1_S2x16384x1024_0_1_2 v

def down (v : FVec Ideal S1024 .f32) : T :=
  broadcastInDim S2x16384x1024 ![0, 1, 2] bcast_S1x1x1024_S2x16384x1024_0_1_2
    (broadcastInDim S1x1x1024 ![2] bcast_S1024_S1x1x1024_2 v)

def scale (v : FVec Ideal S2x16384x1 .f32) : FVec Ideal S2x16384x1 .f32 :=
  Host.rsqrt (addf v (broadcastInDim S2x16384x1 ![] bcast_S_S2x16384x1 (constant S_ .f32 0x3727C5AC#32)))

def finish (y : T) (g b : FVec Ideal S1024 .f32) : T :=
  addf (mulf (mulf y (across (scale (mean (mulf y y))))) (down g)) (down b)

def norm (x : T) (g b : FVec Ideal S1024 .f32) : T := finish (subf x (across (mean x))) g b

theorem mean_apply (y : T) (b : Fin 2) (s : Fin 16384) :
    mean y (ix3 b s 0) = Ideal.div (∑ k : Fin 1024, (y (ix3 b s k) : EReal)) cols := by
  pointwise [mean]
  rfl

theorem across_apply (v : FVec Ideal S2x16384x1 .f32) (b : Fin 2) (s : Fin 16384) (k : Fin 1024) :
    across v (ix3 b s k) = v (ix3 b s 0) := by
  pointwise [across]

theorem down_apply (v : FVec Ideal S1024 .f32) (b : Fin 2) (s : Fin 16384) (k : Fin 1024) :
    down v (ix3 b s k) = v (ix1 k) := by
  pointwise [down]

theorem scale_apply (v : FVec Ideal S2x16384x1 .f32) (b : Fin 2) (s : Fin 16384) :
    scale v (ix3 b s 0) = Ideal.rsqrt ((v (ix3 b s 0) : EReal) + small) := by
  pointwise [scale]
  rfl

theorem finish_apply (y : T) (g b : FVec Ideal S1024 .f32) (i : Fin 2) (s : Fin 16384) (k : Fin 1024) :
    finish y g b (ix3 i s k) = (y (ix3 i s k) : EReal)
      * Ideal.rsqrt (Ideal.div (∑ x : Fin 1024, (y (ix3 i s x) : EReal) * y (ix3 i s x)) cols + small)
      * g (ix1 k) + b (ix1 k) := by
  show (y (ix3 i s k) : EReal) * across (scale (mean (mulf y y))) (ix3 i s k) * down g (ix3 i s k)
    + down b (ix3 i s k) = _
  rw [across_apply, scale_apply, mean_apply, down_apply, down_apply]
  rfl

theorem norm_apply (x : T) (g b : FVec Ideal S1024 .f32) (i : Fin 2) (s : Fin 16384) (k : Fin 1024) :
    norm x g b (ix3 i s k) = Experts.norm cols small (fun k : Fin 1024 => (x (ix3 i s k) : EReal))
      (fun k => g (ix1 k)) (fun k => b (ix1 k)) k := by
  have h : ∀ j, subf x (across (mean x)) (ix3 i s j)
      = (x (ix3 i s j) : EReal) - Ideal.div (∑ k : Fin 1024, (x (ix3 i s k) : EReal)) cols := by
    intro j
    show (x (ix3 i s j) : EReal) - across (mean x) (ix3 i s j) = _
    rw [across_apply, mean_apply]
  unfold norm
  rw [finish_apply]
  simp only [h]
  rfl

/-! ## The short convolution -/

/-- The channels with a row of zeros before the first token and after the last. -/
def padded (u : Ch) : FVec Ideal S2x16386x256 .f32 :=
  pad S2x16386x256 ![0, 1, 0] ![0, 1, 0] ![0, 0, 0] u (sitofp .f32 (constantI S_ 32 0#32))
    pads_S2x16384x256_S2x16386x256_000_110_000 h_S_

/-- One tap's weights, for every token. -/
def over (v : FVec Ideal S256 .f32) : Ch :=
  broadcastInDim S2x16384x256 ![0, 1, 2] bcast_S1x1x256_S2x16384x256_0_1_2
    (broadcastInDim S1x1x256 ![2] bcast_S256_S1x1x256_2 v)

def tap0 (w : Taps) : Ch :=
  over (shapeCast _ (extractStridedSlice S1x256 ![0, 0] w slices_S3x256_S1x256_0_0) shapeCasts_S1x256_S256)
def tap1 (w : Taps) : Ch :=
  over (shapeCast _ (extractStridedSlice S1x256 ![1, 0] w slices_S3x256_S1x256_1_0) shapeCasts_S1x256_S256)
def tap2 (w : Taps) : Ch :=
  over (shapeCast _ (extractStridedSlice S1x256 ![2, 0] w slices_S3x256_S1x256_2_0) shapeCasts_S1x256_S256)

def cut0 (u : Ch) : Ch := extractStridedSlice S2x16384x256 ![0, 0, 0] (padded u) slices_S2x16386x256_S2x16384x256_0_0_0
def cut1 (u : Ch) : Ch := extractStridedSlice S2x16384x256 ![0, 1, 0] (padded u) slices_S2x16386x256_S2x16384x256_0_1_0
def cut2 (u : Ch) : Ch := extractStridedSlice S2x16384x256 ![0, 2, 0] (padded u) slices_S2x16386x256_S2x16384x256_0_2_0

def convT (bg u : Ch) (w : Taps) : Ch :=
  mulf bg (addf (addf (addf (broadcastInDim S2x16384x256 ![] bcast_S_S2x16384x256 (constant S_ .f32 0x00000000#32))
    (mulf (cut0 u) (tap0 w))) (mulf (cut1 u) (tap1 w))) (mulf (cut2 u) (tap2 w)))

/-- The padding's zero. -/
theorem zero_pad : (FloatOps.sitofp FTy.f32 (0#32 : BitVec 32) : Ideal .f32) = (0 : EReal) := by
  show ((((0#32 : BitVec 32).toInt : ℝ)) : EReal) = 0
  simp

section Taps

variable (u : Ch) (w : Taps) (b : Fin 2) (s : Fin 16384) (d : Fin 256)

theorem tap0_apply : tap0 w (ix3 b s d) = w (ix2 0 d) := by pointwise [tap0, over]
theorem tap1_apply : tap1 w (ix3 b s d) = w (ix2 1 d) := by pointwise [tap1, over]
theorem tap2_apply : tap2 w (ix3 b s d) = w (ix2 2 d) := by pointwise [tap2, over]

theorem cut0_apply : cut0 u (ix3 b s d) = (if s.val = 0 then 0 else u (ix3 b ⟨s.val - 1, by omega⟩ d) : EReal) := by
  pointwise [cut0, padded]
  have hs := s.isLt
  by_cases h : s.val = 0
  · rw [if_pos h, dif_neg (by omega)]
    exact zero_pad
  · rw [if_neg h, dif_pos (by omega)]

theorem cut1_apply : cut1 u (ix3 b s d) = u (ix3 b s d) := by
  pointwise [cut1, padded]

theorem cut2_apply : cut2 u (ix3 b s d)
    = (if h : s.val = 16383 then 0 else u (ix3 b ⟨s.val + 1, by omega⟩ d) : EReal) := by
  pointwise [cut2, padded]
  have hs := s.isLt
  by_cases h : s.val = 16383
  · rw [dif_pos h, dif_neg (by omega)]
    exact zero_pad
  · rw [dif_neg h, dif_pos (by omega)]
    exact congrArg (fun p => u (ix3 b p d)) (Fin.ext (by dsimp only; omega))

end Taps

/-! ## The groups side by side -/

def heads (o : FVec Ideal S2x8x16384x64 .bf16) : FVec Ideal S2x16384x512 .f32 :=
  shapeCast _ (transpose S2x16384x8x64 [0, 2, 1, 3] (extf .f32 o bitsLt_bf16_f32)
    transposes_S2x8x16384x64_S2x16384x8x64_0_2_1_3) shapeCasts_S2x16384x8x64_S2x16384x512

def cat (o : FVec Ideal S2x16384x512 .f32) (v f : Ch) : T :=
  concatenate S2x16384x1024 2 [⟨S2x16384x512, o⟩, ⟨S2x16384x256, v⟩, ⟨S2x16384x256, f⟩]
    concatenates_S2x16384x512_S2x16384x256_S2x16384x256_S2x16384x1024_d2

def mixT (z : T) (w : FVec Ideal S1024x1024 .f32) : T :=
  Host.dotGeneral dot_S2x16384x1024_S1024x1024_S2x16384x1024_2_0_01_1_n_n none z w

def stream (h z : T) : T :=
  addf (mulf (broadcastInDim S2x16384x1024 ![] bcast_S_S2x16384x1024 (constant S_ .f32 0x3FB504F3#32)) h) z

section Cat

variable (o : FVec Ideal S2x16384x512 .f32) (v f : Ch) (b : Fin 2) (s : Fin 16384)

theorem heads_apply (o : FVec Ideal S2x8x16384x64 .bf16) (hd : Fin 8) (k : Fin 64) :
    heads o (ix3 b s ⟨64 * hd.val + k.val, by omega⟩) = o (ix4 b hd s k) := by
  pointwise [heads]

theorem cat_o (k : Fin 512) : cat o v f (ix3 b s ⟨k.val, by omega⟩) = o (ix3 b s k) := by
  pointwise [cat]

theorem cat_v (k : Fin 256) : cat o v f (ix3 b s ⟨512 + k.val, by omega⟩) = v (ix3 b s k) := by
  pointwise [cat]

theorem cat_f (k : Fin 256) : cat o v f (ix3 b s ⟨768 + k.val, by omega⟩) = f (ix3 b s k) := by
  pointwise [cat]
  rw [dif_neg (by omega), dif_neg (by omega)]
  exact congrArg (fun p => f (ix3 b s p)) (Fin.ext (by dsimp only; omega))

theorem mixT_apply (z : T) (w : FVec Ideal S1024x1024 .f32) (x : Fin 1024) :
    mixT z w (ix3 b s x) = Proj.dot (fun k : Fin 1024 => (z (ix3 b s k) : EReal)) (fun k => w (ix2 k x)) := by
  pointwise [mixT]
  rfl

end Cat

/-! ## The result -/

variable (V0 : Valuation τ sig (Elt Ideal))

/-- The arguments as functions of their indices. -/
def args : Outproj.Args where
  o b hd s k := (V0 (Proc.devRef .tc main_arg0) : FVec Ideal S2x8x16384x64 .bf16) (ix4 b hd s k)
  u b s d := (V0 (Proc.devRef .tc main_arg1) : Ch) (ix3 b s d)
  bg b s d := (V0 (Proc.devRef .tc main_arg2) : Ch) (ix3 b s d)
  f b s d := (V0 (Proc.devRef .tc main_arg3) : Ch) (ix3 b s d)
  h b s x := (V0 (Proc.devRef .tc main_arg4) : T) (ix3 b s x)
  taps j d := (V0 (Proc.devRef .tc main_arg5) : Taps) (ix2 j d)
  w k x := (V0 (Proc.devRef .tc main_arg6) : FVec Ideal S1024x1024 .f32) (ix2 k x)
  g x := (V0 (Proc.devRef .tc main_arg7) : FVec Ideal S1024 .f32) (ix1 x)
  b x := (V0 (Proc.devRef .tc main_arg8) : FVec Ideal S1024 .f32) (ix1 x)

/-- The three groups of every token side by side. -/
def groups : T :=
  cat (heads (V0 (Proc.devRef .tc main_arg0)))
    (convT (V0 (Proc.devRef .tc main_arg2)) (V0 (Proc.devRef .tc main_arg1)) (V0 (Proc.devRef .tc main_arg5)))
    (V0 (Proc.devRef .tc main_arg3))

theorem res_eq : @Eq T (res_main_v53 V0)
    (norm (stream (V0 (Proc.devRef .tc main_arg4)) (mixT (groups V0) (V0 (Proc.devRef .tc main_arg6))))
      (V0 (Proc.devRef .tc main_arg7)) (V0 (Proc.devRef .tc main_arg8))) := rfl

section Result

variable (b : Fin 2) (s : Fin 16384)

theorem conv_apply (d : Fin 256) :
    convT (V0 (Proc.devRef .tc main_arg2)) (V0 (Proc.devRef .tc main_arg1)) (V0 (Proc.devRef .tc main_arg5))
      (ix3 b s d) = Outproj.conv (args V0) b s d := by
  generalize hA : args V0 = A
  show (_ : EReal) * ((Ideal.ofBits FTy.f32 0x00000000#32 + _ * _) + _ * _ + _ * _) = _
  rw [cut0_apply, cut1_apply, cut2_apply, tap0_apply, tap1_apply, tap2_apply, Ideal.ofBits_zero, zero_add, ← hA]
  rfl

theorem groups_o (hd : Fin 8) (k : Fin 64) :
    groups V0 (ix3 b s ⟨64 * hd.val + k.val, by omega⟩) = (args V0).o b hd s k :=
  (cat_o _ _ _ b s ⟨64 * hd.val + k.val, by omega⟩).trans (heads_apply b s _ hd k)

theorem groups_v (k : Fin 256) :
    groups V0 (ix3 b s ⟨512 + k.val, by omega⟩) = Outproj.conv (args V0) b s k :=
  (cat_v _ _ _ b s k).trans (conv_apply V0 b s k)

theorem groups_f (k : Fin 256) : groups V0 (ix3 b s ⟨768 + k.val, by omega⟩) = (args V0).f b s k :=
  cat_f _ _ _ b s k

theorem mix_apply (x : Fin 1024) :
    mixT (groups V0) (V0 (Proc.devRef .tc main_arg6)) (ix3 b s x) = Outproj.mix (args V0) b s x := by
  rw [mixT_apply]
  unfold Proj.dot
  rw [Outproj.sum_parts]
  simp only [groups_o, groups_v, groups_f]
  rfl

theorem res_apply (x : Fin 1024) :
    (res_main_v53 V0 : T) (ix3 b s x) = Outproj.row (args V0) b s x := by
  rw [res_eq, norm_apply]
  have h : ∀ y : Fin 1024, stream (V0 (Proc.devRef .tc main_arg4))
      (mixT (groups V0) (V0 (Proc.devRef .tc main_arg6))) (ix3 b s y)
        = alpha * (args V0).h b s y + Outproj.mix (args V0) b s y := by
    intro y
    rw [← mix_apply]
    rfl
  simp only [h]
  rfl

end Result

end Cert.OutprojRefIdeal.Value
end
-- ==== Proof.RouteRef.lean ====
module

public import proofs.«01_k».proof.Proof.OutprojRef
public import proofs.«01_k».proof.Proof.RouteTok

@[expose] public section

/-!
# What the out-projection reference computes of the routing

The reference's routing weights at an index, in the terms of `RouteTok`.
-/

set_option maxRecDepth 16384

noncomputable section

namespace Cert.OutprojRefIdeal.Value

open Cert.OutprojRefIdeal Cert.OutprojRefIdeal.Gen Idealize.ShloMosaic Idealize.ShloMosaic.TcCoe Idealize.SL.Sem
open Route (IsReal First soft best next)

abbrev P4 := FVec Ideal S2x16384x4 .f32
abbrev P8 := FVec Ideal S2x16384x8 .f32
abbrev P2 := FVec Ideal S2x16384x2 .f32
abbrev P48 := FVec Ideal S2x16384x4x8 .f32

/-! ## The softmaxes -/

def exps4 (v : P4) : P4 :=
  Host.exp (subf v (broadcastInDim S2x16384x4 ![0, 1, 2] bcast_S2x16384x1_S2x16384x4_0_1_2
    (broadcastInDim S2x16384x1 ![0, 1] bcast_S2x16384_S2x16384x1_0_1
      (maximumf (broadcastInDim S2x16384 ![] bcast_S_S2x16384 (constant S_ .f32 0xFF800000#32))
        (Host.reduce FloatOps.maximumf v (constant S_ .f32 0xFF800000#32) reducesTo_S2x16384x4_S2x16384_d2 h_S_)))))

def shares4 (v : P4) : P4 :=
  Host.divf v (broadcastInDim S2x16384x4 ![0, 1, 2] bcast_S2x16384x1_S2x16384x4_0_1_2
    (broadcastInDim S2x16384x1 ![0, 1] bcast_S2x16384_S2x16384x1_0_1
      (Host.reduceAdd v (constant S_ .f32 0x00000000#32) reducesTo_S2x16384x4_S2x16384_d2 h_S_)))

def exps8 (v : P8) : P8 :=
  Host.exp (subf v (broadcastInDim S2x16384x8 ![0, 1, 2] bcast_S2x16384x1_S2x16384x8_0_1_2
    (broadcastInDim S2x16384x1 ![0, 1] bcast_S2x16384_S2x16384x1_0_1
      (maximumf (broadcastInDim S2x16384 ![] bcast_S_S2x16384 (constant S_ .f32 0xFF800000#32))
        (Host.reduce FloatOps.maximumf v (constant S_ .f32 0xFF800000#32) reducesTo_S2x16384x8_S2x16384_d2 h_S_)))))

def shares8 (v : P8) : P8 :=
  Host.divf v (broadcastInDim S2x16384x8 ![0, 1, 2] bcast_S2x16384x1_S2x16384x8_0_1_2
    (broadcastInDim S2x16384x1 ![0, 1] bcast_S2x16384_S2x16384x1_0_1
      (Host.reduceAdd v (constant S_ .f32 0x00000000#32) reducesTo_S2x16384x8_S2x16384_d2 h_S_)))

theorem max_bot {n : ℕ} (v : Fin n → EReal) (a : Fin n) (h : First (fun _ => True) v a) :
    max (⊥ : EReal) (Finset.fold max ⊥ v Finset.univ) = v a := by
  rw [max_eq_right bot_le]
  have e := Route.fold_max (fun _ => True) v a h
  simpa using e

section Soft

variable (b : Fin 2) (s : Fin 16384)

theorem soft4_apply (v : P4) (a : Fin 4) (h : First (fun _ => True) (fun g => (v (ix3 b s g) : EReal)) a) (g : Fin 4) :
    shares4 (exps4 v) (ix3 b s g) = soft (fun g => (v (ix3 b s g) : EReal)) (v (ix3 b s a)) g := by
  have e : ∀ g, exps4 v (ix3 b s g) = Ideal.exp ((v (ix3 b s g) : EReal) - v (ix3 b s a)) := by
    intro g
    pointwise [exps4]
    rw [Cert.OutprojIdeal.Block.neg_inf, max_bot (fun g => (v (ix3 b s g) : EReal)) a h]
  generalize exps4 v = w at e
  pointwise [shares4]
  simp only [e]
  rfl

theorem soft8_apply (v : P8) (a : Fin 8) (h : First (fun _ => True) (fun g => (v (ix3 b s g) : EReal)) a) (g : Fin 8) :
    shares8 (exps8 v) (ix3 b s g) = soft (fun g => (v (ix3 b s g) : EReal)) (v (ix3 b s a)) g := by
  have e : ∀ g, exps8 v (ix3 b s g) = Ideal.exp ((v (ix3 b s g) : EReal) - v (ix3 b s a)) := by
    intro g
    pointwise [exps8]
    rw [Cert.OutprojIdeal.Block.neg_inf, max_bot (fun g => (v (ix3 b s g) : EReal)) a h]
  generalize exps8 v = w at e
  pointwise [shares8]
  simp only [e]
  rfl

end Soft

/-! ## The choices -/

theorem gt_true (x y : EReal) : (FloatOps.cmpfTotal (F := Ideal) (φ := .f32) CmpDirection.gt x y == 1#1) = decide (y < x) := by
  show (Ideal.cmp .ogt x y == 1#1) = _
  unfold Ideal.cmp
  by_cases h : y < x
  · simp [h]
  · simp [h]

theorem along3 {n : ℕ} (b : Fin 2) (s : Fin 16384) (x y : Fin n) :
    Shape.Idx.along (s := ⟨3, ![2, 16384, n]⟩) (ix3 b s x) 2 y = ix3 b s y := by
  funext a
  match a with
  | ⟨0, _⟩ => rfl
  | ⟨1, _⟩ => rfl
  | ⟨2, _⟩ => rfl

/-- The place of the greatest group probability, as a word. -/
def choice4 (p : P4) : IVec S2x16384x1 32 :=
  (Host.topK S2x16384x1 2 (FloatOps.cmpfTotal .gt) p sliceFits_S2x16384x4_S2x16384x1).2

/-- The two greatest expert probabilities, and their places. -/
def top8 (p : P8) : P2 := (Host.topK S2x16384x2 2 (FloatOps.cmpfTotal .gt) p sliceFits_S2x16384x8_S2x16384x2).1
def choice8 (p : P8) : IVec S2x16384x2 32 :=
  (Host.topK S2x16384x2 2 (FloatOps.cmpfTotal .gt) p sliceFits_S2x16384x8_S2x16384x2).2

section Choice

variable (b : Fin 2) (s : Fin 16384)

/-- The comparison of the sort of a row, as the order of its values. -/
theorem order_eq {n : ℕ} (p : FVec Ideal ⟨3, ![2, 16384, n]⟩ .f32) (x : Fin n) :
    (fun k k' : Fin n => FloatOps.cmpfTotal CmpDirection.gt
        (p (Shape.Idx.along (s := ⟨3, ![2, 16384, n]⟩) (ix3 b s x) 2 k))
        (p (Shape.Idx.along (s := ⟨3, ![2, 16384, n]⟩) (ix3 b s x) 2 k')) == 1#1)
      = fun k k' => decide ((p (ix3 b s k') : EReal) < p (ix3 b s k)) := by
  funext k k'
  rw [along3, along3]
  exact gt_true _ _

theorem choice4_apply (p : P4) (a : Fin 4) (h : First (fun _ => True) (fun g => (p (ix3 b s g) : EReal)) a) :
    choice4 p (ix3 b s 0) = BitVec.ofNat 32 a.val := by
  unfold choice4 Host.topK Host.sort2
  pointwise []
  have e := order_eq b s p 0
  refine congrArg (fun k : Fin 4 => BitVec.ofNat 32 k.val) ?_
  refine (congrArg (fun B => sortedFrom B (0 : Fin 4)) e).trans ?_
  exact Route.sorted_first _ a h 0 rfl

theorem choice8_first (p : P8) (i : Fin 8) (h : First (fun _ => True) (fun g => (p (ix3 b s g) : EReal)) i) :
    choice8 p (ix3 b s 0) = BitVec.ofNat 32 i.val := by
  unfold choice8 Host.topK Host.sort2
  pointwise []
  have e := order_eq b s p 0
  refine congrArg (fun k : Fin 8 => BitVec.ofNat 32 k.val) ?_
  refine (congrArg (fun B => sortedFrom B (0 : Fin 8)) e).trans ?_
  exact Route.sorted_first _ i h 0 rfl

theorem choice8_second (p : P8) (i j : Fin 8) (h : First (fun _ => True) (fun g => (p (ix3 b s g) : EReal)) i)
    (h' : First (fun g => g ≠ i) (fun g => (p (ix3 b s g) : EReal)) j) :
    choice8 p (ix3 b s 1) = BitVec.ofNat 32 j.val := by
  unfold choice8 Host.topK Host.sort2
  pointwise []
  have e := order_eq b s p 1
  refine congrArg (fun k : Fin 8 => BitVec.ofNat 32 k.val) ?_
  refine (congrArg (fun B => sortedFrom B (1 : Fin 8)) e).trans ?_
  exact Route.sorted_second _ i j h h' 1 rfl

theorem top8_first (p : P8) (i : Fin 8) (h : First (fun _ => True) (fun g => (p (ix3 b s g) : EReal)) i) :
    top8 p (ix3 b s 0) = p (ix3 b s i) := by
  unfold top8 Host.topK Host.sort2
  pointwise []
  have e := order_eq b s p 0
  refine (congrArg p (along3 b s 0 _)).trans (congrArg (fun k => p (ix3 b s k)) ?_)
  refine (congrArg (fun B => sortedFrom B (0 : Fin 8)) e).trans ?_
  exact Route.sorted_first _ i h 0 rfl

theorem top8_second (p : P8) (i j : Fin 8) (h : First (fun _ => True) (fun g => (p (ix3 b s g) : EReal)) i)
    (h' : First (fun g => g ≠ i) (fun g => (p (ix3 b s g) : EReal)) j) :
    top8 p (ix3 b s 1) = p (ix3 b s j) := by
  unfold top8 Host.topK Host.sort2
  pointwise []
  have e := order_eq b s p 1
  refine (congrArg p (along3 b s 1 _)).trans (congrArg (fun k => p (ix3 b s k)) ?_)
  refine (congrArg (fun B => sortedFrom B (1 : Fin 8)) e).trans ?_
  exact Route.sorted_second _ i j h h' 1 rfl

/-- The chosen group of a token, as a row of zeros and a one. -/
def onehot4 (c : IVec S2x16384x1 32) : P4 :=
  uitofp .f32 (cmpi .eq (broadcastInDim S2x16384x4 ![0, 1, 2] bcast_S2x16384x1_S2x16384x4_0_1_2
      (broadcastInDim S2x16384x1 ![0, 1] bcast_S2x16384_S2x16384x1_0_1 (shapeCast _ c shapeCasts_S2x16384x1_S2x16384)))
    (broadcastInDim S2x16384x4 ![0, 1, 2] bcast_S1x1x4_S2x16384x4_0_1_2 (iotaInDim S1x1x4 32 2)))

theorem word_one (i n : ℕ) (hi : i < 2147483648) (hn : n < 2147483648) :
    (FloatOps.uitofp FTy.f32 (IntOp.cmpi CmpIPredicate.eq (BitVec.ofNat 32 i) (BitVec.ofNat 32 n)) : Ideal .f32)
      = (if i = n then 1 else 0 : EReal) := by
  have h := Cert.OutprojIdeal.Block.ofNat_inj i n hi hn
  show (((IntOp.cmpi CmpIPredicate.eq (BitVec.ofNat 32 i) (BitVec.ofNat 32 n)).toNat : ℝ) : EReal) = _
  unfold IntOp.cmpi
  by_cases e : i = n
  · simp [e]
  · simp [e, beq_eq_false_iff_ne.2 fun c => e (h.1 c)]

theorem onehot4_apply (c : IVec S2x16384x1 32) (a : Fin 4) (h : c (ix3 b s 0) = BitVec.ofNat 32 a.val) (g : Fin 4) :
    onehot4 c (ix3 b s g) = (if a = g then 1 else 0 : EReal) := by
  pointwise [onehot4]
  rw [h, word_one _ _ (by omega) (by omega)]
  simp only [Fin.ext_iff]

/-- The expert logits of the chosen group. -/
def chosen (z : P48) (o : P4) : P8 :=
  Host.dotGeneral (F := Ideal) dot_S2x16384x4x8_S2x16384x4_S2x16384x8_2_2_3_n_01_01 none z o

theorem chosen_apply (z : P48) (o : P4) (a : Fin 4) (h : ∀ g, o (ix3 b s g) = (if a = g then 1 else 0 : EReal)) (e : Fin 8) :
    chosen z o (ix3 b s e) = z (ix4 b s a e) := by
  pointwise [chosen]
  rw [Finset.sum_eq_single a]
  · rw [h, if_pos rfl, mul_one]
  · intro g _ hg
    rw [h, if_neg (Ne.symm hg), mul_zero]
  · intro hn
    exact absurd (Finset.mem_univ a) hn

end Choice

/-! ## The weights -/

/-- The two probabilities over their sum. -/
def normalised (p : P2) : P2 :=
  Host.divf p (broadcastInDim S2x16384x2 ![0, 1, 2] bcast_S2x16384x1_S2x16384x2_0_1_2
    (broadcastInDim S2x16384x1 ![0, 1] bcast_S2x16384_S2x16384x1_0_1
      (Host.reduceAdd p (constant S_ .f32 0x00000000#32) reducesTo_S2x16384x2_S2x16384_d2 h_S_)))

/-- The chosen group's probability. -/
def groupShare (p o : P4) : FVec Ideal S2x16384x1 .f32 :=
  broadcastInDim S2x16384x1 ![0, 1] bcast_S2x16384_S2x16384x1_0_1
    (Host.reduceAdd (mulf p o) (constant S_ .f32 0x00000000#32) reducesTo_S2x16384x4_S2x16384_d2 h_S_)

/-- The weights of the experts in the chosen group. -/
def within (c : IVec S2x16384x2 32) (q : P2) (w : FVec Ideal S2x16384x1 .f32) : P8 :=
  mulf (Host.reduceAdd (mulf
      (uitofp .f32 (cmpi .eq (broadcastInDim S2x16384x2x8 ![0, 1, 2, 3] bcast_S2x16384x2x1_S2x16384x2x8_0_1_2_3
          (broadcastInDim S2x16384x2x1 ![0, 1, 2] bcast_S2x16384x2_S2x16384x2x1_0_1_2 c))
        (broadcastInDim S2x16384x2x8 ![0, 1, 2, 3] bcast_S1x1x1x8_S2x16384x2x8_0_1_2_3 (iotaInDim S1x1x1x8 32 3))))
      (broadcastInDim S2x16384x2x8 ![0, 1, 2, 3] bcast_S2x16384x2x1_S2x16384x2x8_0_1_2_3
        (broadcastInDim S2x16384x2x1 ![0, 1, 2] bcast_S2x16384x2_S2x16384x2x1_0_1_2 q)))
      (constant S_ .f32 0x00000000#32) reducesTo_S2x16384x2x8_S2x16384x8_d2 h_S_)
    (broadcastInDim S2x16384x8 ![0, 1, 2] bcast_S2x16384x1_S2x16384x8_0_1_2 w)

/-- The weights of all experts, in the lanes of a row. -/
def combined (o : P4) (w : P8) : FVec Ideal S2x16384x128 .f32 :=
  pad S2x16384x128 ![0, 0, 4] ![0, 0, 92] ![0, 0, 0]
    (shapeCast _ (mulf
      (broadcastInDim S2x16384x4x8 ![0, 1, 2, 3] bcast_S2x16384x4x1_S2x16384x4x8_0_1_2_3
        (broadcastInDim S2x16384x4x1 ![0, 1, 2] bcast_S2x16384x4_S2x16384x4x1_0_1_2 o))
      (broadcastInDim S2x16384x4x8 ![0, 1, 2, 3] bcast_S2x16384x1x8_S2x16384x4x8_0_1_2_3
        (broadcastInDim S2x16384x1x8 ![0, 1, 3] bcast_S2x16384x8_S2x16384x1x8_0_1_3 w)))
      shapeCasts_S2x16384x4x8_S2x16384x32)
    (sitofp .f32 (constantI S_ 32 0#32)) pads_S2x16384x32_S2x16384x128_000_000_4920 h_S_

section Weights

variable (b : Fin 2) (s : Fin 16384)

theorem normalised_apply (p : P2) (k : Fin 2) :
    normalised p (ix3 b s k) = Ideal.div (p (ix3 b s k)) ((p (ix3 b s 0) : EReal) + p (ix3 b s 1)) := by
  pointwise [normalised]
  rw [Fin.sum_univ_two]

theorem groupShare_apply (p o : P4) :
    groupShare p o (ix3 b s 0) = ∑ x : Fin 4, (p (ix3 b s x) : EReal) * o (ix3 b s x) := by
  pointwise [groupShare]

theorem within_apply (c : IVec S2x16384x2 32) (q : P2) (w : FVec Ideal S2x16384x1 .f32) (i j : Fin 8)
    (hi : c (ix3 b s 0) = BitVec.ofNat 32 i.val) (hj : c (ix3 b s 1) = BitVec.ofNat 32 j.val) (e : Fin 8) :
    within c q w (ix3 b s e) = ((if i = e then 1 else 0 : EReal) * q (ix3 b s 0) + (if j = e then 1 else 0) * q (ix3 b s 1))
      * w (ix3 b s 0) := by
  pointwise [within]
  rw [Fin.sum_univ_two, hi, hj, word_one _ _ (by omega) (by omega), word_one _ _ (by omega) (by omega)]
  simp only [Fin.ext_iff]

theorem combined_apply (o : P4) (w : P8) (x : Fin 128) :
    combined o w (ix3 b s x) = (if h : 4 ≤ x.val ∧ x.val < 36 then
      (o (ix3 b s ⟨(x.val - 4) / 8, by omega⟩) : EReal) * w (ix3 b s ⟨(x.val - 4) % 8, by omega⟩) else 0 : EReal) := by
  pointwise [combined]
  by_cases h : 4 ≤ x.val ∧ x.val < 36
  · rw [dif_pos h, dif_pos (by omega)]
  · rw [dif_neg h, dif_neg (by omega)]
    exact zero_pad

end Weights

/-! ## The logits -/

def logits4 (h : T) (wg : FVec Ideal S1024x4 .f32) (gb : FVec Ideal S4 .f32) : P4 :=
  addf (Host.dotGeneral dot_S2x16384x1024_S1024x4_S2x16384x4_2_0_01_1_n_n none h wg)
    (broadcastInDim S2x16384x4 ![0, 1, 2] bcast_S1x1x4_S2x16384x4_0_1_2 (broadcastInDim S1x1x4 ![2] bcast_S4_S1x1x4_2 gb))

def logits48 (h : T) (we : FVec Ideal S1024x4x8 .f32) (eb : FVec Ideal S4x8 .f32) : P48 :=
  addf (Host.dotGeneral dot_S2x16384x1024_S1024x4x8_S2x16384x4x8_2_0_01_12_n_n none h we)
    (broadcastInDim S2x16384x4x8 ![0, 1, 2, 3] bcast_S1x1x4x8_S2x16384x4x8_0_1_2_3
      (broadcastInDim S1x1x4x8 ![2, 3] bcast_S4x8_S1x1x4x8_2_3 eb))

theorem logits4_apply (h : T) (wg : FVec Ideal S1024x4 .f32) (gb : FVec Ideal S4 .f32) (b : Fin 2) (s : Fin 16384) (g : Fin 4) :
    logits4 h wg gb (ix3 b s g) = (∑ k : Fin 1024, (h (ix3 b s k) : EReal) * wg (ix2 k g)) + gb (ix1 g) := by
  pointwise [logits4]

theorem logits48_apply (h : T) (we : FVec Ideal S1024x4x8 .f32) (eb : FVec Ideal S4x8 .f32) (b : Fin 2) (s : Fin 16384)
    (g : Fin 4) (e : Fin 8) :
    logits48 h we eb (ix4 b s g e) = (∑ k : Fin 1024, (h (ix3 b s k) : EReal) * we (ix3 k g e)) + eb (ix2 g e) := by
  pointwise [logits48]

/-! ## The result -/

/-- The routing weights, from the two kinds of logits. -/
def chooseT (p : P4) : P4 := onehot4 (choice4 p)
def weightT (p o : P4) (p8 : P8) : FVec Ideal S2x16384x128 .f32 :=
  combined o (within (choice8 p8) (normalised (top8 p8)) (groupShare p o))
def routeT (v : P4) (z : P48) : FVec Ideal S2x16384x128 .f32 :=
  weightT (shares4 (exps4 v)) (chooseT (shares4 (exps4 v)))
    (shares8 (exps8 (chosen z (chooseT (shares4 (exps4 v))))))

theorem routeT_apply (v : P4) (z : P48) (b : Fin 2) (s : Fin 16384) (G : Fin 4 → EReal) (E : Fin 4 → Fin 8 → EReal)
    (hv : ∀ g, v (ix3 b s g) = G g) (hz : ∀ g e, z (ix4 b s g e) = E g e) (hG : ∀ g, IsReal (G g))
    (hE : ∀ g e, IsReal (E g e)) (x : Fin 128) : routeT v z (ix3 b s x) = Route.lanes G E x := by
  have eG : (fun g => (v (ix3 b s g) : EReal)) = G := funext hv
  have hgs := Route.best_spec G
  have hp : ∀ g, shares4 (exps4 v) (ix3 b s g) = soft G (G (best G)) g := by
    intro g
    rw [soft4_apply b s v (best G) (by rw [eG]; exact hgs), eG, hv]
  obtain ⟨G', hG'⟩ : ∃ G' : Fin 4 → ℝ, G = fun g => (G' g : EReal) := by
    choose G' hG' using hG
    exact ⟨G', funext hG'⟩
  have fp : First (fun _ => True) (fun g => (shares4 (exps4 v) (ix3 b s g) : EReal)) (best G) := by
    rw [funext hp]
    generalize best G = a at hgs ⊢
    rw [hG'] at hgs ⊢
    exact Route.first_soft _ G' (G' a) a hgs
  unfold routeT weightT Route.lanes
  generalize shares4 (exps4 v) = p at hp fp ⊢
  have ho : ∀ g, chooseT p (ix3 b s g) = (if best G = g then 1 else 0 : EReal) :=
    onehot4_apply b s _ (best G) (choice4_apply b s p _ fp)
  generalize chooseT p = o at ho ⊢
  have hq : ∀ e, chosen z o (ix3 b s e) = E (best G) e := fun e => by rw [chosen_apply b s z o (best G) ho, hz]
  generalize chosen z o = q at hq ⊢
  generalize best G = gs at *
  have eq' : (fun e => (q (ix3 b s e) : EReal)) = E gs := funext hq
  have hi := Route.best_spec (E gs)
  have hj := Route.next_spec (E gs)
  have h8 : ∀ e, shares8 (exps8 q) (ix3 b s e) = soft (E gs) (E gs (best (E gs))) e := by
    intro e
    rw [soft8_apply b s q (best (E gs)) (by rw [eq']; exact hi), eq', hq]
  obtain ⟨E', hE'⟩ : ∃ E' : Fin 8 → ℝ, E gs = fun e => (E' e : EReal) := by
    choose E' hE' using hE gs
    exact ⟨E', funext hE'⟩
  have hij := hj.mem
  have f8 : First (fun _ => True) (fun g => (shares8 (exps8 q) (ix3 b s g) : EReal)) (best (E gs)) := by
    rw [funext h8]
    generalize best (E gs) = a at hi ⊢
    rw [hE'] at hi ⊢
    exact Route.first_soft _ E' (E' a) a hi
  have g8 : First (fun e => e ≠ best (E gs)) (fun g => (shares8 (exps8 q) (ix3 b s g) : EReal)) (next (E gs)) := by
    rw [funext h8]
    generalize next (E gs) = c at hj ⊢
    generalize best (E gs) = a at hj ⊢
    rw [hE'] at hj ⊢
    exact Route.first_soft _ E' (E' a) c hj
  generalize shares8 (exps8 q) = p8 at h8 f8 g8 ⊢
  generalize best (E gs) = i at *
  generalize next (E gs) = j at *
  rw [combined_apply]
  by_cases h : 4 ≤ x.val ∧ x.val < 36
  · rw [dif_pos h, dif_pos h, within_apply b s _ _ _ i j (choice8_first b s p8 i f8) (choice8_second b s p8 i j f8 g8),
      normalised_apply, normalised_apply, top8_first b s p8 i f8, top8_second b s p8 i j f8 g8, h8, h8, groupShare_apply, ho,
      ← Route.plain_eq G E hG hE gs i j hij]
    simp only [hp, ho]
    rfl
  · rw [dif_neg h, dif_neg h]

/-- The router's weights among the arguments. -/
def router (V0 : Valuation τ sig (Elt Ideal)) : Outproj.Router where
  wg k g := (V0 (Proc.devRef .tc main_arg9) : FVec Ideal S1024x4 .f32) (ix2 k g)
  bg g := (V0 (Proc.devRef .tc main_arg10) : FVec Ideal S4 .f32) (ix1 g)
  we k g e := (V0 (Proc.devRef .tc main_arg11) : FVec Ideal S1024x4x8 .f32) (ix3 k g e)
  be g e := (V0 (Proc.devRef .tc main_arg12) : FVec Ideal S4x8 .f32) (ix2 g e)

/-- The second result of the run. -/
def comb (V0 : Valuation τ sig (Elt Ideal)) : FVec Ideal S2x16384x128 .f32 :=
  routeT (logits4 (res_main_v53 V0) (V0 (Proc.devRef .tc main_arg9)) (V0 (Proc.devRef .tc main_arg10)))
    (logits48 (res_main_v53 V0) (V0 (Proc.devRef .tc main_arg11)) (V0 (Proc.devRef .tc main_arg12)))

/-- It holds the routing weights of every token, when the arguments are real numbers. -/
theorem comb_apply (V0 : Valuation τ sig (Elt Ideal)) (hR : Outproj.Real (args V0) (router V0)) (b : Fin 2) (s : Fin 16384)
    (x : Fin 128) : comb V0 (ix3 b s x) = Outproj.route (args V0) (router V0) b s x := by
  unfold comb Outproj.route
  have hr := res_apply V0 b s
  have hg := Outproj.group_real hR b s
  have he := Outproj.expert_real hR b s
  refine routeT_apply _ _ b s _ _ ?_ ?_ hg he x
  · intro g
    rw [logits4_apply]
    unfold Outproj.group
    simp only [hr]
    rfl
  · intro g e
    rw [logits48_apply]
    unfold Outproj.expert
    simp only [hr]
    rfl

end Cert.OutprojRefIdeal.Value
end
-- ==== Proof.AttnBlock.lean ====
module

public import proofs.«01_k».proof.Proof.Gen.AttnIdeal.Value
public import proofs.«01_k».proof.Proof.OnlineSoftmax

@[expose] public section

/-!
# One grid point of the attention kernel

What the kernel leaves in its output block: for every row of the query block and every column of the
values, the quotient of the weighted sum and the sum of the weights over all 16384 keys. The keys come
in 32 blocks of 512, and the loop over them carries the row maximum, the sum and the weighted sum.
-/

set_option maxRecDepth 16384

noncomputable section

namespace Cert.AttnIdeal.Block

open Cert.AttnIdeal Cert.AttnIdeal.Gen Idealize.ShloMosaic Idealize.ShloMosaic.TcCoe Idealize.SL.Sem
open Idealize.ShloMosaic.Pipeline (Dat)

variable {F : FTy → Type} [FloatOps F]

theorem hz : (![0, 0, 0, 0] : Fin 4 → Nat) = fun _ => 0 := funext fun a => by fin_cases a <;> rfl

theorem trip_eq (𝒱 : Variants) (c : Dev nD) (bd : Option 𝒱.V) (i : grid0.Coords) (arg3 : Memref sig .tc .vmem S1x1x512x96 .bf16) (harg3 : arg3.IsWhole) (arg4 : Memref sig .tc .vmem S1x1x16384x96 .bf16) (harg4 : arg4.IsWhole) (arg5 : Memref sig .tc .vmem S1x1x16384x64 .bf16) (harg5 : arg5.IsWhole) (arg6 : Memref sig .tc .vmem S1x1x512x64 .bf16) (harg6 : arg6.IsWhole) (v0 : Vec F S1x1x512x96 .bf16) (x1 : Vec F S1x1x16384x96 .bf16) (x2 : Vec F S1x1x16384x64 .bf16) (k : Fin k0_t1_loop.trips) (acc : FVec F S512x1 .f32 × FVec F S512x1 .f32 × FVec F S512x64 .f32) :
    tripR_k0_t1 𝒱 c bd i arg3 harg3 arg4 harg4 arg5 harg5 arg6 harg6 v0 (harg4.unread x1) (harg5.unread x2) k acc
      = (k0_pay5 v0 acc.1 (View.ld x1 (Rect.unit (s := S1x1x16384x96) (k0_off1 k) S1x1x512x96.size (k0_off1_inb k))),
          k0_pay8 v0 acc.1 acc.2.1 (View.ld x1 (Rect.unit (s := S1x1x16384x96) (k0_off1 k) S1x1x512x96.size (k0_off1_inb k))),
          k0_pay9 v0 acc.1 acc.2.2 (View.ld x1 (Rect.unit (s := S1x1x16384x96) (k0_off1 k) S1x1x512x96.size (k0_off1_inb k)))
            (View.ld x2 (Rect.unit (s := S1x1x16384x64) (k0_off2 k) S1x1x512x64.size (k0_off2_inb k)))) := by
  unfold tripR_k0_t1 trip_k0_t1
  dsimp only
  simp only [View.readAt_eq_ld, harg4.read_unread, harg5.read_unread]

/-! ## The payloads at an index -/

section Ideal

abbrev Q := Vec Ideal S1x1x512x96 .bf16
abbrev K := Vec Ideal S1x1x16384x96 .bf16
abbrev W := Vec Ideal S1x1x16384x64 .bf16

/-- The keys of block `k`. -/
def keys (x1 : K) (k : Fin k0_t1_loop.trips) : Q :=
  View.ld x1 (Rect.unit (s := S1x1x16384x96) (k0_off1 k) S1x1x512x96.size (k0_off1_inb k))

/-- The values of block `k`. -/
def vals (x2 : W) (k : Fin k0_t1_loop.trips) : Vec Ideal S1x1x512x64 .bf16 :=
  View.ld x2 (Rect.unit (s := S1x1x16384x64) (k0_off2 k) S1x1x512x64.size (k0_off2_inb k))

theorem trips_eq : k0_t1_loop.trips = 32 := by decide +kernel

theorem off1_eq : ∀ k, k0_off1 k = ![0, 0, k.val * 512, 0] := by decide +kernel
theorem off2_eq : ∀ k, k0_off2 k = ![0, 0, k.val * 512, 0] := by decide +kernel

/-- Row `x` of key block `k` is key `512 k + x`. -/
theorem keys_apply (x1 : K) (k : Fin k0_t1_loop.trips) (x : Fin 512) (d : Fin 96)
    (h : k.val * 512 + x.val < 16384) :
    keys x1 k (ix4 0 0 x d) = x1 (ix4 0 0 ⟨k.val * 512 + x.val, h⟩ d) := by
  pointwise [keys]
  have e2 : k0_off1 k 2 = k.val * 512 := by rw [off1_eq k]; rfl
  have e3 : k0_off1 k 3 = 0 := by rw [off1_eq k]; rfl
  refine congrArg x1 (congrArg₂ (fun p q => ix4 _ _ p q) (Fin.ext ?_) (Fin.ext ?_))
  · show k0_off1 k 2 + x.val = _
    rw [e2]
  · show k0_off1 k 3 + d.val = _
    rw [e3, zero_add]

/-- Row `x` of value block `k` is value `512 k + x`. -/
theorem vals_apply (x2 : W) (k : Fin k0_t1_loop.trips) (x : Fin 512) (d : Fin 64)
    (h : k.val * 512 + x.val < 16384) :
    vals x2 k (ix4 0 0 x d) = x2 (ix4 0 0 ⟨k.val * 512 + x.val, h⟩ d) := by
  pointwise [vals]
  have e2 : k0_off2 k 2 = k.val * 512 := by rw [off2_eq k]; rfl
  have e3 : k0_off2 k 3 = 0 := by rw [off2_eq k]; rfl
  refine congrArg x2 (congrArg₂ (fun p q => ix4 _ _ p q) (Fin.ext ?_) (Fin.ext ?_))
  · show k0_off2 k 2 + x.val = _
    rw [e2]
  · show k0_off2 k 3 + d.val = _
    rw [e3, zero_add]

/-- The scores of a query block against a key block. -/
theorem pay4_apply (v0 v16 : Q) (r k : Fin 512) :
    k0_pay4 v0 v16 (ix2 r k) = ∑ x : Fin 96, v0 (ix4 0 0 r x) * v16 (ix4 0 0 k x) := by
  pointwise [k0_pay4]

theorem negInf : Ideal.ofBits FTy.f32 4286578688#32 = (⊥ : EReal) := by
  simp [Ideal.ofBits, Ideal.ieee]

theorem pay1_apply (r : Fin 512) : k0_pay1 (F := Ideal) (ix2 r 0) = (⊥ : EReal) := by
  pointwise [k0_pay1]
  exact negInf

theorem pay2_apply (r : Fin 512) : k0_pay2 (F := Ideal) (ix2 r 0) = (0 : EReal) := by
  pointwise [k0_pay2]

theorem pay3_apply (r : Fin 512) (d : Fin 64) : k0_pay3 (F := Ideal) (ix2 r d) = (0 : EReal) := by
  pointwise [k0_pay3]

/-- The new row maximum. -/
theorem pay5_apply (v0 v16 : Q) (a : FVec Ideal S512x1 .f32) (r : Fin 512) :
    k0_pay5 v0 a v16 (ix2 r 0) = max (a (ix2 r 0) : EReal)
      (Finset.univ.fold max (⊥ : EReal) fun x : Fin 512 => k0_pay4 v0 v16 (ix2 r x)) := by
  pointwise [k0_pay5]
  rw [negInf]

/-- The new sum of weights. -/
theorem pay8_apply (v0 v16 : Q) (a b : FVec Ideal S512x1 .f32) (r : Fin 512) :
    k0_pay8 v0 a b v16 (ix2 r 0)
      = Ideal.exp2 ((a (ix2 r 0) : EReal) - k0_pay5 v0 a v16 (ix2 r 0)) * b (ix2 r 0)
        + ∑ x : Fin 512, Ideal.exp2 ((k0_pay4 v0 v16 (ix2 r x) : EReal) - k0_pay5 v0 a v16 (ix2 r 0)) := by
  pointwise [k0_pay8, k0_pay6, k0_pay7]
  rfl

/-- The new weighted sum. -/
theorem pay9_apply (v0 v16 : Q) (a : FVec Ideal S512x1 .f32) (b : FVec Ideal S512x64 .f32)
    (v19 : Vec Ideal S1x1x512x64 .bf16) (r : Fin 512) (d : Fin 64) :
    k0_pay9 v0 a b v16 v19 (ix2 r d)
      = Ideal.exp2 ((a (ix2 r 0) : EReal) - k0_pay5 v0 a v16 (ix2 r 0)) * b (ix2 r d)
        + ∑ x : Fin 512, Ideal.exp2 ((k0_pay4 v0 v16 (ix2 r x) : EReal) - k0_pay5 v0 a v16 (ix2 r 0))
            * v19 (ix4 0 0 x d) := by
  pointwise [k0_pay9, k0_pay6, k0_pay7]
  rfl

/-- The block that is stored. -/
theorem pay10_apply (l : FVec Ideal S512x1 .f32) (b : FVec Ideal S512x64 .f32) (r : Fin 512)
    (d : Fin 64) : k0_pay10 l b (ix4 0 0 r d) = Ideal.div (b (ix2 r d)) (l (ix2 r 0)) := by
  pointwise [k0_pay10]

/-! ## The block -/

/-- The block number `n` of the loop. -/
def blk (n : ℕ) (h : n < 32) : Fin k0_t1_loop.trips := ⟨n, by rw [trips_eq]; exact h⟩

/-- What a row maximum, a sum and a weighted sum that are carried over the 32 blocks by the kernel's
payloads hold at the end, of the row `r` and the column `d`, when the scores of the row are reals. -/
theorem row_closed (x0 : Q) (x1 : K) (x2 : W)
    (st : ℕ → FVec Ideal S512x1 .f32 × FVec Ideal S512x1 .f32 × FVec Ideal S512x64 .f32)
    (h0 : st 0 = (k0_pay1, k0_pay2, k0_pay3))
    (hs : ∀ n (h : n < 32), st (n + 1)
      = (k0_pay5 x0 (st n).1 (keys x1 (blk n h)),
          k0_pay8 x0 (st n).1 (st n).2.1 (keys x1 (blk n h)),
          k0_pay9 x0 (st n).1 (st n).2.2 (keys x1 (blk n h)) (vals x2 (blk n h))))
    (r : Fin 512) (d : Fin 64) (S : Fin 16384 → ℝ)
    (hS : ∀ n : Fin 16384, (∑ x : Fin 96, x0 (ix4 0 0 r x) * x1 (ix4 0 0 n x) : EReal) = (S n : EReal)) :
    ∃ M : ℝ, (st 32).2.1 (ix2 r 0) = ∑ n : Fin 16384, (OnlineSoftmax.w (S n) M : EReal)
      ∧ (st 32).2.2 (ix2 r d) = ∑ n : Fin 16384, (OnlineSoftmax.w (S n) M : EReal) * x2 (ix4 0 0 n d) := by
  have hb : ∀ n, n < 32 → ∀ x : Fin 512, n * 512 + x.val < 16384 := fun n h x =>
    OnlineSoftmax.block_lt (B := 512) (N := 32) (by norm_num) h x
  have hsc : ∀ n (h : n < 32) (x : Fin 512), k0_pay4 x0 (keys x1 (blk n h)) (ix2 r x)
      = ((S ⟨n * 512 + x.val, hb n h x⟩ : ℝ) : EReal) := fun n h x => by
    rw [pay4_apply, ← hS]
    exact Finset.sum_congr rfl fun y _ => congrArg _ (keys_apply x1 (blk n h) x y (hb n h x))
  have hva : ∀ n (h : n < 32) (x : Fin 512),
      vals x2 (blk n h) (ix4 0 0 x d) = x2 (ix4 0 0 ⟨n * 512 + x.val, hb n h x⟩ d) :=
    fun n h x => vals_apply x2 (blk n h) x d (hb n h x)
  have hmn : ∀ n (h : n < 32), k0_pay5 x0 (st n).1 (keys x1 (blk n h)) (ix2 r 0)
      = (st (n + 1)).1 (ix2 r 0) := fun n h => by rw [hs n h]
  refine OnlineSoftmax.carry_total 512 32 16384 (by norm_num) (by norm_num) S
    (fun n => x2 (ix4 0 0 n d))
    (fun n => (st n).1 (ix2 r 0)) (fun n => (st n).2.1 (ix2 r 0)) (fun n => (st n).2.2 (ix2 r d))
    ((congrArg (fun p => p.1 (ix2 r 0)) h0).trans (pay1_apply r))
    ((congrArg (fun p => p.2.1 (ix2 r 0)) h0).trans (pay2_apply r))
    ((congrArg (fun p => p.2.2 (ix2 r d)) h0).trans (pay3_apply r d)) ?_ ?_ ?_
  · intro n h
    rw [← hmn n h]
    refine (pay5_apply _ _ _ r).trans ?_
    rw [funext (hsc n h)]
  · intro n h
    rw [← hmn n h, hs n h]
    refine (pay8_apply _ _ _ _ r).trans ?_
    refine congrArg _ (Finset.sum_congr rfl fun x _ => ?_)
    rw [hsc n h x]
  · intro n h
    rw [← hmn n h, hs n h]
    refine (pay9_apply _ _ _ _ _ r d).trans ?_
    refine congrArg _ (Finset.sum_congr rfl fun x _ => ?_)
    rw [hsc n h x, hva n h x]

/-- The stored block is the quotient of what the loop carries out. -/
theorem out_eq (c : Dev nD) (i : grid0.Coords) (arg3 : Memref sig .tc .vmem S1x1x512x96 .bf16) (harg3 : arg3.IsWhole) (arg4 : Memref sig .tc .vmem S1x1x16384x96 .bf16) (harg4 : arg4.IsWhole) (arg5 : Memref sig .tc .vmem S1x1x16384x64 .bf16) (harg5 : arg5.IsWhole) (arg6 : Memref sig .tc .vmem S1x1x512x64 .bf16) (harg6 : arg6.IsWhole)
    (x0 : Q) (x1 : K) (x2 : W) :
    out0_A_3 c i arg3 harg3 arg4 harg4 arg5 harg5 arg6 harg6 x0 x1 x2
      = k0_pay10 (st_k0_t1 Variants.none c none i arg3 harg3 arg4 harg4 arg5 harg5 arg6 harg6 x0
            (harg4.unread x1) (harg5.unread x2) (k0_pay1, k0_pay2, k0_pay3) 32).2.1
          (st_k0_t1 Variants.none c none i arg3 harg3 arg4 harg4 arg5 harg5 arg6 harg6 x0
            (harg4.unread x1) (harg5.unread x2) (k0_pay1, k0_pay2, k0_pay3) 32).2.2 := by
  unfold out0_A_3
  rw [View.read_writes_eq_canon _ _ _ (cover0_A_3 c i arg3 harg3 arg4 harg4 arg5 harg5 arg6 harg6 x0 x1 x2)]
  unfold kernelRun0_A
  dsimp only
  rw [View.canon_unit_zero hz]
  simp only [View.readAt_eq_ld, harg3.read_unread, View.ld_unit_zero (S := S1x1x512x96) hz]
  have e : Scf.trips (0#32) (Scalar.addi 0#32 32#32) 1#32 = 32 := by decide +kernel
  rw [e]

/-- If the scores of row `r` against all keys are the reals `S`, the output block holds in row `r` and
column `d` the quotient of the weighted sum of the values and the sum of the weights, with some real
number subtracted from the scores. -/
theorem out_apply (c : Dev nD) (i : grid0.Coords) (arg3 : Memref sig .tc .vmem S1x1x512x96 .bf16) (harg3 : arg3.IsWhole) (arg4 : Memref sig .tc .vmem S1x1x16384x96 .bf16) (harg4 : arg4.IsWhole) (arg5 : Memref sig .tc .vmem S1x1x16384x64 .bf16) (harg5 : arg5.IsWhole) (arg6 : Memref sig .tc .vmem S1x1x512x64 .bf16) (harg6 : arg6.IsWhole)
    (x0 : Q) (x1 : K) (x2 : W) (r : Fin 512) (d : Fin 64) (S : Fin 16384 → ℝ)
    (hS : ∀ n : Fin 16384, (∑ x : Fin 96, x0 (ix4 0 0 r x) * x1 (ix4 0 0 n x) : EReal) = (S n : EReal)) :
    ∃ M : ℝ, out0_A_3 c i arg3 harg3 arg4 harg4 arg5 harg5 arg6 harg6 x0 x1 x2 (ix4 0 0 r d)
      = Ideal.div (∑ n : Fin 16384, (OnlineSoftmax.w (S n) M : EReal) * x2 (ix4 0 0 n d))
          (∑ n : Fin 16384, (OnlineSoftmax.w (S n) M : EReal)) := by
  obtain ⟨M, e1, e2⟩ := row_closed x0 x1 x2
    (st_k0_t1 Variants.none c none i arg3 harg3 arg4 harg4 arg5 harg5 arg6 harg6 x0
      (harg4.unread x1) (harg5.unread x2) (k0_pay1, k0_pay2, k0_pay3))
    (st_k0_t1_zero ..)
    (fun n h => (st_k0_t1_succ Variants.none c none i arg3 harg3 arg4 harg4 arg5 harg5 arg6 harg6 x0
      (harg4.unread x1) (harg5.unread x2) (k0_pay1, k0_pay2, k0_pay3) (blk n h)).trans (trip_eq ..))
    r d S hS
  refine ⟨M, ?_⟩
  rw [out_eq, pay10_apply, e1, e2]

end Ideal

end Cert.AttnIdeal.Block
end
-- ==== Proof.AttnArray.lean ====
module

public import proofs.«01_k».proof.Proof.AttnBlock

@[expose] public section

/-!
# The array that the attention kernel leaves

Every row of the result is the softmax average of the values, with the scores of that row's query
against all the keys of its batch entry and head, provided queries and keys are finite.
-/

set_option maxRecDepth 16384

noncomputable section

namespace Cert.AttnIdeal.Array

open Cert.AttnIdeal Cert.AttnIdeal.Gen Idealize.ShloMosaic Idealize.ShloMosaic.TcCoe Idealize.SL.Sem
open Idealize.ShloMosaic.Pipeline (Dat)

/-- The scale, as the number that its word stands for. -/
def scale : EReal := Ideal.ofBits FTy.f32 0x3DD105EC#32

theorem scale_real : ∃ r : ℝ, scale = r := by
  unfold scale
  simp only [Ideal.ofBits, Ideal.ieee]
  simp
  exact ⟨_, rfl⟩

theorem log_two : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee]
    rw [← EReal.coe_mul]
    norm_num
  rw [h, Ideal.log_coe, if_neg (by norm_num)]

abbrev Qs := (⟨4, ![2, 8, 16384, 96]⟩ : Shape).Idx → EReal
abbrev Vs := (⟨4, ![2, 8, 16384, 64]⟩ : Shape).Idx → EReal

/-- The softmax average at batch entry `b`, head `h`, query `n` and column `d`. -/
def at4 (q k : Qs) (v : Vs) (b : Fin 2) (h : Fin 8) (n : Fin 16384) (d : Fin 64) : EReal :=
  OnlineSoftmax.avg (fun y : Fin 16384 => OnlineSoftmax.score scale (fun x => q (ix4 b h n x))
    (fun x => k (ix4 b h y x))) (fun y => v (ix4 b h y d))

variable (m : (ℓ : Loc nD τ sig) → Buf (Elt Ideal) ℓ)

/-- The queries, keys and values that the program is given. -/
abbrev qArg (c : Dev nD) : Qs := (m ((c : Thread nD τ).loc main_arg0) : FVec Ideal S2x8x16384x96 .f32)
abbrev kArg (c : Dev nD) : Qs := (m ((c : Thread nD τ).loc main_arg1) : FVec Ideal S2x8x16384x96 .bf16)
abbrev vArg (c : Dev nD) : Vs := (m ((c : Thread nD τ).loc main_arg2) : FVec Ideal S2x8x16384x64 .bf16)

theorem V_v5 (c : Dev nD) : @Eq (FVec Ideal S2x8x16384x96 .bf16) (V m c main_v5)
    (truncf .bf16 (Host.divf (mulf (m ((c : Thread nD τ).loc main_arg0) : FVec Ideal S2x8x16384x96 .f32)
      (broadcastInDim S2x8x16384x96 ![] bcast_S_S2x8x16384x96 (constant S_ .f32 0x3DD105EC#32)))
      (broadcastInDim S2x8x16384x96 ![] bcast_S_S2x8x16384x96 (Host.log (constant S_ .f32 0x40000000#32))))
      bitsLt_bf16_f32) := by
  unfold V
  after_results_simp

/-- The queries as the kernel's region finds them: scaled, and divided by `log 2`. -/
theorem V_q (c : Dev nD) (b : Fin 2) (h : Fin 8) (n : Fin 16384) (x : Fin 96) :
    (V m c main_v5 : FVec Ideal S2x8x16384x96 .bf16) (ix4 b h n x)
      = Ideal.div (qArg m c (ix4 b h n x) * scale) (Real.log 2 : ℝ) := by
  rw [V_v5]
  pointwise
  rw [← log_two]
  rfl

/-! ## The blocks of the four windows -/

theorem idx_facts : ∀ t : Fin cfg0.N,
    win0_0.index t = ![t.val / 256, t.val / 32 % 8, t.val % 32, 0]
    ∧ win0_1.index t = ![t.val / 256, t.val / 32 % 8, 0, 0]
    ∧ win0_2.index t = ![t.val / 256, t.val / 32 % 8, 0, 0]
    ∧ win0_3.index t = ![t.val / 256, t.val / 32 % 8, t.val % 32, 0] :=
  (by decide +kernel : ∀ t : Fin grid0.N, _)

theorem t_lt (t : Fin cfg0.N) : t.val < 512 := lt_of_lt_of_eq t.isLt N_0

/-- The batch entry, the head and the block of queries of a grid point. -/
def ptB (t : Fin cfg0.N) : Fin 2 := ⟨t.val / 256, by have := t_lt t; omega⟩
def ptH (t : Fin cfg0.N) : Fin 8 := ⟨t.val / 32 % 8, by omega⟩
def ptQ (t : Fin cfg0.N) (r : Fin 512) : Fin 16384 :=
  ⟨t.val % 32 * 512 + r.val, by have := r.isLt; omega⟩

theorem iblk0_apply (c : Dev nD) (t : Fin cfg0.N) (r : Fin 512) (x : Fin 96) :
    (iblk m c 0 t : Block.Q) (ix4 0 0 r x)
      = (V m c main_v5 : FVec Ideal S2x8x16384x96 .bf16) (ix4 (ptB t) (ptH t) (ptQ t r) x) := by
  have e := (idx_facts t).1
  unfold iblk
  rw [View.read_apply]
  show (V m c main_v5 : FVec Ideal S2x8x16384x96 .bf16) _ = _
  congr 1
  funext a
  apply Fin.ext
  match a with
  | ⟨0, _⟩ => show win0_0.index t 0 * 1 + 1 * 0 = t.val / 256; rw [e]; simp
  | ⟨1, _⟩ => show win0_0.index t 1 * 1 + 1 * 0 = t.val / 32 % 8; rw [e]; simp
  | ⟨2, _⟩ => show win0_0.index t 2 * 512 + 1 * r.val = t.val % 32 * 512 + r.val; rw [e]; simp
  | ⟨3, _⟩ => show win0_0.index t 3 * 96 + 1 * x.val = x.val; rw [e]; simp

theorem iblk1_apply (c : Dev nD) (t : Fin cfg0.N) (n : Fin 16384) (x : Fin 96) :
    (iblk m c 1 t : Block.K) (ix4 0 0 n x) = kArg m c (ix4 (ptB t) (ptH t) n x) := by
  have e := (idx_facts t).2.1
  unfold iblk
  rw [View.read_apply]
  show (V m c main_arg1 : FVec Ideal S2x8x16384x96 .bf16) _ = _
  rw [V_main_arg1]
  show kArg m c _ = _
  congr 1
  funext a
  apply Fin.ext
  match a with
  | ⟨0, _⟩ => show win0_1.index t 0 * 1 + 1 * 0 = t.val / 256; rw [e]; simp
  | ⟨1, _⟩ => show win0_1.index t 1 * 1 + 1 * 0 = t.val / 32 % 8; rw [e]; simp
  | ⟨2, _⟩ => show win0_1.index t 2 * 16384 + 1 * n.val = n.val; rw [e]; simp
  | ⟨3, _⟩ => show win0_1.index t 3 * 96 + 1 * x.val = x.val; rw [e]; simp

theorem iblk2_apply (c : Dev nD) (t : Fin cfg0.N) (n : Fin 16384) (x : Fin 64) :
    (iblk m c 2 t : Block.W) (ix4 0 0 n x) = vArg m c (ix4 (ptB t) (ptH t) n x) := by
  have e := (idx_facts t).2.2.1
  unfold iblk
  rw [View.read_apply]
  show (V m c main_arg2 : FVec Ideal S2x8x16384x64 .bf16) _ = _
  rw [V_main_arg2]
  show vArg m c _ = _
  congr 1
  funext a
  apply Fin.ext
  match a with
  | ⟨0, _⟩ => show win0_2.index t 0 * 1 + 1 * 0 = t.val / 256; rw [e]; simp
  | ⟨1, _⟩ => show win0_2.index t 1 * 1 + 1 * 0 = t.val / 32 % 8; rw [e]; simp
  | ⟨2, _⟩ => show win0_2.index t 2 * 16384 + 1 * n.val = n.val; rw [e]; simp
  | ⟨3, _⟩ => show win0_2.index t 3 * 64 + 1 * x.val = x.val; rw [e]; simp

/-! ## The final array -/

/-- The result: the softmax average at every index. -/
def G (c : Dev nD) : FVec Ideal S2x8x16384x64 .bf16 :=
  fun i => at4 (qArg m c) (kArg m c) (vArg m c) (i 0) (i 1) (i 2) (i 3)

theorem G_apply (c : Dev nD) (b : Fin 2) (h : Fin 8) (n : Fin 16384) (d : Fin 64) :
    G m c (ix4 b h n d) = at4 (qArg m c) (kArg m c) (vArg m c) b h n d := rfl

/-- What a grid point's block holds at row `r` and column `d`. -/
theorem block_apply (c : Dev nD) (hq : ∀ i, ∃ r : ℝ, qArg m c i = r) (hk : ∀ i, ∃ r : ℝ, kArg m c i = r)
    (t : Fin cfg0.N) (r : Fin 512) (d : Fin 64) :
    out0_A_3 c (grid0.coords t) (ms0_0 t) (hs0_0 t) (ms0_1 t) (hs0_1 t) (ms0_2 t) (hs0_2 t) (ms0_3 t)
        (hs0_3 t) (iblk m c 0 t) (iblk m c 1 t) (iblk m c 2 t) (ix4 0 0 r d)
      = at4 (qArg m c) (kArg m c) (vArg m c) (ptB t) (ptH t) (ptQ t r) d := by
  obtain ⟨σ, hσ⟩ := scale_real
  have hs := fun y : Fin 16384 => OnlineSoftmax.score_real σ
    (fun x => qArg m c (ix4 (ptB t) (ptH t) (ptQ t r) x)) (fun x => kArg m c (ix4 (ptB t) (ptH t) y x))
    (fun x => hq _) (fun x => hk _)
  choose s hs1 hs2 using hs
  obtain ⟨M, hM⟩ := Block.out_apply c (grid0.coords t) (ms0_0 t) (hs0_0 t) (ms0_1 t) (hs0_1 t) (ms0_2 t)
    (hs0_2 t) (ms0_3 t) (hs0_3 t) (iblk m c 0 t) (iblk m c 1 t) (iblk m c 2 t) r d
    (fun n => s n / Real.log 2) (fun n => by
      rw [← hs2 n]
      refine Finset.sum_congr rfl fun x _ => ?_
      rw [iblk0_apply, iblk1_apply, V_q, hσ])
  rw [hM, at4, hσ]
  simp only [hs1]
  rw [← OnlineSoftmax.ratio_eq_avg 16384 s _ M]
  simp only [iblk2_apply]

theorem flushed_eq (c : Dev nD) (hq : ∀ i, ∃ r : ℝ, qArg m c i = r) (hk : ∀ i, ∃ r : ℝ, kArg m c i = r)
    (t : Fin cfg0.N) : (dats m 0 c).flushed 3 t = ((cfg0.win 3).blk t).view.read (Elt Ideal) (G m c) := by
  have e := (idx_facts t).2.2.2
  have ho := block_apply m c hq hk t
  rw [Value.flushed3_A]
  generalize out0_A_3 c (grid0.coords t) (ms0_0 t) (hs0_0 t) (ms0_1 t) (hs0_1 t) (ms0_2 t) (hs0_2 t)
    (ms0_3 t) (hs0_3 t) (iblk m c 0 t) (iblk m c 1 t) (iblk m c 2 t) = o at ho ⊢
  funext y
  have hy0 : (y 0).val < 1 := (y 0).isLt
  have hy1 : (y 1).val < 1 := (y 1).isLt
  have hy2 : (y 2).val < 512 := (y 2).isLt
  have hy3 : (y 3).val < 64 := (y 3).isLt
  have hx : (cfg0.win 3).xinj (grid0.coords t) y
      = ix4 (0 : Fin 1) (0 : Fin 1) (⟨(y 2).val, hy2⟩ : Fin 512) (⟨(y 3).val, hy3⟩ : Fin 64) := by
    funext a
    apply Fin.ext
    match a with
    | ⟨0, _⟩ => show (y 0).val = 0; omega
    | ⟨1, _⟩ => show (y 1).val = 0; omega
    | ⟨2, _⟩ => rfl
    | ⟨3, _⟩ => rfl
  have hb : ((cfg0.win 3).blk t).view.emb y
      = ix4 (ptB t) (ptH t) (ptQ t ⟨(y 2).val, hy2⟩) (⟨(y 3).val, hy3⟩ : Fin 64) := by
    funext a
    apply Fin.ext
    match a with
    | ⟨0, _⟩ => show win0_3.index t 0 * 1 + 1 * (y 0).val = t.val / 256; rw [e]; simp; omega
    | ⟨1, _⟩ => show win0_3.index t 1 * 1 + 1 * (y 1).val = t.val / 32 % 8; rw [e]; simp; omega
    | ⟨2, _⟩ => show win0_3.index t 2 * 512 + 1 * (y 2).val = t.val % 32 * 512 + (y 2).val; rw [e]; simp
    | ⟨3, _⟩ => show win0_3.index t 3 * 64 + 1 * (y 3).val = (y 3).val; rw [e]; simp
  refine (congrArg o hx).trans ((ho _ _).trans ?_)
  rw [View.read_apply, ← G_apply]
  generalize G m c = g
  exact (congrArg g hb).symm

theorem cover (i : S2x8x16384x64.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 16384 := (i 2).isLt
  have h3 : (i 3).val < 64 := (i 3).isLt
  obtain ⟨t, ht⟩ : ∃ t : Fin cfg0.N, t.val = ((i 0).val * 8 + (i 1).val) * 32 + (i 2).val / 512 :=
    ⟨⟨((i 0).val * 8 + (i 1).val) * 32 + (i 2).val / 512, lt_of_lt_of_eq (by omega) N_0.symm⟩, rfl⟩
  have e := (idx_facts t).2.2.2
  have e0 : win0_3.index t 0 = t.val / 256 := by rw [e]; rfl
  have e1 : win0_3.index t 1 = t.val / 32 % 8 := by rw [e]; rfl
  have e2 : win0_3.index t 2 = t.val % 32 := by rw [e]; rfl
  have e3 : win0_3.index t 3 = 0 := by rw [e]; rfl
  refine ⟨t, flush0_3 t, ?_⟩
  show i ∈ ((View.whole main_v6).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 512 ≤ (i 2).val ∧ (i 2).val < win0_3.index t 2 * 512 + 512; omega
  | ⟨3, _⟩ => show win0_3.index t 3 * 64 ≤ (i 3).val ∧ (i 3).val < win0_3.index t 3 * 64 + 64; omega

/-- With finite queries and keys the run ends with the softmax averages in the result. -/
theorem final (c : Dev nD) (hq : ∀ i, ∃ r : ℝ, qArg m c i = r) (hk : ∀ i, ∃ r : ℝ, kArg m c i = r) :
    (dats m 0 c).arrAt 3 cfg0.N = G m c :=
  (dats m 0 c).arrAt_eq_of_cover 3 (G m c) (fun t _ => flushed_eq m c hq hk t) cover

end Cert.AttnIdeal.Array
end
-- ==== Proof.AttnRef.lean ====
module

public import proofs.«01_k».proof.Proof.Gen.AttnRefIdeal.Run
public import proofs.«01_k».proof.Proof.AttnArray

@[expose] public section

/-!
# What the attention reference computes

The reference's result at an index is the softmax average of `AttnArray`.
-/

set_option maxRecDepth 16384

noncomputable section

namespace Cert.AttnRefIdeal.Value

open Cert.AttnRefIdeal Cert.AttnRefIdeal.Gen Idealize.ShloMosaic Idealize.ShloMosaic.TcCoe Idealize.SL.Sem
open Cert.AttnIdeal.Array (at4 scale)

abbrev Sc := FVec Ideal S2x8x16384x16384 .f32

/-- The scores, as the reference's operations write them. -/
def sc (q k : FVec Ideal S2x8x16384x96 .f32) : Sc :=
  addf (Host.dotGeneral dot_S2x8x16384x64_S2x8x16384x64_S2x8x16384x16384_3_3_2_2_01_01 none
      (mulf (extractStridedSlice S2x8x16384x64 ![0, 0, 0, 0] q slices_S2x8x16384x96_S2x8x16384x64_0_0_0_0)
        (broadcastInDim S2x8x16384x64 ![] bcast_S_S2x8x16384x64 (constant S_ .f32 0x3DD105EC#32)))
      (extractStridedSlice S2x8x16384x64 ![0, 0, 0, 0] k slices_S2x8x16384x96_S2x8x16384x64_0_0_0_0))
    (Host.dotGeneral dot_S2x8x16384x32_S2x8x16384x32_S2x8x16384x16384_3_3_2_2_01_01 none
      (mulf (extractStridedSlice S2x8x16384x32 ![0, 0, 0, 64] q slices_S2x8x16384x96_S2x8x16384x32_0_0_0_64)
        (broadcastInDim S2x8x16384x32 ![] bcast_S_S2x8x16384x32 (constant S_ .f32 0x3DD105EC#32)))
      (extractStridedSlice S2x8x16384x32 ![0, 0, 0, 64] k slices_S2x8x16384x96_S2x8x16384x32_0_0_0_64))

/-- The row maxima of the scores. -/
def rmax (s : Sc) : FVec Ideal S2x8x16384 .f32 :=
  Host.reduce FloatOps.maximumf s (constant S_ .f32 0xFF800000#32)
    reducesTo_S2x8x16384x16384_S2x8x16384_d3 h_S_

/-- A number for each row, spread over the row. -/
def spread (r : FVec Ideal S2x8x16384 .f32) : Sc :=
  broadcastInDim S2x8x16384x16384 ![0, 1, 2, 3] bcast_S2x8x16384x1_S2x8x16384x16384_0_1_2_3
    (broadcastInDim S2x8x16384x1 ![0, 1, 2] bcast_S2x8x16384_S2x8x16384x1_0_1_2 r)

/-- The larger of a number for each row and −∞. -/
def top (r : FVec Ideal S2x8x16384 .f32) : FVec Ideal S2x8x16384 .f32 :=
  maximumf (broadcastInDim S2x8x16384 ![] bcast_S_S2x8x16384 (constant S_ .f32 0xFF800000#32)) r

/-- The exponentials. -/
def ex (s : Sc) : Sc := Host.exp (subf s (spread (top (rmax s))))

/-- The row sums. -/
def rsum (e : Sc) : FVec Ideal S2x8x16384 .f32 :=
  Host.reduceAdd e (constant S_ .f32 0x00000000#32) reducesTo_S2x8x16384x16384_S2x8x16384_d3 h_S_

/-- The result, from the probabilities. -/
def out (p : Sc) (v : FVec Ideal S2x8x16384x64 .bf16) : FVec Ideal S2x8x16384x64 .bf16 :=
  truncf .bf16 (Host.dotGeneral dot_S2x8x16384x16384_S2x8x16384x64_S2x8x16384x64_3_2_2_3_01_01 none p
    (extf .f32 v bitsLt_bf16_f32)) bitsLt_bf16_f32

theorem sc_apply (q k : FVec Ideal S2x8x16384x96 .f32) (b : Fin 2) (h : Fin 8) (n y : Fin 16384) :
    sc q k (ix4 b h n y)
      = OnlineSoftmax.score scale (fun x => q (ix4 b h n x)) (fun x => k (ix4 b h y x)) := by
  pointwise [sc]
  unfold OnlineSoftmax.score scale
  rfl

/-- A maximum over the last axis of four, whatever the sizes. -/
theorem reduceMax_apply {n0 n1 n2 n3 : ℕ} (s : FVec Ideal ⟨4, ![n0, n1, n2, n3]⟩ .f32)
    (init : FVec Ideal ⟨0, ![]⟩ .f32)
    (h : (⟨4, ![n0, n1, n2, n3]⟩ : Shape).ReducesTo [3] ⟨3, ![n0, n1, n2]⟩)
    (hu : 0 < (⟨0, ![]⟩ : Shape).numel) (a : Fin n0) (b : Fin n1) (c : Fin n2) :
    Host.reduce FloatOps.maximumf s init h hu (ix3 a b c)
      = Finset.univ.fold max (init ix0 : EReal) fun y : Fin n3 => s (ix4 a b c y) := by
  pointwise
  rw [show Shape.Idx.first hu = ix0 from funext fun x => x.elim0]

theorem rmax_apply (s : Sc) (b : Fin 2) (h : Fin 8) (n : Fin 16384) :
    rmax s (ix3 b h n) = Finset.univ.fold max (⊥ : EReal) fun y : Fin 16384 => s (ix4 b h n y) := by
  unfold rmax
  refine (reduceMax_apply s _ _ _ b h n).trans ?_
  rw [constant]
  show Finset.univ.fold max (Ideal.ofBits FTy.f32 4286578688#32) _ = _
  rw [Cert.AttnIdeal.Block.negInf]

theorem spread_apply (r : FVec Ideal S2x8x16384 .f32) (b : Fin 2) (h : Fin 8) (n y : Fin 16384) :
    spread r (ix4 b h n y) = r (ix3 b h n) := by
  pointwise [spread]

theorem top_apply (r : FVec Ideal S2x8x16384 .f32) (b : Fin 2) (h : Fin 8) (n : Fin 16384) :
    top r (ix3 b h n) = max (⊥ : EReal) (r (ix3 b h n)) := by
  pointwise [top]
  rw [Cert.AttnIdeal.Block.negInf]

theorem rsum_apply (e : Sc) (b : Fin 2) (h : Fin 8) (n : Fin 16384) :
    rsum e (ix3 b h n) = ∑ k : Fin 16384, (e (ix4 b h n k) : EReal) := by
  pointwise [rsum]

theorem expSub_apply (x y : Sc) (i : S2x8x16384x16384.Idx) :
    Host.exp (subf x y) i = Ideal.exp ((x i : EReal) - y i) := rfl

/-- The exponentials, of the score less the largest score of the row. -/
theorem ex_apply (s : Sc) (b : Fin 2) (h : Fin 8) (n y : Fin 16384) :
    ex s (ix4 b h n y) = Ideal.exp ((s (ix4 b h n y) : EReal)
      - max (⊥ : EReal) (Finset.univ.fold max (⊥ : EReal) fun y : Fin 16384 => s (ix4 b h n y))) := by
  have e : spread (top (rmax s)) (ix4 b h n y)
      = max (⊥ : EReal) (Finset.univ.fold max (⊥ : EReal) fun y : Fin 16384 => s (ix4 b h n y)) := by
    rw [spread_apply, top_apply, rmax_apply]
  refine (expSub_apply s (spread (top (rmax s))) _).trans ?_
  rw [e]

theorem divf_apply (x y : Sc) (i : S2x8x16384x16384.Idx) :
    Host.divf x y i = Ideal.div (x i) (y i) := rfl

/-- A quotient of an exponential and the sum of its row. -/
theorem prob_apply (e : Sc) (b : Fin 2) (h : Fin 8) (n y : Fin 16384) :
    Host.divf e (spread (rsum e)) (ix4 b h n y)
      = Ideal.div (e (ix4 b h n y)) (∑ k : Fin 16384, (e (ix4 b h n k) : EReal)) := by
  refine (divf_apply e (spread (rsum e)) _).trans ?_
  rw [spread_apply, rsum_apply]

theorem out_apply' (p : Sc) (v : FVec Ideal S2x8x16384x64 .bf16) (b : Fin 2) (h : Fin 8) (n : Fin 16384)
    (d : Fin 64) :
    out p v (ix4 b h n d) = ∑ y : Fin 16384, (p (ix4 b h n y) : EReal) * v (ix4 b h y d) := by
  pointwise [out]

variable (m : (ℓ : Loc nD τ sig) → Buf (Elt Ideal) ℓ)

/-- The reference's result at an index is the softmax average there. -/
theorem out_apply (c : Dev nD) (b : Fin 2) (h : Fin 8) (n : Fin 16384) (d : Fin 64) :
    (res_main_v25 m c : FVec Ideal S2x8x16384x64 .bf16) (ix4 b h n d)
      = at4 (m ((c.tc : Thread nD τ).loc main_arg0) : FVec Ideal S2x8x16384x96 .f32)
          (m ((c.tc : Thread nD τ).loc main_arg1) : FVec Ideal S2x8x16384x96 .bf16)
          (m ((c.tc : Thread nD τ).loc main_arg2) : FVec Ideal S2x8x16384x64 .bf16) b h n d := by
  have e : @Eq (FVec Ideal S2x8x16384x64 .bf16) (res_main_v25 m c)
      (let x := ex (sc (m ((c.tc : Thread nD τ).loc main_arg0) : FVec Ideal S2x8x16384x96 .f32)
        (extf .f32 (m ((c.tc : Thread nD τ).loc main_arg1) : FVec Ideal S2x8x16384x96 .bf16)
          bitsLt_bf16_f32));
       out (Host.divf x (spread (rsum x)))
        (m ((c.tc : Thread nD τ).loc main_arg2) : FVec Ideal S2x8x16384x64 .bf16)) := by
    unfold res_main_v25 out ex rsum rmax spread top sc
    rfl
  refine (congrFun e _).trans ((out_apply' _ _ b h n d).trans ?_)
  unfold at4 OnlineSoftmax.avg
  refine Finset.sum_congr rfl fun y _ => ?_
  rw [prob_apply]
  simp only [ex_apply, sc_apply]
  rfl

end Cert.AttnRefIdeal.Value
end
-- ==== Proof.AttnEq.lean ====
module

public import proofs.«01_k».proof.Defs
public import proofs.«01_k».proof.Proof.Gen.Pre_finite_qk
public import proofs.«01_k».proof.Proof.AttnRef
public import Idealize.ShloMosaic.Lib.ReduceAll

@[expose] public section

/-!
# The attention claim

What the precondition says, and the equation of the two programs' results.
-/

set_option maxRecDepth 16384

noncomputable section

namespace Cert.AttnProof

open Idealize.ShloMosaic Idealize.ShloMosaic.TcCoe Idealize.SL.Sem
open Cert.AttnIdeal.Array (qArg kArg vArg at4 G)

/-- A number whose magnitude is below the float infinity is a real. -/
theorem real_of_lt (x : EReal)
    (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

/-- Under the precondition every query and every key is a real number. -/
theorem finite (m : (ℓ : Loc Cert.AttnIdeal.nD Cert.AttnIdeal.τ Cert.AttnIdeal.sig) → Buf (Elt Ideal) ℓ)
    (hpre : Cert.Pre_AttnIdeal_finite_qk m) (c : Dev Cert.AttnIdeal.nD) :
    (∀ i, ∃ r : ℝ, qArg m c i = r) ∧ ∀ i, ∃ r : ℝ, kArg m c i = r := by
  have h := congrFun (hpre c) ix0
  unfold Cert.Pre_finite_qk.fn at h
  dsimp only at h
  haveI : Subsingleton Cert.Pre_finite_qk.S_.Idx := ⟨fun a b => funext fun x => x.elim0⟩
  have h2 := IntOp.andi_eq_one.1 h
  constructor
  · intro i
    exact real_of_lt _ (Host.reduce_andi_all _ _ _ _ ix0 h2.1 i)
  · intro i
    exact real_of_lt _ (Host.reduce_andi_all _ _ _ _ ix0 h2.2 i)

/-- The algebraic claim about the attention. -/
theorem algebraic : Cert.algebraic_AttnIdeal_AttnRefIdeal_pre_finite_qk := by
  intro m ρ m' ρ' hpre hagree
  refine ⟨fun c => G m c, ?_, ?_⟩
  · refine (θ_run _ _ _).mono (fun _ h c => ⟨(h c).1.trans ?_, (h c).2⟩) (Cert.AttnIdeal.Value.run_blocks m ρ)
    exact Cert.AttnIdeal.Array.final m c (finite m hpre c).1 (finite m hpre c).2
  · refine (θ_run _ _ _).mono (fun _ h c => ⟨(h c).1.trans ?_, (h c).2⟩) (Cert.AttnRefIdeal.Value.run m' ρ')
    funext i
    obtain ⟨e0, e1, e2⟩ := hagree c
    idx_vars i
    refine (Cert.AttnRefIdeal.Value.out_apply m' c _ _ _ _).trans ?_
    rw [e0, e1, e2]
    rfl

end Cert.AttnProof
end
-- ==== Proof.OutprojEq.lean ====
module

public import proofs.«01_k».proof.Defs
public import proofs.«01_k».proof.Proof.Gen.Pre_finite_args
public import proofs.«01_k».proof.Proof.RouteArray
public import proofs.«01_k».proof.Proof.RouteRef
public import proofs.«01_k».proof.Proof.AttnEq

@[expose] public section

/-!
# The claim about the out-projection and the router

What the precondition says, and the equation of the two programs' results.
-/

set_option maxRecDepth 16384

noncomputable section

namespace Cert.OutprojProof

open Idealize.ShloMosaic Idealize.ShloMosaic.TcCoe Idealize.SL.Sem Idealize.ShloMosaic.StableHlo
open Cert.OutprojIdeal.Array (G15 G16)
open Route (IsReal)

abbrev Mem := (ℓ : Loc Cert.OutprojIdeal.nD Cert.OutprojIdeal.τ Cert.OutprojIdeal.sig) → Buf (Elt Ideal) ℓ
abbrev RefMem := (ℓ : Loc Cert.OutprojRefIdeal.nD Cert.OutprojRefIdeal.τ Cert.OutprojRefIdeal.sig) → Buf (Elt Ideal) ℓ

/-- Under the precondition every argument is a real number. -/
theorem real (m : Mem) (hpre : Cert.Pre_OutprojIdeal_finite_args m) (c : Dev Cert.OutprojIdeal.nD) :
    Outproj.Real (Cert.OutprojIdeal.Array.args m c) (Cert.OutprojIdeal.Array.router m c) := by
  have h := congrFun (hpre c) ix0
  unfold Cert.Pre_finite_args.fn Cert.Pre_finite_args.fn_part1 Cert.Pre_finite_args.fn_part2 Cert.Pre_finite_args.fn_part3 at h
  dsimp only at h
  haveI : Subsingleton Cert.Pre_finite_args.S_.Idx := ⟨fun a b => funext fun x => x.elim0⟩
  obtain ⟨h, p12⟩ := IntOp.andi_eq_one.1 h
  obtain ⟨h, p11⟩ := IntOp.andi_eq_one.1 h
  obtain ⟨h, p10⟩ := IntOp.andi_eq_one.1 h
  obtain ⟨h, p9⟩ := IntOp.andi_eq_one.1 h
  obtain ⟨h, p8⟩ := IntOp.andi_eq_one.1 h
  obtain ⟨h, p7⟩ := IntOp.andi_eq_one.1 h
  obtain ⟨h, p6⟩ := IntOp.andi_eq_one.1 h
  obtain ⟨h, p5⟩ := IntOp.andi_eq_one.1 h
  obtain ⟨h, p4⟩ := IntOp.andi_eq_one.1 h
  obtain ⟨h, p3⟩ := IntOp.andi_eq_one.1 h
  obtain ⟨h, p2⟩ := IntOp.andi_eq_one.1 h
  obtain ⟨p0, p1⟩ := IntOp.andi_eq_one.1 h
  constructor
  · exact fun b hd s k => Cert.AttnProof.real_of_lt _ (Host.reduce_andi_all _ _ _ _ ix0 p0 (ix4 b hd s k))
  · exact fun b s d => Cert.AttnProof.real_of_lt _ (Host.reduce_andi_all _ _ _ _ ix0 p1 (ix3 b s d))
  · exact fun b s d => Cert.AttnProof.real_of_lt _ (Host.reduce_andi_all _ _ _ _ ix0 p2 (ix3 b s d))
  · exact fun b s d => Cert.AttnProof.real_of_lt _ (Host.reduce_andi_all _ _ _ _ ix0 p3 (ix3 b s d))
  · exact fun b s x => Cert.AttnProof.real_of_lt _ (Host.reduce_andi_all _ _ _ _ ix0 p4 (ix3 b s x))
  · exact fun j d => Cert.AttnProof.real_of_lt _ (Host.reduce_andi_all _ _ _ _ ix0 p5 (ix2 j d))
  · exact fun k x => Cert.AttnProof.real_of_lt _ (Host.reduce_andi_all _ _ _ _ ix0 p6 (ix2 k x))
  · exact fun x => Cert.AttnProof.real_of_lt _ (Host.reduce_andi_all _ _ _ _ ix0 p7 (ix1 x))
  · exact fun x => Cert.AttnProof.real_of_lt _ (Host.reduce_andi_all _ _ _ _ ix0 p8 (ix1 x))
  · exact fun k g => Cert.AttnProof.real_of_lt _ (Host.reduce_andi_all _ _ _ _ ix0 p9 (ix2 k g))
  · exact fun g => Cert.AttnProof.real_of_lt _ (Host.reduce_andi_all _ _ _ _ ix0 p10 (ix1 g))
  · exact fun k g e => Cert.AttnProof.real_of_lt _ (Host.reduce_andi_all _ _ _ _ ix0 p11 (ix3 k g e))
  · exact fun g e => Cert.AttnProof.real_of_lt _ (Host.reduce_andi_all _ _ _ _ ix0 p12 (ix2 g e))

/-- The reference's rows are the kernel's. -/
theorem rows (m : Mem) (m' : RefMem) (c : Dev Cert.OutprojIdeal.nD)
    (h : Cert.OutprojRefIdeal.Value.args (launchContents m' c) = Cert.OutprojIdeal.Array.args m c) :
    @Eq (FVec Ideal Cert.OutprojRefIdeal.S2x16384x1024 .f32) (Cert.OutprojRefIdeal.Value.res_main_v53 (launchContents m' c)) (G15 m c) := by
  funext i
  idx_vars i
  refine (Cert.OutprojRefIdeal.Value.res_apply (launchContents m' c) i0 i1 i2).trans ?_
  rw [h]
  rfl

/-- The reference's routing weights are the kernel's. -/
theorem weights (m : Mem) (m' : RefMem) (c : Dev Cert.OutprojIdeal.nD)
    (h : Cert.OutprojRefIdeal.Value.args (launchContents m' c) = Cert.OutprojIdeal.Array.args m c)
    (h' : Cert.OutprojRefIdeal.Value.router (launchContents m' c) = Cert.OutprojIdeal.Array.router m c)
    (hR : Outproj.Real (Cert.OutprojIdeal.Array.args m c) (Cert.OutprojIdeal.Array.router m c)) :
    @Eq (FVec Ideal Cert.OutprojRefIdeal.S2x16384x128 .f32) (Cert.OutprojRefIdeal.Value.comb (launchContents m' c)) (G16 m c) := by
  funext i
  idx_vars i
  refine (Cert.OutprojRefIdeal.Value.comb_apply (launchContents m' c) (by rw [h, h']; exact hR) i0 i1 i2).trans ?_
  rw [h, h']
  rfl

/-- The algebraic claim about the out-projection and the router. -/
theorem algebraic : Cert.algebraic_OutprojIdeal_OutprojRefIdeal_pre_finite_args := by
  intro m ρ m' ρ' hpre hagree
  have ha : ∀ c, Cert.OutprojRefIdeal.Value.args (launchContents m' c) = Cert.OutprojIdeal.Array.args m c := by
    intro c
    obtain ⟨e0, e1, e2, e3, e4, e5, e6, e7, e8, e9, e10, e11, e12⟩ := hagree c
    refine (show _ = (⟨_, _, _, _, _, _, _, _, _⟩ : Outproj.Args) from rfl).trans ?_
    unfold Cert.OutprojIdeal.Array.args
    refine (Outproj.Args.mk.injEq ..).mpr ⟨?_, ?_, ?_, ?_, ?_, ?_, ?_, ?_, ?_⟩
    · exact funext fun b => funext fun d => funext fun s => funext fun k => congrFun e0 (ix4 b d s k)
    · exact funext fun b => funext fun s => funext fun d => congrFun e1 (ix3 b s d)
    · exact funext fun b => funext fun s => funext fun d => congrFun e2 (ix3 b s d)
    · exact funext fun b => funext fun s => funext fun d => congrFun e3 (ix3 b s d)
    · exact funext fun b => funext fun s => funext fun d => congrFun e4 (ix3 b s d)
    · exact funext fun j => funext fun d => congrFun e5 (ix2 j d)
    · exact funext fun j => funext fun d => congrFun e6 (ix2 j d)
    · exact funext fun x => congrFun e7 (ix1 x)
    · exact funext fun x => congrFun e8 (ix1 x)
  have hr : ∀ c, Cert.OutprojRefIdeal.Value.router (launchContents m' c) = Cert.OutprojIdeal.Array.router m c := by
    intro c
    obtain ⟨e0, e1, e2, e3, e4, e5, e6, e7, e8, e9, e10, e11, e12⟩ := hagree c
    refine (show _ = (⟨_, _, _, _⟩ : Outproj.Router) from rfl).trans ?_
    unfold Cert.OutprojIdeal.Array.router
    refine (Outproj.Router.mk.injEq ..).mpr ⟨?_, ?_, ?_, ?_⟩
    · exact funext fun k => funext fun g => congrFun e9 (ix2 k g)
    · exact funext fun g => congrFun e10 (ix1 g)
    · exact funext fun k => funext fun g => funext fun e => congrFun e11 (ix3 k g e)
    · exact funext fun g => funext fun e => congrFun e12 (ix2 g e)
  refine ⟨fun c => G15 m c, fun c => G16 m c, ?_, ?_⟩
  · refine (θ_run _ _ _).mono (fun _ h c => ?_) (Cert.OutprojIdeal.Value.run_blocks m ρ)
    obtain ⟨o0, o1, r⟩ := h c
    exact ⟨o0.trans (Cert.OutprojIdeal.Array.final15 m c),
      o1.trans (Cert.OutprojIdeal.Array.final16 m c (real m hpre c)), r⟩
  · refine (θ_run _ _ _).mono (fun _ h c => ?_) (Cert.OutprojRefIdeal.Value.run m' ρ')
    obtain ⟨o0, o1, r⟩ := h c
    exact ⟨o0.trans (rows m m' c (ha c)), o1.trans (weights m m' c (ha c) (hr c) (real m hpre c)), r⟩

end Cert.OutprojProof
end
-- ==== Proof.MoeBlock.lean ====
module

public import proofs.«01_k».proof.Proof.Gen.MoeIdeal.Value
public import proofs.«01_k».proof.Proof.Experts

@[expose] public section

/-!
# One grid point of the expert kernel

What the three kinds of grid points (the first expert of a token tile, the ones between, the last one)
leave in the two scratch buffers and in the output block, and the payloads at an index.
-/

set_option maxRecDepth 16384

noncomputable section

namespace Cert.MoeIdeal.Block

open Cert.MoeIdeal Cert.MoeIdeal.Gen Idealize.ShloMosaic Idealize.ShloMosaic.TcCoe Idealize.SL.Sem
open Idealize.ShloMosaic.Pipeline (Dat)

section Terms

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S1024x1024 .f32) (harg2 : arg2.IsWhole)
  (arg3 : Memref sig .tc .vmem S1024x128 .f32) (harg3 : arg3.IsWhole)
  (arg4 : Memref sig .tc .vmem S1x1024x256 .bf16) (harg4 : arg4.IsWhole)
  (arg5 : Memref sig .tc .vmem S1x1024x256 .bf16) (harg5 : arg5.IsWhole)
  (arg6 : Memref sig .tc .vmem S1x256x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x1024 .f32) (harg9 : arg9.IsWhole)
  (arg10 : Memref sig .tc .vmem S1024x1024 .bf16) (harg10 : arg10.IsWhole)
  (arg11 : Memref sig .tc .vmem S1024x1024 .f32) (harg11 : arg11.IsWhole)
  (x0 : Vec F S1024x1024 .f32) (x1 : Vec F S1024x128 .f32) (x2 : Vec F S1x1024x256 .bf16)
  (x3 : Vec F S1x1024x256 .bf16) (x4 : Vec F S1x256x1024 .bf16) (x5 : Vec F S1x1024 .f32)
  (x6 : Vec F S1x1024 .f32) (xs0 : Vec F S1024x1024 .bf16) (xs1 : Vec F S1024x1024 .f32)

/-- One step of the accumulation: the sum so far and this expert's contribution. -/
def step (i : grid0.Coords) (xb : Vec F S1024x1024 .bf16) (x1 : Vec F S1024x128 .f32)
    (x2 x3 : Vec F S1x1024x256 .bf16) (x4 : Vec F S1x256x1024 .bf16) (acc : Vec F S1024x1024 .f32) :
    Vec F S1024x1024 .f32 :=
  k0_pay1 acc (k0_pay5 i xb x2 x3 x1) x4

theorem first_tokens (hc0 : cond0_0 i) (hc1 : ¬cond0_1 i) :
    sout0_A_0 c i arg2 harg2 arg3 harg3 arg4 harg4 arg5 harg5 arg6 harg6 arg7 harg7 arg8 harg8 arg9 harg9
      arg10 harg10 arg11 harg11 hc0 hc1 x0 x1 x2 x3 x4 x5 x6 = k0_pay3 x0 := by
  unfold sout0_A_0
  rw [View.read_writes_eq_canon _ _ _ (scover0_A_0 c i arg2 harg2 arg3 harg3 arg4 harg4 arg5 harg5 arg6 harg6
    arg7 harg7 arg8 harg8 arg9 harg9 arg10 harg10 arg11 harg11 hc0 hc1 x0 x1 x2 x3 x4 x5 x6)]
  unfold kernelRun0_A
  dsimp only
  sl_unfold_words
  rw [View.canon_unit_zero hz2]
  simp only [View.readAt_eq_ld, harg2.read_unread, View.ld_unit_zero (S := S1024x1024) hz2]

theorem first_sum (hc0 : cond0_0 i) (hc1 : ¬cond0_1 i) :
    sout0_A_1 c i arg2 harg2 arg3 harg3 arg4 harg4 arg5 harg5 arg6 harg6 arg7 harg7 arg8 harg8 arg9 harg9
      arg10 harg10 arg11 harg11 hc0 hc1 x0 x1 x2 x3 x4 x5 x6
      = step i (k0_pay3 x0) x1 x2 x3 x4 k0_pay4 := by
  unfold sout0_A_1
  rw [View.read_writes_eq_canon _ _ _ (scover0_A_1 c i arg2 harg2 arg3 harg3 arg4 harg4 arg5 harg5 arg6 harg6
    arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz2]
  simp only [View.readAt_eq_ld, harg2.read_unread, harg3.read_unread, harg4.read_unread, harg5.read_unread,
    harg6.read_unread, View.ld_unit_zero (S := S1024x1024) hz2, View.ld_unit_zero (S := S1024x128) hz2,
    View.ld_unit_zero (S := S1x1024x256) hz3, View.ld_unit_zero (S := S1x256x1024) hz3,
    View.readCov_unit_zero (S := S1024x1024) _ hz2]
  rfl

theorem next_tokens (hc0 : ¬cond0_0 i) (hc1 : ¬cond0_1 i) :
    sout0_B_0 c i arg2 harg2 arg3 harg3 arg4 harg4 arg5 harg5 arg6 harg6 arg7 harg7 arg8 harg8 arg9 harg9
      arg10 harg10 arg11 harg11 hc0 hc1 x0 x1 x2 x3 x4 x5 x6 xs0 xs1 = xs0 := by
  unfold sout0_B_0
  rfl

theorem next_sum (hc0 : ¬cond0_0 i) (hc1 : ¬cond0_1 i) :
    sout0_B_1 c i arg2 harg2 arg3 harg3 arg4 harg4 arg5 harg5 arg6 harg6 arg7 harg7 arg8 harg8 arg9 harg9
      arg10 harg10 arg11 harg11 hc0 hc1 x0 x1 x2 x3 x4 x5 x6 xs0 xs1
      = step i xs0 x1 x2 x3 x4 xs1 := by
  unfold sout0_B_1
  rw [View.read_writes_eq_canon _ _ _ (scover0_B_1 c i arg2 harg2 arg3 harg3 arg4 harg4 arg5 harg5 arg6 harg6
    arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread,
    harg6.read_unread, harg10.read_unread, harg11.read_unread,
    View.ld_unit_zero (S := S1024x1024) hz2, View.ld_unit_zero (S := S1024x128) hz2,
    View.ld_unit_zero (S := S1x1024x256) hz3, View.ld_unit_zero (S := S1x256x1024) hz3]
  rfl

theorem last_out (hc0 : ¬cond0_0 i) (hc1 : cond0_1 i) :
    out0_C_7 c i arg2 harg2 arg3 harg3 arg4 harg4 arg5 harg5 arg6 harg6 arg7 harg7 arg8 harg8 arg9 harg9
      arg10 harg10 arg11 harg11 hc0 hc1 x0 x1 x2 x3 x4 x5 x6 xs0 xs1
      = k0_pay2 x0 (step i xs0 x1 x2 x3 x4 xs1) x5 x6 := by
  unfold out0_C_7
  rw [View.read_writes_eq_canon _ _ _ (cover0_C_7 c i arg2 harg2 arg3 harg3 arg4 harg4 arg5 harg5 arg6 harg6
    arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz2]
  simp only [View.readAt_eq_ld, harg2.read_unread, harg3.read_unread, harg4.read_unread, harg5.read_unread,
    harg6.read_unread, harg7.read_unread, harg8.read_unread, harg10.read_unread, harg11.read_unread,
    View.ld_unit_zero (S := S1024x1024) hz2, View.ld_unit_zero (S := S1024x128) hz2,
    View.ld_unit_zero (S := S1x1024) hz2,
    View.ld_unit_zero (S := S1x1024x256) hz3, View.ld_unit_zero (S := S1x256x1024) hz3,
    View.readCov_unit_zero (S := S1024x1024) _ hz2]
  rfl

end Terms

/-! ## The payloads at an index -/

section Ideal

abbrev Tok := Vec Ideal S1024x1024 .f32
abbrev TokB := Vec Ideal S1024x1024 .bf16
abbrev Lanes := Vec Ideal S1024x128 .f32
abbrev WIn := Vec Ideal S1x1024x256 .bf16
abbrev WOut := Vec Ideal S1x256x1024 .bf16
abbrev Row := Vec Ideal S1x1024 .f32

theorem pay3_apply (v : Tok) (r k : Fin 1024) : k0_pay3 v (ix2 r k) = v (ix2 r k) := by
  pointwise [k0_pay3]

theorem pay4_apply (r d : Fin 1024) : k0_pay4 (F := Ideal) (ix2 r d) = (0 : EReal) := by
  pointwise [k0_pay4]

/-- The hidden values of the expert of a grid point. -/
theorem pay5_apply (i : grid0.Coords) (xb : TokB) (x2 x3 : WIn) (x1 : Lanes) (e : ℕ) (he : e < 32)
    (hi : (i 1).val = e) (r : Fin 1024) (f : Fin 256) :
    k0_pay5 i xb x2 x3 x1 (ix2 r f)
      = Experts.hid (fun k : Fin 1024 => (xb (ix2 r k) : EReal)) (fun k => x2 (ix3 0 k f))
          (fun k => x3 (ix3 0 k f)) (x1 (ix2 r ⟨4 + e, by omega⟩)) := by
  subst hi
  have h := Experts.select_sum (fun x => x1 (ix2 r x)) (i 1).val he
  pointwise [k0_pay5]
  rw [h]
  rfl

/-- The sum after a grid point. -/
theorem step_apply (i : grid0.Coords) (xb : TokB) (x1 : Lanes) (x2 x3 : WIn) (x4 : WOut) (acc : Tok)
    (e : ℕ) (he : e < 32) (hi : (i 1).val = e) (r d : Fin 1024) :
    step i xb x1 x2 x3 x4 acc (ix2 r d)
      = (acc (ix2 r d) : EReal) + Experts.expert (fun k : Fin 1024 => (xb (ix2 r k) : EReal))
          (fun k f => x2 (ix3 0 k f)) (fun k f => x3 (ix3 0 k f)) (x1 (ix2 r ⟨4 + e, by omega⟩))
          (fun (f : Fin 256) d => x4 (ix3 0 f d)) d := by
  have h : step i xb x1 x2 x3 x4 acc (ix2 r d)
      = (acc (ix2 r d) : EReal) + ∑ f : Fin 256, k0_pay5 i xb x2 x3 x1 (ix2 r f) * x4 (ix3 0 f d) := by
    unfold step
    generalize k0_pay5 i xb x2 x3 x1 = v
    pointwise [k0_pay1]
  rw [h]
  refine congrArg _ (Finset.sum_congr rfl fun f _ => ?_)
  rw [pay5_apply i xb x2 x3 x1 e he hi r f]

/-- The factor of the residual, the number of columns and the layer norm's small constant. -/
def alpha : EReal := Ideal.ofBits FTy.f32 0x3FB504F3#32
def cols : EReal := Ideal.ofBits FTy.f32 0x44800000#32
def small : EReal := Ideal.ofBits FTy.f32 0x3727C5AC#32

/-- The block that is stored. -/
theorem pay2_apply (h acc : Tok) (g b : Row) (r d : Fin 1024) :
    k0_pay2 h acc g b (ix2 r d)
      = Experts.norm cols small (fun x : Fin 1024 => alpha * (h (ix2 r x) : EReal) + acc (ix2 r x))
          (fun x => g (ix2 0 x)) (fun x => b (ix2 0 x)) d := by
  pointwise [k0_pay2]
  rfl

end Ideal

end Cert.MoeIdeal.Block
end
-- ==== Proof.MoeArray.lean ====
module

public import proofs.«01_k».proof.Proof.MoeBlock

@[expose] public section

/-!
# The array that the expert kernel leaves

A grid point is a block of tokens and an expert. Over the points of one block of tokens the
accumulator holds the sum of the contributions of the experts so far; the last point adds the
residual and normalises. So every row of the result is the layer norm of the residual and the sum
over all experts.
-/

set_option maxRecDepth 16384

noncomputable section

namespace Cert.MoeIdeal.Array

open Cert.MoeIdeal Cert.MoeIdeal.Gen Idealize.ShloMosaic Idealize.ShloMosaic.TcCoe Idealize.SL.Sem
open Idealize.ShloMosaic.Pipeline (Dat)
open Cert.MoeIdeal.Block (alpha cols small)

abbrev Toks := (⟨2, ![32768, 1024]⟩ : Shape).Idx → EReal
abbrev Lns := (⟨2, ![32768, 128]⟩ : Shape).Idx → EReal
abbrev WI := (⟨4, ![4, 8, 1024, 256]⟩ : Shape).Idx → EReal
abbrev WO := (⟨4, ![4, 8, 256, 1024]⟩ : Shape).Idx → EReal
abbrev Vec1 := (⟨1, ![1024]⟩ : Shape).Idx → EReal

/-- The contribution of expert `e` of group `g` to token `n`, at column `d`. -/
def contribution (xt : Toks) (cb : Lns) (wg wu : WI) (wd : WO) (n : Fin 32768) (d : Fin 1024) (g : Fin 4)
    (e : Fin 8) : EReal :=
  Experts.expert (fun k : Fin 1024 => xt (ix2 n k)) (fun k f => wg (ix4 g e k f))
    (fun k f => wu (ix4 g e k f)) (cb (ix2 n ⟨4 + (8 * g.val + e.val), by omega⟩))
    (fun (f : Fin 256) d => wd (ix4 g e f d)) d

/-- The result at token `n` and column `d`. -/
def at2 (xt : Toks) (cb : Lns) (wg wu : WI) (wd : WO) (gain bias : Vec1) (n : Fin 32768) (d : Fin 1024) :
    EReal :=
  Experts.norm cols small
    (fun x => alpha * xt (ix2 n x) + ∑ g : Fin 4, ∑ e : Fin 8, contribution xt cb wg wu wd n x g e)
    (fun x => gain (ix1 x)) (fun x => bias (ix1 x)) d

variable (m : (ℓ : Loc nD τ sig) → Buf (Elt Ideal) ℓ)

/-- The tokens and the routing array with batch and sequence merged, and the weights as given. -/
abbrev xt (c : Dev nD) : Toks :=
  shapeCast S32768x1024 (m ((c : Thread nD τ).loc main_arg0) : FVec Ideal S2x16384x1024 .f32)
    facts.shapeCasts_S2x16384x1024_S32768x1024
abbrev cb (c : Dev nD) : Lns :=
  shapeCast S32768x128 (m ((c : Thread nD τ).loc main_arg1) : FVec Ideal S2x16384x128 .f32)
    facts.shapeCasts_S2x16384x128_S32768x128
abbrev wg (c : Dev nD) : WI := (m ((c : Thread nD τ).loc main_arg2) : FVec Ideal S4x8x1024x256 .f32)
abbrev wu (c : Dev nD) : WI := (m ((c : Thread nD τ).loc main_arg3) : FVec Ideal S4x8x1024x256 .f32)
abbrev wd (c : Dev nD) : WO := (m ((c : Thread nD τ).loc main_arg4) : FVec Ideal S4x8x256x1024 .f32)
abbrev gain (c : Dev nD) : Vec1 := (m ((c : Thread nD τ).loc main_arg5) : FVec Ideal S1024 .f32)
abbrev bias (c : Dev nD) : Vec1 := (m ((c : Thread nD τ).loc main_arg6) : FVec Ideal S1024 .f32)

/-! ## What the host prepares -/

theorem V_v6 (c : Dev nD) : @Eq (FVec Ideal S32768x1024 .f32) (V m c main_v6) (xt m c) := by
  unfold V
  after_results_simp
  rfl

theorem V_v7 (c : Dev nD) : @Eq (FVec Ideal S32768x128 .f32) (V m c main_v7) (cb m c) := by
  unfold V
  after_results_simp
  rfl

theorem V_v1 (c : Dev nD) : @Eq (FVec Ideal S32x1024x256 .bf16) (V m c main_v1)
    (truncf .bf16 (shapeCast S32x1024x256 (m ((c : Thread nD τ).loc main_arg2) : FVec Ideal S4x8x1024x256 .f32)
      facts.shapeCasts_S4x8x1024x256_S32x1024x256) bitsLt_bf16_f32) := by
  unfold V
  after_results_simp
  rfl

theorem V_v3 (c : Dev nD) : @Eq (FVec Ideal S32x1024x256 .bf16) (V m c main_v3)
    (truncf .bf16 (shapeCast S32x1024x256 (m ((c : Thread nD τ).loc main_arg3) : FVec Ideal S4x8x1024x256 .f32)
      facts.shapeCasts_S4x8x1024x256_S32x1024x256) bitsLt_bf16_f32) := by
  unfold V
  after_results_simp
  rfl

theorem V_v5 (c : Dev nD) : @Eq (FVec Ideal S32x256x1024 .bf16) (V m c main_v5)
    (truncf .bf16 (shapeCast S32x256x1024 (m ((c : Thread nD τ).loc main_arg4) : FVec Ideal S4x8x256x1024 .f32)
      facts.shapeCasts_S4x8x256x1024_S32x256x1024) bitsLt_bf16_f32) := by
  unfold V
  after_results_simp
  rfl

theorem V_v8 (c : Dev nD) : @Eq (FVec Ideal S1x1024 .f32) (V m c main_v8)
    (shapeCast S1x1024 (m ((c : Thread nD τ).loc main_arg5) : FVec Ideal S1024 .f32)
      facts.shapeCasts_S1024_S1x1024) := by
  unfold V
  after_results_simp
  rfl

theorem V_v9 (c : Dev nD) : @Eq (FVec Ideal S1x1024 .f32) (V m c main_v9)
    (shapeCast S1x1024 (m ((c : Thread nD τ).loc main_arg6) : FVec Ideal S1024 .f32)
      facts.shapeCasts_S1024_S1x1024) := by
  unfold V
  after_results_simp
  rfl

/-- The weights with group and expert merged, at an index. -/
theorem merge_in (v : FVec Ideal S4x8x1024x256 .f32) (e : Fin 32) (k : Fin 1024) (f : Fin 256) :
    (truncf .bf16 (shapeCast S32x1024x256 v facts.shapeCasts_S4x8x1024x256_S32x1024x256) bitsLt_bf16_f32
        : FVec Ideal S32x1024x256 .bf16) (ix3 e k f)
      = v (ix4 ⟨e.val / 8, by omega⟩ ⟨e.val % 8, by omega⟩ k f) := by
  pointwise

theorem merge_out (v : FVec Ideal S4x8x256x1024 .f32) (e : Fin 32) (f : Fin 256) (k : Fin 1024) :
    (truncf .bf16 (shapeCast S32x256x1024 v facts.shapeCasts_S4x8x256x1024_S32x256x1024) bitsLt_bf16_f32
        : FVec Ideal S32x256x1024 .bf16) (ix3 e f k)
      = v (ix4 ⟨e.val / 8, by omega⟩ ⟨e.val % 8, by omega⟩ f k) := by
  pointwise

theorem row_of (v : FVec Ideal S1024 .f32) (x : Fin 1024) :
    shapeCast S1x1024 v facts.shapeCasts_S1024_S1x1024 (ix2 0 x) = v (ix1 x) := by
  pointwise

/-! ## The blocks of the windows -/

theorem idx_facts : ∀ t : Fin cfg0.N,
    win0_0.index t = ![t.val / 32, 0] ∧ win0_1.index t = ![t.val / 32, 0]
    ∧ win0_2.index t = ![t.val % 32, 0, 0] ∧ win0_3.index t = ![t.val % 32, 0, 0]
    ∧ win0_4.index t = ![t.val % 32, 0, 0] ∧ win0_5.index t = ![0, 0] ∧ win0_6.index t = ![0, 0]
    ∧ win0_7.index t = ![t.val / 32, 0] ∧ (grid0.coords t 1).val = t.val % 32 :=
  (by decide +kernel : ∀ t : Fin grid0.N, _)

theorem t_lt (t : Fin cfg0.N) : t.val < 1024 := lt_of_lt_of_eq t.isLt N_0

/-- The expert of a grid point, and the token of a row of its block. -/
def ptE (t : Fin cfg0.N) : Fin 32 := ⟨t.val % 32, by omega⟩
def ptN (q : ℕ) (hq : q < 32) (r : Fin 1024) : Fin 32768 := ⟨q * 1024 + r.val, by have := r.isLt; omega⟩

theorem iblk0_apply (c : Dev nD) (t : Fin cfg0.N) (q : ℕ) (hq : q < 32) (h : t.val / 32 = q) (r x : Fin 1024) :
    (iblk m c 0 t : Block.Tok) (ix2 r x) = xt m c (ix2 (ptN q hq r) x) := by
  have e := (idx_facts t).1
  unfold iblk
  rw [View.read_apply]
  show (V m c main_v6 : FVec Ideal S32768x1024 .f32) _ = _
  rw [V_v6]
  generalize xt m c = v
  congr 1
  funext a
  apply Fin.ext
  match a with
  | ⟨0, _⟩ => show win0_0.index t 0 * 1024 + 1 * r.val = q * 1024 + r.val; rw [e]; simp [h]
  | ⟨1, _⟩ => show win0_0.index t 1 * 1024 + 1 * x.val = x.val; rw [e]; simp

theorem iblk1_apply (c : Dev nD) (t : Fin cfg0.N) (q : ℕ) (hq : q < 32) (h : t.val / 32 = q) (r : Fin 1024)
    (x : Fin 128) : (iblk m c 1 t : Block.Lanes) (ix2 r x) = cb m c (ix2 (ptN q hq r) x) := by
  have e := (idx_facts t).2.1
  unfold iblk
  rw [View.read_apply]
  show (V m c main_v7 : FVec Ideal S32768x128 .f32) _ = _
  rw [V_v7]
  generalize cb m c = v
  congr 1
  funext a
  apply Fin.ext
  match a with
  | ⟨0, _⟩ => show win0_1.index t 0 * 1024 + 1 * r.val = q * 1024 + r.val; rw [e]; simp [h]
  | ⟨1, _⟩ => show win0_1.index t 1 * 128 + 1 * x.val = x.val; rw [e]; simp

theorem iblk2_apply (c : Dev nD) (t : Fin cfg0.N) (k : Fin 1024) (f : Fin 256) :
    (iblk m c 2 t : Block.WIn) (ix3 0 k f)
      = wg m c (ix4 ⟨(ptE t).val / 8, by omega⟩ ⟨(ptE t).val % 8, by omega⟩ k f) := by
  have e := (idx_facts t).2.2.1
  rw [← merge_in (wg m c) (ptE t) k f, ← V_v1 m c]
  unfold iblk
  rw [View.read_apply]
  show (V m c main_v1 : FVec Ideal S32x1024x256 .bf16) _ = _
  congr 1
  funext a
  apply Fin.ext
  match a with
  | ⟨0, _⟩ => show win0_2.index t 0 * 1 + 1 * 0 = t.val % 32; rw [e]; simp
  | ⟨1, _⟩ => show win0_2.index t 1 * 1024 + 1 * k.val = k.val; rw [e]; simp
  | ⟨2, _⟩ => show win0_2.index t 2 * 256 + 1 * f.val = f.val; rw [e]; simp

theorem iblk3_apply (c : Dev nD) (t : Fin cfg0.N) (k : Fin 1024) (f : Fin 256) :
    (iblk m c 3 t : Block.WIn) (ix3 0 k f)
      = wu m c (ix4 ⟨(ptE t).val / 8, by omega⟩ ⟨(ptE t).val % 8, by omega⟩ k f) := by
  have e := (idx_facts t).2.2.2.1
  rw [← merge_in (wu m c) (ptE t) k f, ← V_v3 m c]
  unfold iblk
  rw [View.read_apply]
  show (V m c main_v3 : FVec Ideal S32x1024x256 .bf16) _ = _
  congr 1
  funext a
  apply Fin.ext
  match a with
  | ⟨0, _⟩ => show win0_3.index t 0 * 1 + 1 * 0 = t.val % 32; rw [e]; simp
  | ⟨1, _⟩ => show win0_3.index t 1 * 1024 + 1 * k.val = k.val; rw [e]; simp
  | ⟨2, _⟩ => show win0_3.index t 2 * 256 + 1 * f.val = f.val; rw [e]; simp

theorem iblk4_apply (c : Dev nD) (t : Fin cfg0.N) (f : Fin 256) (d : Fin 1024) :
    (iblk m c 4 t : Block.WOut) (ix3 0 f d)
      = wd m c (ix4 ⟨(ptE t).val / 8, by omega⟩ ⟨(ptE t).val % 8, by omega⟩ f d) := by
  have e := (idx_facts t).2.2.2.2.1
  rw [← merge_out (wd m c) (ptE t) f d, ← V_v5 m c]
  unfold iblk
  rw [View.read_apply]
  show (V m c main_v5 : FVec Ideal S32x256x1024 .bf16) _ = _
  congr 1
  funext a
  apply Fin.ext
  match a with
  | ⟨0, _⟩ => show win0_4.index t 0 * 1 + 1 * 0 = t.val % 32; rw [e]; simp
  | ⟨1, _⟩ => show win0_4.index t 1 * 256 + 1 * f.val = f.val; rw [e]; simp
  | ⟨2, _⟩ => show win0_4.index t 2 * 1024 + 1 * d.val = d.val; rw [e]; simp

theorem iblk5_apply (c : Dev nD) (t : Fin cfg0.N) (x : Fin 1024) :
    (iblk m c 5 t : Block.Row) (ix2 0 x) = gain m c (ix1 x) := by
  have e := (idx_facts t).2.2.2.2.2.1
  rw [← row_of (gain m c) x, ← V_v8 m c]
  unfold iblk
  rw [View.read_apply]
  show (V m c main_v8 : FVec Ideal S1x1024 .f32) _ = _
  congr 1
  funext a
  apply Fin.ext
  match a with
  | ⟨0, _⟩ => show win0_5.index t 0 * 1 + 1 * 0 = 0; rw [e]; simp
  | ⟨1, _⟩ => show win0_5.index t 1 * 1024 + 1 * x.val = x.val; rw [e]; simp

theorem iblk6_apply (c : Dev nD) (t : Fin cfg0.N) (x : Fin 1024) :
    (iblk m c 6 t : Block.Row) (ix2 0 x) = bias m c (ix1 x) := by
  have e := (idx_facts t).2.2.2.2.2.2.1
  rw [← row_of (bias m c) x, ← V_v9 m c]
  unfold iblk
  rw [View.read_apply]
  show (V m c main_v9 : FVec Ideal S1x1024 .f32) _ = _
  congr 1
  funext a
  apply Fin.ext
  match a with
  | ⟨0, _⟩ => show win0_6.index t 0 * 1 + 1 * 0 = 0; rw [e]; simp
  | ⟨1, _⟩ => show win0_6.index t 1 * 1024 + 1 * x.val = x.val; rw [e]; simp

/-! ## The sum over the experts -/

/-- The contribution of the expert with number `e` among the 32. -/
def part (c : Dev nD) (n : Fin 32768) (d : Fin 1024) (e : Fin 32) : EReal :=
  contribution (xt m c) (cb m c) (wg m c) (wu m c) (wd m c) n d ⟨e.val / 8, by omega⟩ ⟨e.val % 8, by omega⟩

/-- The sum after the experts up to `e`. -/
def upTo (c : Dev nD) (n : Fin 32768) (d : Fin 1024) (e : ℕ) : EReal :=
  ∑ k ∈ Finset.range (e + 1), Experts.ext (part m c n d) k

theorem upTo_last (c : Dev nD) (n : Fin 32768) (d : Fin 1024) :
    upTo m c n d 31 = ∑ g : Fin 4, ∑ e : Fin 8,
      contribution (xt m c) (cb m c) (wg m c) (wu m c) (wd m c) n d g e :=
  (Experts.sum_ext (part m c n d)).trans
    (Experts.sum_groups (contribution (xt m c) (cb m c) (wg m c) (wu m c) (wd m c) n d))

/-- One grid point adds its expert's contribution, if the cached tokens are those of its block. -/
theorem step_at (c : Dev nD) (t : Fin cfg0.N) (q : ℕ) (hq : q < 32) (h : t.val / 32 = q) (xb : Block.TokB)
    (hx : ∀ r k : Fin 1024, xb (ix2 r k) = xt m c (ix2 (ptN q hq r) k)) (acc : Block.Tok) (r d : Fin 1024) :
    Block.step (grid0.coords t) xb (iblk m c 1 t) (iblk m c 2 t) (iblk m c 3 t) (iblk m c 4 t) acc (ix2 r d)
      = (acc (ix2 r d) : EReal) + Experts.ext (part m c (ptN q hq r) d) (t.val % 32) := by
  rw [Experts.ext_of_lt _ _ (by omega),
    Block.step_apply (grid0.coords t) xb (iblk m c 1 t) (iblk m c 2 t) (iblk m c 3 t) (iblk m c 4 t) acc
      (t.val % 32) (by omega) (idx_facts t).2.2.2.2.2.2.2.2 r d]
  refine congrArg _ ?_
  unfold part contribution
  simp only [hx, iblk1_apply m c t q hq h, iblk2_apply, iblk3_apply, iblk4_apply]
  have e : (⟨4 + t.val % 32, by omega⟩ : Fin 128)
      = ⟨4 + (8 * ((t.val % 32) / 8) + (t.val % 32) % 8), by omega⟩ := Fin.ext (by
      show 4 + t.val % 32 = 4 + (8 * ((t.val % 32) / 8) + (t.val % 32) % 8); omega)
  rw [e]
  rfl

/-- What the first point of a block leaves in the two scratch arrays. -/
theorem at_first (c : Dev nD) (t : Fin cfg0.N) (h0 : t.val % 32 = 0) (h1 : ¬t.val % 32 = 31) :
    (outsAt0 m c t.val t.isLt).2.1 = k0_pay3 (iblk m c 0 t : Block.Tok)
    ∧ (outsAt0 m c t.val t.isLt).2.2 = Block.step (grid0.coords t) (k0_pay3 (iblk m c 0 t : Block.Tok))
        (iblk m c 1 t) (iblk m c 2 t) (iblk m c 3 t) (iblk m c 4 t) (k0_pay4 (F := Ideal)) := by
  rw [outsAt0_A m c t h0 h1]
  have a := Block.first_tokens c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) (iblk m c 0 t) (iblk m c 1 t)
      (iblk m c 2 t) (iblk m c 3 t) (iblk m c 4 t) (iblk m c 5 t) (iblk m c 6 t) ((hcond0_0 t).mpr h0)
      (fun h => h1 ((hcond0_1 t).mp h))
  have b := Block.first_sum c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) (iblk m c 0 t) (iblk m c 1 t)
      (iblk m c 2 t) (iblk m c 3 t) (iblk m c 4 t) (iblk m c 5 t) (iblk m c 6 t) ((hcond0_0 t).mpr h0)
      (fun h => h1 ((hcond0_1 t).mp h))
  dsimp only
  exact ⟨a, b⟩

/-- What a later point, not the last, leaves there, by what the point before it left. -/
theorem at_next (c : Dev nD) (t : Fin cfg0.N) (h0 : ¬t.val % 32 = 0) (h1 : ¬t.val % 32 = 31)
    (hp : t.val - 1 < cfg0.N) :
    (outsAt0 m c t.val t.isLt).2.1 = (outsAt0 m c (t.val - 1) hp).2.1
    ∧ (outsAt0 m c t.val t.isLt).2.2 = Block.step (grid0.coords t) (outsAt0 m c (t.val - 1) hp).2.1
        (iblk m c 1 t) (iblk m c 2 t) (iblk m c 3 t) (iblk m c 4 t) (outsAt0 m c (t.val - 1) hp).2.2 := by
  rw [outsAt0_B m c t h0 h1]
  have a := Block.next_tokens c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) (iblk m c 0 t) (iblk m c 1 t)
      (iblk m c 2 t) (iblk m c 3 t) (iblk m c 4 t) (iblk m c 5 t) (iblk m c 6 t)
      (outsAt0 m c (t.val - 1) hp).2.1 (outsAt0 m c (t.val - 1) hp).2.2
      (fun h => h0 ((hcond0_0 t).mp h)) (fun h => h1 ((hcond0_1 t).mp h))
  have b := Block.next_sum c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      scM0_0 (Memref.isWhole_whole _) scM0_1 (Memref.isWhole_whole _) (iblk m c 0 t) (iblk m c 1 t)
      (iblk m c 2 t) (iblk m c 3 t) (iblk m c 4 t) (iblk m c 5 t) (iblk m c 6 t)
      (outsAt0 m c (t.val - 1) hp).2.1 (outsAt0 m c (t.val - 1) hp).2.2
      (fun h => h0 ((hcond0_0 t).mp h)) (fun h => h1 ((hcond0_1 t).mp h))
  dsimp only
  exact ⟨a, b⟩

theorem upTo_zero (c : Dev nD) (n : Fin 32768) (d : Fin 1024) :
    upTo m c n d 0 = 0 + Experts.ext (part m c n d) 0 := by
  unfold upTo
  rw [Finset.sum_range_succ, Finset.sum_range_zero]

theorem upTo_succ (c : Dev nD) (n : Fin 32768) (d : Fin 1024) (e : ℕ) :
    upTo m c n d (e + 1) = upTo m c n d e + Experts.ext (part m c n d) (e + 1) := by
  unfold upTo
  rw [Finset.sum_range_succ]

/-- The cached tokens and the sum after a grid point that is not the last of its block. -/
theorem running (c : Dev nD) : ∀ (n : ℕ) (hn : n < cfg0.N), n % 32 ≠ 31 → ∀ (q : ℕ) (hq : q < 32), n / 32 = q →
    (∀ r k : Fin 1024, ((outsAt0 m c n hn).2.1 : Block.TokB) (ix2 r k) = xt m c (ix2 (ptN q hq r) k))
    ∧ ∀ r d : Fin 1024, ((outsAt0 m c n hn).2.2 : Block.Tok) (ix2 r d) = upTo m c (ptN q hq r) d (n % 32) := by
  intro n
  induction n with
  | zero =>
    intro hn h1 q hq h
    obtain ⟨e0, e1⟩ := at_first m c ⟨0, hn⟩ rfl h1
    have hx : ∀ r k : Fin 1024, (k0_pay3 (iblk m c 0 ⟨0, hn⟩ : Block.Tok) : Block.TokB) (ix2 r k)
        = xt m c (ix2 (ptN q hq r) k) := fun r k =>
      (Block.pay3_apply _ r k).trans (iblk0_apply m c ⟨0, hn⟩ q hq h r k)
    refine ⟨fun r k => (congrFun e0 _).trans (hx r k), fun r d => (congrFun e1 _).trans ?_⟩
    rw [step_at m c ⟨0, hn⟩ q hq h _ hx _ r d, Block.pay4_apply]
    exact (upTo_zero m c _ d).symm
  | succ n ih =>
    intro hn h1 q hq h
    by_cases h0 : (n + 1) % 32 = 0
    · obtain ⟨e0, e1⟩ := at_first m c ⟨n + 1, hn⟩ h0 h1
      have hx : ∀ r k : Fin 1024, (k0_pay3 (iblk m c 0 ⟨n + 1, hn⟩ : Block.Tok) : Block.TokB) (ix2 r k)
          = xt m c (ix2 (ptN q hq r) k) := fun r k =>
        (Block.pay3_apply _ r k).trans (iblk0_apply m c ⟨n + 1, hn⟩ q hq h r k)
      refine ⟨fun r k => (congrFun e0 _).trans (hx r k), fun r d => (congrFun e1 _).trans ?_⟩
      rw [step_at m c ⟨n + 1, hn⟩ q hq h _ hx _ r d, Block.pay4_apply]
      show 0 + Experts.ext (part m c (ptN q hq r) d) ((n + 1) % 32) = _
      rw [h0]
      exact (upTo_zero m c _ d).symm
    · obtain ⟨e0, e1⟩ := at_next m c ⟨n + 1, hn⟩ h0 h1 (by show n + 1 - 1 < _; omega)
      obtain ⟨i0, i1⟩ := ih (by omega) (by omega) q hq (by omega)
      refine ⟨fun r k => (congrFun e0 _).trans (i0 r k), fun r d => (congrFun e1 _).trans ?_⟩
      refine (step_at m c ⟨n + 1, hn⟩ q hq h _ i0 _ r d).trans ?_
      show ((outsAt0 m c n _).2.2 : Block.Tok) (ix2 r d) + Experts.ext (part m c (ptN q hq r) d) ((n + 1) % 32) = _
      rw [i1 r d, show (n + 1) % 32 = n % 32 + 1 by omega]
      exact (upTo_succ m c _ d _).symm

/-! ## The final array -/

/-- The result at every index. -/
def G (c : Dev nD) : FVec Ideal S32768x1024 .f32 :=
  fun i => at2 (xt m c) (cb m c) (wg m c) (wu m c) (wd m c) (gain m c) (bias m c) (i 0) (i 1)

theorem G_apply (c : Dev nD) (n : Fin 32768) (d : Fin 1024) :
    G m c (ix2 n d) = at2 (xt m c) (cb m c) (wg m c) (wu m c) (wd m c) (gain m c) (bias m c) n d := rfl

/-- What the last point of a block stores. -/
theorem flushed_block (c : Dev nD) (t : Fin cfg0.N) (h1 : t.val % 32 = 31) (q : ℕ) (hq : q < 32)
    (h : t.val / 32 = q) : ∃ o : Block.Tok,
    (dats m 0 c).flushed 7 t = (cfg0.win 7).cut (grid0.coords t) o
    ∧ ∀ r d : Fin 1024, o (ix2 r d) = G m c (ix2 (ptN q hq r) d) := by
  have h0 : ¬t.val % 32 = 0 := by omega
  have hp : t.val - 1 < cfg0.N := Nat.lt_of_le_of_lt (Nat.sub_le _ _) t.isLt
  obtain ⟨i0, i1⟩ := running m c (t.val - 1) hp (by omega) q hq (by omega)
  refine ⟨_, (Value.flushed7_C m c t h0 h1).trans (congrArg _ (Block.last_out c (grid0.coords t) (ms0_0 t)
    (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) scM0_0 (Memref.isWhole_whole _) scM0_1
    (Memref.isWhole_whole _) (iblk m c 0 t) (iblk m c 1 t) (iblk m c 2 t) (iblk m c 3 t) (iblk m c 4 t)
    (iblk m c 5 t) (iblk m c 6 t) (outsAt0 m c (t.val - 1) hp).2.1 (outsAt0 m c (t.val - 1) hp).2.2
    (fun h => h0 ((hcond0_0 t).mp h)) ((hcond0_1 t).mpr h1))), fun r d => ?_⟩
  refine (Block.pay2_apply _ _ _ _ r d).trans ?_
  rw [G_apply]
  unfold at2
  have hs : ∀ x : Fin 1024, Block.step (grid0.coords t) (outsAt0 m c (t.val - 1) hp).2.1 (iblk m c 1 t)
      (iblk m c 2 t) (iblk m c 3 t) (iblk m c 4 t) (outsAt0 m c (t.val - 1) hp).2.2 (ix2 r x)
      = ∑ g : Fin 4, ∑ e : Fin 8, contribution (xt m c) (cb m c) (wg m c) (wu m c) (wd m c) (ptN q hq r) x g e := by
    intro x
    rw [← upTo_last, upTo_succ, step_at m c t q hq h _ i0 _ r x, i1 r x, h1,
      show (t.val - 1) % 32 = 30 by omega]
  simp only [hs, iblk0_apply m c t q hq h, iblk5_apply, iblk6_apply]

theorem flushed_eq (c : Dev nD) (t : Fin cfg0.N) (hf : (cfg0.win 7).flush t = true) :
    (dats m 0 c).flushed 7 t = ((cfg0.win 7).blk t).view.read (Elt Ideal) (G m c) := by
  have hq : t.val / 32 < 32 := by have := t_lt t; omega
  have e := (idx_facts t).2.2.2.2.2.2.2.1
  obtain ⟨o, hfl, ho⟩ := flushed_block m c t ((flush0_7 t).mp hf) (t.val / 32) hq rfl
  rw [hfl]
  funext y
  have hy0 : (y 0).val < 1024 := (y 0).isLt
  have hy1 : (y 1).val < 1024 := (y 1).isLt
  have hx : (cfg0.win 7).xinj (grid0.coords t) y
      = ix2 (⟨(y 0).val, hy0⟩ : Fin 1024) (⟨(y 1).val, hy1⟩ : Fin 1024) := by
    funext a
    apply Fin.ext
    match a with
    | ⟨0, _⟩ => rfl
    | ⟨1, _⟩ => rfl
  have hb : ((cfg0.win 7).blk t).view.emb y
      = ix2 (ptN (t.val / 32) hq ⟨(y 0).val, hy0⟩) (⟨(y 1).val, hy1⟩ : Fin 1024) := by
    funext a
    apply Fin.ext
    match a with
    | ⟨0, _⟩ => show win0_7.index t 0 * 1024 + 1 * (y 0).val = t.val / 32 * 1024 + (y 0).val; rw [e]; simp
    | ⟨1, _⟩ => show win0_7.index t 1 * 1024 + 1 * (y 1).val = (y 1).val; rw [e]; simp
  refine (congrArg o hx).trans ((ho _ _).trans ?_)
  rw [View.read_apply]
  generalize G m c = g
  exact (congrArg g hb).symm

theorem cover (i : S32768x1024.Idx) :
    ∃ t : Fin cfg0.N, (cfg0.win 7).flush t = true ∧ i ∈ ((cfg0.win 7).blk t).view.set := by
  have h0 : (i 0).val < 32768 := (i 0).isLt
  have h1 : (i 1).val < 1024 := (i 1).isLt
  obtain ⟨t, ht⟩ : ∃ t : Fin cfg0.N, t.val = (i 0).val / 1024 * 32 + 31 :=
    ⟨⟨(i 0).val / 1024 * 32 + 31, lt_of_lt_of_eq (by omega) N_0.symm⟩, rfl⟩
  have e := (idx_facts t).2.2.2.2.2.2.2.1
  have e0 : win0_7.index t 0 = t.val / 32 := by rw [e]; rfl
  have e1 : win0_7.index t 1 = 0 := by rw [e]; rfl
  refine ⟨t, (flush0_7 t).mpr (by omega), ?_⟩
  show i ∈ ((View.whole main_v10).slice (win0_7.rect t)).set
  rw [View.set_slice_whole, Rect.mem_set_unit]
  intro a
  match a with
  | ⟨0, _⟩ => show win0_7.index t 0 * 1024 ≤ (i 0).val ∧ (i 0).val < win0_7.index t 0 * 1024 + 1024; omega
  | ⟨1, _⟩ => show win0_7.index t 1 * 1024 ≤ (i 1).val ∧ (i 1).val < win0_7.index t 1 * 1024 + 1024; omega

/-- The run ends with these values in the result. -/
theorem final (c : Dev nD) : (dats m 0 c).arrAt 7 cfg0.N = G m c :=
  (dats m 0 c).arrAt_eq_of_cover 7 (G m c) (fun t hf => flushed_eq m c t hf) cover

end Cert.MoeIdeal.Array
end
-- ==== Proof.MoeRef.lean ====
module

public import proofs.«01_k».proof.Proof.Gen.MoeRefIdeal.Run
public import proofs.«01_k».proof.Proof.MoeArray

@[expose] public section

/-!
# What the expert reference computes

The reference's result at an index is the layer norm of `MoeArray`, of the residual and the sum over
the experts, group by group.
-/

set_option maxRecDepth 16384

noncomputable section

namespace Cert.MoeRefIdeal.Value

open Cert.MoeRefIdeal Cert.MoeRefIdeal.Gen Idealize.ShloMosaic Idealize.ShloMosaic.TcCoe Idealize.SL.Sem
open Cert.MoeIdeal.Block (alpha cols small)
open Cert.MoeIdeal.Array (contribution at2)

abbrev T := FVec Ideal S32768x1024 .f32
abbrev H := FVec Ideal S32768x8x256 .f32
abbrev C8 := FVec Ideal S32768x8 .f32
abbrev WI8 := FVec Ideal S8x1024x256 .f32
abbrev WO8 := FVec Ideal S8x256x1024 .f32

/-- The tokens times the weights of a group. -/
def proj (x : T) (w : WI8) : H :=
  Host.dotGeneral dot_S32768x1024_S8x1024x256_S32768x8x256_1_1_0_02_n_n none x w

/-- `a` times its logistic function. -/
def act (a : H) : H :=
  mulf a (Host.divf (broadcastInDim S32768x8x256 ![] bcast_S_S32768x8x256 (constant S_ .f32 0x3F800000#32))
    (addf (broadcastInDim S32768x8x256 ![] bcast_S_S32768x8x256 (constant S_ .f32 0x3F800000#32))
      (Host.exp (Host.negf a))))

/-- Routing weights spread over the hidden columns. -/
def wide (v : C8) : H :=
  broadcastInDim S32768x8x256 ![0, 1, 2] bcast_S32768x8x1_S32768x8x256_0_1_2
    (broadcastInDim S32768x8x1 ![0, 1] bcast_S32768x8_S32768x8x1_0_1 v)

/-- The lanes of the routing array that hold the 32 weights, by group. -/
def lanes (v : FVec Ideal S32768x128 .f32) : FVec Ideal S32768x4x8 .f32 :=
  shapeCast S32768x4x8 (extractStridedSlice S32768x32 ![0, 4] v slices_S32768x128_S32768x32_0_4)
    shapeCasts_S32768x32_S32768x4x8

/-- The contribution of a group. -/
def group (x : T) (g u : WI8) (w : C8) (d : WO8) : T :=
  Host.dotGeneral dot_S32768x8x256_S8x256x1024_S32768x1024_12_01_0_2_n_n none
    (mulf (mulf (act (proj x g)) (proj x u)) (wide w)) d

/-- The residual and the sum of the groups. -/
def resid (x a b c d : T) : T :=
  addf (mulf (broadcastInDim S32768x1024 ![] bcast_S_S32768x1024 (constant S_ .f32 0x3FB504F3#32)) x)
    (addf (addf (addf (addf
      (broadcastInDim S32768x1024 ![] bcast_S_S32768x1024 (constant S_ .f32 0x00000000#32)) a) b) c) d)

/-- The mean of every row. -/
def mean (y : T) : FVec Ideal S32768x1 .f32 :=
  Host.divf (broadcastInDim S32768x1 ![0] bcast_S32768_S32768x1_0
      (Host.reduceAdd y (constant S_ .f32 0x00000000#32) reducesTo_S32768x1024_S32768_d1 h_S_))
    (broadcastInDim S32768x1 ![] bcast_S_S32768x1 (constant S_ .f32 0x44800000#32))

/-- A column spread over the rows. -/
def across (v : FVec Ideal S32768x1 .f32) : T :=
  broadcastInDim S32768x1024 ![0, 1] bcast_S32768x1_S32768x1024_0_1 v

/-- A row's gain or bias, for all tokens. -/
def down (v : FVec Ideal S1024 .f32) : T :=
  broadcastInDim S32768x1024 ![0, 1] bcast_S1x1024_S32768x1024_0_1
    (broadcastInDim S1x1024 ![1] bcast_S1024_S1x1024_1 v)

/-- The scaled rows, from the centred ones. -/
def finish (z : T) (g b : FVec Ideal S1024 .f32) : T :=
  addf (mulf (mulf z (across (Host.rsqrt (addf (mean (mulf z z))
    (broadcastInDim S32768x1 ![] bcast_S_S32768x1 (constant S_ .f32 0x3727C5AC#32)))))) (down g)) (down b)

/-! ## Each at an index -/

theorem proj_apply (x : T) (w : WI8) (n : Fin 32768) (e : Fin 8) (f : Fin 256) :
    proj x w (ix3 n e f) = ∑ k : Fin 1024, (x (ix2 n k) : EReal) * w (ix3 e k f) := by
  pointwise [proj]

theorem act_apply (a : H) (n : Fin 32768) (e : Fin 8) (f : Fin 256) :
    act a (ix3 n e f) = Experts.silu (a (ix3 n e f)) := by
  pointwise [act]
  unfold Experts.silu
  rw [zero_sub]

theorem wide_apply (v : C8) (n : Fin 32768) (e : Fin 8) (f : Fin 256) : wide v (ix3 n e f) = v (ix2 n e) := by
  pointwise [wide]

theorem lanes_apply (v : FVec Ideal S32768x128 .f32) (n : Fin 32768) (g : Fin 4) (e : Fin 8) :
    lanes v (ix3 n g e) = v (ix2 n ⟨4 + (8 * g.val + e.val), by omega⟩) := by
  pointwise [lanes]
  exact congrArg (fun k => v (ix2 n k)) (Fin.ext (by
    show 4 + (g.val * 8 + e.val) = 4 + (8 * g.val + e.val); omega))

theorem hidden_apply (a u w : H) (i : S32768x8x256.Idx) :
    mulf (mulf a u) w i = (a i : EReal) * u i * w i := rfl

theorem down_dot (h : H) (d : WO8) (n : Fin 32768) (x : Fin 1024) :
    Host.dotGeneral dot_S32768x8x256_S8x256x1024_S32768x1024_12_01_0_2_n_n none h d (ix2 n x)
      = ∑ e : Fin 8, ∑ f : Fin 256, (h (ix3 n e f) : EReal) * d (ix3 e f x) := by
  pointwise

theorem group_apply (x : T) (g u : WI8) (w : C8) (d : WO8) (n : Fin 32768) (c : Fin 1024) :
    group x g u w d (ix2 n c) = ∑ e : Fin 8, Experts.expert (fun k : Fin 1024 => (x (ix2 n k) : EReal))
      (fun k f => g (ix3 e k f)) (fun k f => u (ix3 e k f)) (w (ix2 n e))
      (fun (f : Fin 256) c => d (ix3 e f c)) c := by
  unfold group Experts.expert Experts.hid
  rw [down_dot]
  refine Finset.sum_congr rfl fun e _ => Finset.sum_congr rfl fun f _ => ?_
  rw [hidden_apply, act_apply, proj_apply, proj_apply, wide_apply]

theorem resid_apply (x a b c d : T) (n : Fin 32768) (k : Fin 1024) :
    resid x a b c d (ix2 n k) = alpha * (x (ix2 n k) : EReal)
      + (a (ix2 n k) + b (ix2 n k) + c (ix2 n k) + d (ix2 n k)) := by
  pointwise [resid]
  rfl

theorem mean_apply (y : T) (n : Fin 32768) :
    mean y (ix2 n 0) = Ideal.div (∑ k : Fin 1024, (y (ix2 n k) : EReal)) cols := by
  pointwise [mean]
  rfl

theorem across_apply (v : FVec Ideal S32768x1 .f32) (n : Fin 32768) (k : Fin 1024) :
    across v (ix2 n k) = v (ix2 n 0) := by
  pointwise [across]

theorem down_apply (v : FVec Ideal S1024 .f32) (n : Fin 32768) (k : Fin 1024) :
    down v (ix2 n k) = v (ix1 k) := by
  pointwise [down]

theorem combine_apply (z s g b : T) (i : S32768x1024.Idx) :
    addf (mulf (mulf z s) g) b i = (z i : EReal) * s i * g i + b i := rfl

theorem spread_apply (v : FVec Ideal S32768x1 .f32) (n : Fin 32768) :
    Host.rsqrt (addf v (broadcastInDim S32768x1 ![] bcast_S_S32768x1 (constant S_ .f32 0x3727C5AC#32))) (ix2 n 0)
      = Ideal.rsqrt ((v (ix2 n 0) : EReal) + small) := by
  pointwise
  rfl

theorem square_apply (z : T) (i : S32768x1024.Idx) : mulf z z i = (z i : EReal) * z i := rfl

theorem centre_apply (y : T) (n : Fin 32768) (k : Fin 1024) :
    subf y (across (mean y)) (ix2 n k)
      = (y (ix2 n k) : EReal) - Ideal.div (∑ k : Fin 1024, (y (ix2 n k) : EReal)) cols := by
  rw [← mean_apply, ← across_apply (mean y) n k]
  rfl

/-- The layer norm. -/
theorem norm_apply (y : T) (g b : FVec Ideal S1024 .f32) (n : Fin 32768) (k : Fin 1024) :
    finish (subf y (across (mean y))) g b (ix2 n k)
      = Experts.norm cols small (fun x : Fin 1024 => (y (ix2 n x) : EReal)) (fun x => g (ix1 x))
          (fun x => b (ix1 x)) k := by
  unfold finish Experts.norm
  rw [combine_apply, across_apply, spread_apply, mean_apply, down_apply, down_apply]
  simp only [square_apply, centre_apply]

/-! ## The weights of a group -/

theorem slice_in (v : FVec Ideal S4x8x1024x256 .f32) (e : Fin 8) (k : Fin 1024) (f : Fin 256) :
    (shapeCast S8x1024x256 (extractStridedSlice S1x8x1024x256 ![0, 0, 0, 0] v slices_S4x8x1024x256_S1x8x1024x256_0_0_0_0)
        shapeCasts_S1x8x1024x256_S8x1024x256 (ix3 e k f) = v (ix4 0 e k f))
    ∧ (shapeCast S8x1024x256 (extractStridedSlice S1x8x1024x256 ![1, 0, 0, 0] v slices_S4x8x1024x256_S1x8x1024x256_1_0_0_0)
        shapeCasts_S1x8x1024x256_S8x1024x256 (ix3 e k f) = v (ix4 1 e k f))
    ∧ (shapeCast S8x1024x256 (extractStridedSlice S1x8x1024x256 ![2, 0, 0, 0] v slices_S4x8x1024x256_S1x8x1024x256_2_0_0_0)
        shapeCasts_S1x8x1024x256_S8x1024x256 (ix3 e k f) = v (ix4 2 e k f))
    ∧ (shapeCast S8x1024x256 (extractStridedSlice S1x8x1024x256 ![3, 0, 0, 0] v slices_S4x8x1024x256_S1x8x1024x256_3_0_0_0)
        shapeCasts_S1x8x1024x256_S8x1024x256 (ix3 e k f) = v (ix4 3 e k f)) := by
  refine ⟨?_, ?_, ?_, ?_⟩ <;> (pointwise; try rfl)

theorem slice_out (v : FVec Ideal S4x8x256x1024 .f32) (e : Fin 8) (f : Fin 256) (k : Fin 1024) :
    (shapeCast S8x256x1024 (extractStridedSlice S1x8x256x1024 ![0, 0, 0, 0] v slices_S4x8x256x1024_S1x8x256x1024_0_0_0_0)
        shapeCasts_S1x8x256x1024_S8x256x1024 (ix3 e f k) = v (ix4 0 e f k))
    ∧ (shapeCast S8x256x1024 (extractStridedSlice S1x8x256x1024 ![1, 0, 0, 0] v slices_S4x8x256x1024_S1x8x256x1024_1_0_0_0)
        shapeCasts_S1x8x256x1024_S8x256x1024 (ix3 e f k) = v (ix4 1 e f k))
    ∧ (shapeCast S8x256x1024 (extractStridedSlice S1x8x256x1024 ![2, 0, 0, 0] v slices_S4x8x256x1024_S1x8x256x1024_2_0_0_0)
        shapeCasts_S1x8x256x1024_S8x256x1024 (ix3 e f k) = v (ix4 2 e f k))
    ∧ (shapeCast S8x256x1024 (extractStridedSlice S1x8x256x1024 ![3, 0, 0, 0] v slices_S4x8x256x1024_S1x8x256x1024_3_0_0_0)
        shapeCasts_S1x8x256x1024_S8x256x1024 (ix3 e f k) = v (ix4 3 e f k)) := by
  refine ⟨?_, ?_, ?_, ?_⟩ <;> (pointwise; try rfl)

theorem slice_lanes (v : FVec Ideal S32768x4x8 .f32) (n : Fin 32768) (e : Fin 8) :
    (shapeCast S32768x8 (extractStridedSlice S32768x1x8 ![0, 0, 0] v slices_S32768x4x8_S32768x1x8_0_0_0)
        shapeCasts_S32768x1x8_S32768x8 (ix2 n e) = v (ix3 n 0 e))
    ∧ (shapeCast S32768x8 (extractStridedSlice S32768x1x8 ![0, 1, 0] v slices_S32768x4x8_S32768x1x8_0_1_0)
        shapeCasts_S32768x1x8_S32768x8 (ix2 n e) = v (ix3 n 1 e))
    ∧ (shapeCast S32768x8 (extractStridedSlice S32768x1x8 ![0, 2, 0] v slices_S32768x4x8_S32768x1x8_0_2_0)
        shapeCasts_S32768x1x8_S32768x8 (ix2 n e) = v (ix3 n 2 e))
    ∧ (shapeCast S32768x8 (extractStridedSlice S32768x1x8 ![0, 3, 0] v slices_S32768x4x8_S32768x1x8_0_3_0)
        shapeCasts_S32768x1x8_S32768x8 (ix2 n e) = v (ix3 n 3 e)) := by
  refine ⟨?_, ?_, ?_, ?_⟩ <;> (pointwise; try rfl)

/-! ## The result -/

/-- The residual and the sum over the groups, from the tokens, the routing array and the weights. -/
def total (x : T) (cb : FVec Ideal S32768x128 .f32) (wg wu : FVec Ideal S4x8x1024x256 .f32)
    (wd : FVec Ideal S4x8x256x1024 .f32) : T :=
  resid x
      (group x (shapeCast S8x1024x256 (extractStridedSlice S1x8x1024x256 ![0, 0, 0, 0] wg slices_S4x8x1024x256_S1x8x1024x256_0_0_0_0) shapeCasts_S1x8x1024x256_S8x1024x256)
        (shapeCast S8x1024x256 (extractStridedSlice S1x8x1024x256 ![0, 0, 0, 0] wu slices_S4x8x1024x256_S1x8x1024x256_0_0_0_0) shapeCasts_S1x8x1024x256_S8x1024x256)
        (shapeCast S32768x8 (extractStridedSlice S32768x1x8 ![0, 0, 0] (lanes cb) slices_S32768x4x8_S32768x1x8_0_0_0) shapeCasts_S32768x1x8_S32768x8)
        (shapeCast S8x256x1024 (extractStridedSlice S1x8x256x1024 ![0, 0, 0, 0] wd slices_S4x8x256x1024_S1x8x256x1024_0_0_0_0) shapeCasts_S1x8x256x1024_S8x256x1024))
      (group x (shapeCast S8x1024x256 (extractStridedSlice S1x8x1024x256 ![1, 0, 0, 0] wg slices_S4x8x1024x256_S1x8x1024x256_1_0_0_0) shapeCasts_S1x8x1024x256_S8x1024x256)
        (shapeCast S8x1024x256 (extractStridedSlice S1x8x1024x256 ![1, 0, 0, 0] wu slices_S4x8x1024x256_S1x8x1024x256_1_0_0_0) shapeCasts_S1x8x1024x256_S8x1024x256)
        (shapeCast S32768x8 (extractStridedSlice S32768x1x8 ![0, 1, 0] (lanes cb) slices_S32768x4x8_S32768x1x8_0_1_0) shapeCasts_S32768x1x8_S32768x8)
        (shapeCast S8x256x1024 (extractStridedSlice S1x8x256x1024 ![1, 0, 0, 0] wd slices_S4x8x256x1024_S1x8x256x1024_1_0_0_0) shapeCasts_S1x8x256x1024_S8x256x1024))
      (group x (shapeCast S8x1024x256 (extractStridedSlice S1x8x1024x256 ![2, 0, 0, 0] wg slices_S4x8x1024x256_S1x8x1024x256_2_0_0_0) shapeCasts_S1x8x1024x256_S8x1024x256)
        (shapeCast S8x1024x256 (extractStridedSlice S1x8x1024x256 ![2, 0, 0, 0] wu slices_S4x8x1024x256_S1x8x1024x256_2_0_0_0) shapeCasts_S1x8x1024x256_S8x1024x256)
        (shapeCast S32768x8 (extractStridedSlice S32768x1x8 ![0, 2, 0] (lanes cb) slices_S32768x4x8_S32768x1x8_0_2_0) shapeCasts_S32768x1x8_S32768x8)
        (shapeCast S8x256x1024 (extractStridedSlice S1x8x256x1024 ![2, 0, 0, 0] wd slices_S4x8x256x1024_S1x8x256x1024_2_0_0_0) shapeCasts_S1x8x256x1024_S8x256x1024))
      (group x (shapeCast S8x1024x256 (extractStridedSlice S1x8x1024x256 ![3, 0, 0, 0] wg slices_S4x8x1024x256_S1x8x1024x256_3_0_0_0) shapeCasts_S1x8x1024x256_S8x1024x256)
        (shapeCast S8x1024x256 (extractStridedSlice S1x8x1024x256 ![3, 0, 0, 0] wu slices_S4x8x1024x256_S1x8x1024x256_3_0_0_0) shapeCasts_S1x8x1024x256_S8x1024x256)
        (shapeCast S32768x8 (extractStridedSlice S32768x1x8 ![0, 3, 0] (lanes cb) slices_S32768x4x8_S32768x1x8_0_3_0) shapeCasts_S32768x1x8_S32768x8)
        (shapeCast S8x256x1024 (extractStridedSlice S1x8x256x1024 ![3, 0, 0, 0] wd slices_S4x8x256x1024_S1x8x256x1024_3_0_0_0) shapeCasts_S1x8x256x1024_S8x256x1024))

/-- A group's contribution, when its slices are those of group `g`. -/
theorem group_of (x : T) (cb : FVec Ideal S32768x128 .f32) (wg wu : FVec Ideal S4x8x1024x256 .f32)
    (wd : FVec Ideal S4x8x256x1024 .f32) (g : Fin 4) (a u : WI8) (w : C8) (d : WO8)
    (ha : ∀ e k f, a (ix3 e k f) = wg (ix4 g e k f)) (hu : ∀ e k f, u (ix3 e k f) = wu (ix4 g e k f))
    (hw : ∀ n e, w (ix2 n e) = lanes cb (ix3 n g e)) (hd : ∀ e f k, d (ix3 e f k) = wd (ix4 g e f k))
    (n : Fin 32768) (k : Fin 1024) :
    group x a u w d (ix2 n k) = ∑ e : Fin 8, contribution x cb wg wu wd n k g e := by
  rw [group_apply]
  unfold contribution
  simp only [ha, hu, hw, hd, lanes_apply]

theorem total_apply (x : T) (cb : FVec Ideal S32768x128 .f32) (wg wu : FVec Ideal S4x8x1024x256 .f32)
    (wd : FVec Ideal S4x8x256x1024 .f32) (n : Fin 32768) (k : Fin 1024) :
    total x cb wg wu wd (ix2 n k) = alpha * (x (ix2 n k) : EReal)
      + ∑ g : Fin 4, ∑ e : Fin 8, contribution x cb wg wu wd n k g e := by
  unfold total
  rw [resid_apply, Fin.sum_univ_four]
  rw [group_of x cb wg wu wd 0 _ _ _ _ (fun e k f => (slice_in wg e k f).1) (fun e k f => (slice_in wu e k f).1)
      (fun n e => (slice_lanes (lanes cb) n e).1) (fun e f k => (slice_out wd e f k).1),
    group_of x cb wg wu wd 1 _ _ _ _ (fun e k f => (slice_in wg e k f).2.1)
      (fun e k f => (slice_in wu e k f).2.1) (fun n e => (slice_lanes (lanes cb) n e).2.1)
      (fun e f k => (slice_out wd e f k).2.1),
    group_of x cb wg wu wd 2 _ _ _ _ (fun e k f => (slice_in wg e k f).2.2.1)
      (fun e k f => (slice_in wu e k f).2.2.1) (fun n e => (slice_lanes (lanes cb) n e).2.2.1)
      (fun e f k => (slice_out wd e f k).2.2.1),
    group_of x cb wg wu wd 3 _ _ _ _ (fun e k f => (slice_in wg e k f).2.2.2)
      (fun e k f => (slice_in wu e k f).2.2.2) (fun n e => (slice_lanes (lanes cb) n e).2.2.2)
      (fun e f k => (slice_out wd e f k).2.2.2)]

/-- The result as the reference's operations write it. -/
def result (y : T) (g b : FVec Ideal S1024 .f32) : T := finish (subf y (across (mean y))) g b

theorem result_apply (x : T) (cb : FVec Ideal S32768x128 .f32) (wg wu : FVec Ideal S4x8x1024x256 .f32)
    (wd : FVec Ideal S4x8x256x1024 .f32) (g b : FVec Ideal S1024 .f32) (n : Fin 32768) (k : Fin 1024) :
    result (total x cb wg wu wd) g b (ix2 n k) = at2 x cb wg wu wd g b n k := by
  unfold result at2
  rw [norm_apply]
  simp only [total_apply]

variable (m : (ℓ : Loc nD τ sig) → Buf (Elt Ideal) ℓ)

theorem out_eq (c : Dev nD) : @Eq T (res_main_v97 m c)
    (result (total
      (shapeCast S32768x1024 (m ((c.tc : Thread nD τ).loc main_arg0) : FVec Ideal S2x16384x1024 .f32)
        shapeCasts_S2x16384x1024_S32768x1024)
      (shapeCast S32768x128 (m ((c.tc : Thread nD τ).loc main_arg1) : FVec Ideal S2x16384x128 .f32)
        shapeCasts_S2x16384x128_S32768x128)
      (m ((c.tc : Thread nD τ).loc main_arg2) : FVec Ideal S4x8x1024x256 .f32)
      (m ((c.tc : Thread nD τ).loc main_arg3) : FVec Ideal S4x8x1024x256 .f32)
      (m ((c.tc : Thread nD τ).loc main_arg4) : FVec Ideal S4x8x256x1024 .f32))
      (m ((c.tc : Thread nD τ).loc main_arg5) : FVec Ideal S1024 .f32)
      (m ((c.tc : Thread nD τ).loc main_arg6) : FVec Ideal S1024 .f32)) := by
  unfold res_main_v97 result total finish resid group lanes wide act proj across mean down
  rfl

/-- The reference's result at an index. -/
theorem out_apply (c : Dev nD) (n : Fin 32768) (k : Fin 1024) :
    (res_main_v97 m c : T) (ix2 n k)
      = at2 (shapeCast S32768x1024 (m ((c.tc : Thread nD τ).loc main_arg0) : FVec Ideal S2x16384x1024 .f32)
          shapeCasts_S2x16384x1024_S32768x1024)
        (shapeCast S32768x128 (m ((c.tc : Thread nD τ).loc main_arg1) : FVec Ideal S2x16384x128 .f32)
          shapeCasts_S2x16384x128_S32768x128)
        (m ((c.tc : Thread nD τ).loc main_arg2) : FVec Ideal S4x8x1024x256 .f32)
        (m ((c.tc : Thread nD τ).loc main_arg3) : FVec Ideal S4x8x1024x256 .f32)
        (m ((c.tc : Thread nD τ).loc main_arg4) : FVec Ideal S4x8x256x1024 .f32)
        (m ((c.tc : Thread nD τ).loc main_arg5) : FVec Ideal S1024 .f32)
        (m ((c.tc : Thread nD τ).loc main_arg6) : FVec Ideal S1024 .f32) n k :=
  (congrFun (out_eq m c) _).trans (result_apply _ _ _ _ _ _ _ n k)

end Cert.MoeRefIdeal.Value
end
-- ==== Proof.MoeEq.lean ====
module

public import proofs.«01_k».proof.Defs
public import proofs.«01_k».proof.Proof.MoeRef
public import proofs.«01_k».proof.Proof.Gen.MoeIdeal.Value

@[expose] public section

/-!
# The expert claim

The two programs' results are equal.
-/

set_option maxRecDepth 16384

noncomputable section

namespace Cert.MoeProof

open Idealize.ShloMosaic Idealize.ShloMosaic.TcCoe Idealize.SL.Sem
open Cert.MoeIdeal.Array (at2 G)

/-- The algebraic claim about the experts. -/
theorem algebraic : Cert.algebraic_MoeIdeal_MoeRefIdeal := by
  intro m ρ m' ρ' hpre hagree
  refine ⟨fun c => G m c, ?_, ?_⟩
  · refine (θ_run _ _ _).mono (fun _ h c => ⟨(h c).1.trans ?_, (h c).2⟩) (Cert.MoeIdeal.Value.run_blocks m ρ)
    exact Cert.MoeIdeal.Array.final m c
  · refine (θ_run _ _ _).mono (fun _ h c => ⟨(h c).1.trans ?_, (h c).2⟩) (Cert.MoeRefIdeal.Value.run m' ρ')
    funext i
    obtain ⟨e0, e1, e2, e3, e4, e5, e6⟩ := hagree c
    idx_vars i
    refine (Cert.MoeRefIdeal.Value.out_apply m' c _ _).trans ?_
    rw [e0, e1, e2, e3, e4, e5, e6]
    rfl

end Cert.MoeProof
end
-- ==== Proof.InprojBlock.lean ====
module

public import proofs.«01_k».proof.Proof.Gen.InprojIdeal.Value
public import proofs.«01_k».proof.Proof.Proj

@[expose] public section

/-!
# One grid point of the in-projection kernel

What a grid point stores into the blocks of its seven results, at an index, from the blocks of its
arguments. The heads are stated once and read for every head.
-/

set_option maxRecDepth 16384

noncomputable section

namespace Cert.InprojIdeal.Block

open Cert.InprojIdeal Cert.InprojIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The numbers of columns of the norms and their small constants. -/
def cols : EReal := Ideal.ofBits FTy.f32 0x44800000#32
def small : EReal := Ideal.ofBits FTy.f32 0x3727C5AC#32
def colsQ : EReal := Ideal.ofBits FTy.f32 0x43C00000#32
def colsKV : EReal := Ideal.ofBits FTy.f32 0x43800000#32
def smallR : EReal := Ideal.ofBits FTy.f32 0x358637BD#32

abbrev Tok := Vec Ideal S1x512x1024 .f32
abbrev Row := Vec Ideal S1x1024 .f32
abbrev WAll := Vec Ideal S1024x1920 .bf16
abbrev Mid := FVec Ideal S512x1920 .f32
abbrev RowQ := Vec Ideal S1x384 .f32
abbrev RowKV := Vec Ideal S1x256 .f32
abbrev Ang := Vec Ideal S512x96 .f32
abbrev LatQ := FVec Ideal S512x384 .bf16
abbrev LatKV := FVec Ideal S512x256 .bf16
abbrev WQ := Vec Ideal S8x384x96 .bf16
abbrev WK := Vec Ideal S8x256x96 .bf16
abbrev WV := Vec Ideal S8x256x64 .bf16
abbrev Mat := Vec Ideal S256x256 .bf16

/-! ## The payloads at an index -/

theorem pay3_apply (x : Tok) (g b : Row) (r : Fin 512) (d : Fin 1024) :
    k0_pay3 x g b (ix2 r d)
      = Experts.norm cols small (fun k : Fin 1024 => (x (ix3 0 r k) : EReal)) (fun k => g (ix2 0 k))
          (fun k => b (ix2 0 k)) d := by
  pointwise [k0_pay3]
  rfl

theorem pay4_apply (x : Tok) (g b : Row) (r : Fin 512) (d : Fin 1024) :
    k0_pay4 x g b (ix3 0 r d) = (k0_pay3 x g b (ix2 r d) : EReal) := by
  unfold k0_pay4
  generalize k0_pay3 x g b = v
  pointwise

theorem pay5_apply (x : Tok) (g b : Row) (w : WAll) (r : Fin 512) (p : Fin 1920) :
    k0_pay5 x g b w (ix2 r p)
      = Proj.dot (fun k : Fin 1024 => (k0_pay3 x g b (ix2 r k) : EReal)) (fun k => w (ix2 k p)) := by
  unfold k0_pay5
  generalize k0_pay3 x g b = v
  pointwise
  rfl

theorem pay6_eq (v : Ang) : k0_pay6 v = v := by
  funext i
  idx_vars i
  pointwise [k0_pay6]

theorem pay7_eq (v : Ang) : k0_pay7 v = v := by
  funext i
  idx_vars i
  pointwise [k0_pay7]

theorem pay8_apply (z : Mid) (g : RowQ) (r : Fin 512) (j : Fin 384) :
    k0_pay8 z g (ix2 r j)
      = Proj.rms colsQ smallR (fun k : Fin 384 => (z (ix2 r ⟨k.val, by omega⟩) : EReal)) (fun k => g (ix2 0 k)) j := by
  pointwise [k0_pay8]
  rfl

theorem pay9_apply (z : Mid) (g : RowKV) (r : Fin 512) (j : Fin 256) :
    k0_pay9 z g (ix2 r j)
      = Proj.rms colsKV smallR (fun k : Fin 256 => (z (ix2 r ⟨384 + k.val, by omega⟩) : EReal))
          (fun k => g (ix2 0 k)) j := by
  pointwise [k0_pay9]
  rfl

theorem pay10_apply (z : Mid) (c s : Ang) (r : Fin 512) (d : Fin 96) :
    k0_pay10 z c s (ix2 r d)
      = (z (ix2 r ⟨1664 + d.val, by omega⟩) : EReal) * c (ix2 r d) + z (ix2 r ⟨1792 + d.val, by omega⟩) * s (ix2 r d) := by
  unfold k0_pay10
  rw [pay7_eq]
  pointwise

theorem pay41_apply (c s : Ang) (n : LatQ) (w w' : Vec Ideal S1x384x96 .bf16) (r : Fin 512) (d : Fin 96) :
    k0_pay41 c s n w w' (ix4 0 0 r d)
      = Proj.dot (fun k : Fin 384 => (n (ix2 r k) : EReal)) (fun k => w (ix3 0 k d)) * c (ix2 r d)
        + Proj.dot (fun k : Fin 384 => (n (ix2 r k) : EReal)) (fun k => w' (ix3 0 k d)) * s (ix2 r d) := by
  pointwise [k0_pay41]
  rfl

theorem pay42_apply (n : LatKV) (kp : Ang) (w : Vec Ideal S1x256x96 .bf16) (r : Fin 512) (d : Fin 96) :
    k0_pay42 n kp w (ix4 0 0 r d)
      = Proj.dot (fun k : Fin 256 => (n (ix2 r k) : EReal)) (fun k => w (ix3 0 k d)) + kp (ix2 r d) := by
  pointwise [k0_pay42]
  rfl

theorem pay43_apply (n : LatKV) (w : Vec Ideal S1x256x64 .bf16) (r : Fin 512) (d : Fin 64) :
    k0_pay43 n w (ix4 0 0 r d)
      = Proj.dot (fun k : Fin 256 => (n (ix2 r k) : EReal)) (fun k => w (ix3 0 k d)) := by
  pointwise [k0_pay43]
  rfl

theorem pay44_apply (z : Mid) (r : Fin 512) (d : Fin 256) :
    k0_pay44 z (ix3 0 r d) = (z (ix2 r ⟨896 + d.val, by omega⟩) : EReal) * z (ix2 r ⟨1152 + d.val, by omega⟩) := by
  pointwise [k0_pay44]

theorem pay45_apply (z : Mid) (r : Fin 512) (d : Fin 256) :
    k0_pay45 z (ix3 0 r d) = (z (ix2 r ⟨640 + d.val, by omega⟩) : EReal) := by
  pointwise [k0_pay45]

theorem pay2_apply (z : Mid) (w : Mat) (r : Fin 512) (d : Fin 256) :
    k0_pay2 (k0_pay46 z) w (ix3 0 r d)
      = Proj.dot (fun k : Fin 256 => (z (ix2 r ⟨1408 + k.val, by omega⟩) : EReal)) (fun k => w (ix2 k d)) := by
  pointwise [k0_pay2, k0_pay46]
  rfl

theorem pay1_eq (z : Mid) (w : Mat) : k0_pay1 (k0_pay47 z w) = k0_pay2 (k0_pay46 z) w := rfl

/-! ## The loads and stores of a head -/

theorem ld6 (w : WQ) (hd : ℕ) (h : hd < 8) (inb) (k : Fin 384) (d : Fin 96) :
    View.ld w (Rect.unit (s := S8x384x96) ![hd, 0, 0] S1x384x96.size inb) (ix3 0 k d : S1x384x96.Idx)
      = w (ix3 ⟨hd, h⟩ k d) :=
  congrArg w (funext fun a => Fin.ext (by
    match a with
    | ⟨0, _⟩ => rfl
    | ⟨1, _⟩ => show 0 + 1 * k.val = k.val; omega
    | ⟨2, _⟩ => show 0 + 1 * d.val = d.val; omega))

theorem ld8 (w : WK) (hd : ℕ) (h : hd < 8) (inb) (k : Fin 256) (d : Fin 96) :
    View.ld w (Rect.unit (s := S8x256x96) ![hd, 0, 0] S1x256x96.size inb) (ix3 0 k d : S1x256x96.Idx)
      = w (ix3 ⟨hd, h⟩ k d) :=
  congrArg w (funext fun a => Fin.ext (by
    match a with
    | ⟨0, _⟩ => rfl
    | ⟨1, _⟩ => show 0 + 1 * k.val = k.val; omega
    | ⟨2, _⟩ => show 0 + 1 * d.val = d.val; omega))

theorem ld9 (w : WV) (hd : ℕ) (h : hd < 8) (inb) (k : Fin 256) (d : Fin 64) :
    View.ld w (Rect.unit (s := S8x256x64) ![hd, 0, 0] S1x256x64.size inb) (ix3 0 k d : S1x256x64.Idx)
      = w (ix3 ⟨hd, h⟩ k d) :=
  congrArg w (funext fun a => Fin.ext (by
    match a with
    | ⟨0, _⟩ => rfl
    | ⟨1, _⟩ => show 0 + 1 * k.val = k.val; omega
    | ⟨2, _⟩ => show 0 + 1 * d.val = d.val; omega))

/-- The queries of a block, at an index. -/
def EQ (c s : Ang) (n : LatQ) (w w' : WQ) (y : S1x8x512x96.Idx) : EReal :=
  Proj.dot (fun k : Fin 384 => (n (ix2 (y 2) k) : EReal)) (fun k => w (ix3 (y 1) k (y 3))) * c (ix2 (y 2) (y 3))
    + Proj.dot (fun k : Fin 384 => (n (ix2 (y 2) k) : EReal)) (fun k => w' (ix3 (y 1) k (y 3))) * s (ix2 (y 2) (y 3))

/-- The keys of a block, at an index. -/
def EK (n : LatKV) (kp : Ang) (w : WK) (y : S1x8x512x96.Idx) : EReal :=
  Proj.dot (fun k : Fin 256 => (n (ix2 (y 2) k) : EReal)) (fun k => w (ix3 (y 1) k (y 3))) + kp (ix2 (y 2) (y 3))

/-- The values of a block, at an index. -/
def EV (n : LatKV) (w : WV) (y : S1x8x512x64.Idx) : EReal :=
  Proj.dot (fun k : Fin 256 => (n (ix2 (y 2) k) : EReal)) (fun k => w (ix3 (y 1) k (y 3)))

theorem emb96 (hd : ℕ) (h : hd < 8) (inb) (i : Fin 1) (i' : Fin 1) (r : Fin 512) (d : Fin 96) :
    (Rect.unit (s := S1x8x512x96) ![0, hd, 0, 0] S1x1x512x96.size inb).emb (ix4 i i' r d : S1x1x512x96.Idx)
      = ix4 0 ⟨hd, h⟩ r d := by
  funext a
  apply Fin.ext
  match a with
  | ⟨0, _⟩ => show 0 + 1 * i.val = 0; omega
  | ⟨1, _⟩ => show hd + 1 * i'.val = hd; omega
  | ⟨2, _⟩ => show 0 + 1 * r.val = r.val; omega
  | ⟨3, _⟩ => show 0 + 1 * d.val = d.val; omega

theorem emb64 (hd : ℕ) (h : hd < 8) (inb) (i : Fin 1) (i' : Fin 1) (r : Fin 512) (d : Fin 64) :
    (Rect.unit (s := S1x8x512x64) ![0, hd, 0, 0] S1x1x512x64.size inb).emb (ix4 i i' r d : S1x1x512x64.Idx)
      = ix4 0 ⟨hd, h⟩ r d := by
  funext a
  apply Fin.ext
  match a with
  | ⟨0, _⟩ => show 0 + 1 * i.val = 0; omega
  | ⟨1, _⟩ => show hd + 1 * i'.val = hd; omega
  | ⟨2, _⟩ => show 0 + 1 * r.val = r.val; omega
  | ⟨3, _⟩ => show 0 + 1 * d.val = d.val; omega

theorem head_q (c s : Ang) (n : LatQ) (w w' : WQ) (hd : ℕ) (h : hd < 8) (inb inb' inb'')
    (x : S1x1x512x96.Idx) :
    k0_pay41 c s n (View.ld w (Rect.unit (s := S8x384x96) ![hd, 0, 0] S1x384x96.size inb))
        (View.ld w' (Rect.unit (s := S8x384x96) ![hd, 0, 0] S1x384x96.size inb')) x
      = EQ c s n w w' ((Rect.unit (s := S1x8x512x96) ![0, hd, 0, 0] S1x1x512x96.size inb'').emb x) := by
  idx_vars x
  rw [emb96 hd h]
  obtain rfl : x0 = 0 := Subsingleton.elim _ _
  obtain rfl : x1 = 0 := Subsingleton.elim _ _
  refine (pay41_apply c s n _ _ x2 x3).trans ?_
  exact congrArg₂ (fun u v : Fin 384 → EReal => Proj.dot (fun k : Fin 384 => (n (ix2 x2 k) : EReal)) u * c (ix2 x2 x3)
      + Proj.dot (fun k : Fin 384 => (n (ix2 x2 k) : EReal)) v * s (ix2 x2 x3))
    (funext fun k => ld6 w hd h inb k x3) (funext fun k => ld6 w' hd h inb' k x3)

theorem head_k (n : LatKV) (kp : Ang) (w : WK) (hd : ℕ) (h : hd < 8) (inb inb') (x : S1x1x512x96.Idx) :
    k0_pay42 n kp (View.ld w (Rect.unit (s := S8x256x96) ![hd, 0, 0] S1x256x96.size inb)) x
      = EK n kp w ((Rect.unit (s := S1x8x512x96) ![0, hd, 0, 0] S1x1x512x96.size inb').emb x) := by
  idx_vars x
  rw [emb96 hd h]
  obtain rfl : x0 = 0 := Subsingleton.elim _ _
  obtain rfl : x1 = 0 := Subsingleton.elim _ _
  refine (pay42_apply n kp _ x2 x3).trans ?_
  exact congrArg (fun u : Fin 256 → EReal => Proj.dot (fun k : Fin 256 => (n (ix2 x2 k) : EReal)) u + kp (ix2 x2 x3))
    (funext fun k => ld8 w hd h inb k x3)

theorem head_v (n : LatKV) (w : WV) (hd : ℕ) (h : hd < 8) (inb inb') (x : S1x1x512x64.Idx) :
    k0_pay43 n (View.ld w (Rect.unit (s := S8x256x64) ![hd, 0, 0] S1x256x64.size inb)) x
      = EV n w ((Rect.unit (s := S1x8x512x64) ![0, hd, 0, 0] S1x1x512x64.size inb').emb x) := by
  idx_vars x
  rw [emb64 hd h]
  obtain rfl : x0 = 0 := Subsingleton.elim _ _
  obtain rfl : x1 = 0 := Subsingleton.elim _ _
  refine (pay43_apply n _ x2 x3).trans ?_
  exact congrArg (fun u : Fin 256 → EReal => Proj.dot (fun k : Fin 256 => (n (ix2 x2 k) : EReal)) u)
    (funext fun k => ld9 w hd h inb k x3)

/-- The product of the Fourier channels of a row with a column of a matrix. -/
def chan (z : Mid) (w : Mat) (r : Fin 512) (d : Fin 256) : EReal :=
  Proj.dot (fun k : Fin 256 => (z (ix2 r ⟨1408 + k.val, by omega⟩) : EReal)) (fun k => w (ix2 k d))

/-- The products with the two matrices, side by side. -/
def both (z : Mid) (cc sc : Mat) (r : Fin 512) (q : Fin 512) : EReal :=
  if h : q.val < 256 then chan z cc r ⟨q.val, h⟩ else chan z sc r ⟨q.val - 256, by omega⟩

/-- The same, at an index of the block. -/
def EA (z : Mid) (cc sc : Mat) (y : S1x512x512.Idx) : EReal := both z cc sc (y 1) (y 2)

theorem left_half (z : Mid) (cc sc : Mat) (inb) (x : S1x512x256.Idx) :
    k0_pay1 (k0_pay47 z cc) x
      = EA z cc sc ((Rect.unit (s := S1x512x512) ![0, 0, 0] S1x512x256.size inb).emb x) := by
  rw [pay1_eq]
  idx_vars x
  obtain rfl : x0 = 0 := Subsingleton.elim _ _
  have e : (Rect.unit (s := S1x512x512) ![0, 0, 0] S1x512x256.size inb).emb (ix3 0 x1 x2 : S1x512x256.Idx)
      = ix3 0 x1 (⟨x2.val, by omega⟩ : Fin 512) := by
    funext a
    apply Fin.ext
    match a with
    | ⟨0, _⟩ => rfl
    | ⟨1, _⟩ => show 0 + 1 * x1.val = x1.val; omega
    | ⟨2, _⟩ => show 0 + 1 * x2.val = x2.val; omega
  rw [e, pay2_apply]
  show chan z cc x1 x2 = both z cc sc x1 ⟨x2.val, by omega⟩
  unfold both
  rw [dif_pos x2.isLt]

theorem right_half (z : Mid) (cc sc : Mat) (inb) (x : S1x512x256.Idx) :
    k0_pay2 (k0_pay46 z) sc x
      = EA z cc sc ((Rect.unit (s := S1x512x512) ![0, 0, 256] S1x512x256.size inb).emb x) := by
  idx_vars x
  obtain rfl : x0 = 0 := Subsingleton.elim _ _
  have e : (Rect.unit (s := S1x512x512) ![0, 0, 256] S1x512x256.size inb).emb (ix3 0 x1 x2 : S1x512x256.Idx)
      = ix3 0 x1 (⟨256 + x2.val, by omega⟩ : Fin 512) := by
    funext a
    apply Fin.ext
    match a with
    | ⟨0, _⟩ => rfl
    | ⟨1, _⟩ => show 0 + 1 * x1.val = x1.val; omega
    | ⟨2, _⟩ => show 256 + 1 * x2.val = 256 + x2.val; omega
  rw [e, pay2_apply]
  show chan z sc x1 x2 = both z cc sc x1 ⟨256 + x2.val, by omega⟩
  unfold both
  rw [dif_neg (by show ¬ (256 + x2.val < 256); omega)]
  exact congrArg (chan z sc x1) (Fin.ext (by show x2.val = 256 + x2.val - 256; omega))

/-! ## The blocks of the results -/

section Out

variable (x0 : Tok) (x1 x2 : Row) (x3 : WAll) (x4 : RowQ) (x5 : RowKV) (x6 x7 : WQ) (x8 : WK) (x9 : WV)
  (x10 x11 : Ang) (x12 x13 : Mat)

theorem k48 : k0_pay48 x0 x1 x2 x3 x4 x5 x6 x7 x8 x9 x10 x11 x12 x13 = k0_pay5 x0 x1 x2 x3 := by
  unfold k0_pay48
  rw [View.ld_unit_zero (S := S1x512x1024) hz3, View.ld_unit_zero (S := S1x1024) hz2,
    View.ld_unit_zero (S := S1x1024) hz2, View.ld_unit_zero (S := S1024x1920) hz2]

theorem k49 : k0_pay49 x0 x1 x2 x3 x4 x5 x6 x7 x8 x9 x10 x11 x12 x13 = x10 := by
  unfold k0_pay49
  rw [View.ld_unit_zero (S := S512x96) hz2, pay6_eq]

theorem k50 : k0_pay50 x0 x1 x2 x3 x4 x5 x6 x7 x8 x9 x10 x11 x12 x13 = x11 := by
  unfold k0_pay50
  rw [View.ld_unit_zero (S := S512x96) hz2, pay7_eq]

theorem k51 : k0_pay51 x0 x1 x2 x3 x4 x5 x6 x7 x8 x9 x10 x11 x12 x13 = k0_pay8 (k0_pay5 x0 x1 x2 x3) x4 := by
  unfold k0_pay51
  rw [View.ld_unit_zero (S := S1x384) hz2, k48]

theorem k52 : k0_pay52 x0 x1 x2 x3 x4 x5 x6 x7 x8 x9 x10 x11 x12 x13 = k0_pay9 (k0_pay5 x0 x1 x2 x3) x5 := by
  unfold k0_pay52
  rw [View.ld_unit_zero (S := S1x256) hz2, k48]

theorem k53 : k0_pay53 x0 x1 x2 x3 x4 x5 x6 x7 x8 x9 x10 x11 x12 x13 = k0_pay10 (k0_pay5 x0 x1 x2 x3) x10 x11 := by
  unfold k0_pay53
  rw [View.ld_unit_zero (S := S512x96) hz2, k48, k49]

theorem out14 : out0_14 x0 x1 x2 x3 x4 x5 x6 x7 x8 x9 x10 x11 x12 x13 = k0_pay4 x0 x1 x2 := by
  unfold out0_14
  rw [View.canon_unit_zero hz3, View.ld_unit_zero (S := S1x512x1024) hz3, View.ld_unit_zero (S := S1x1024) hz2,
    View.ld_unit_zero (S := S1x1024) hz2]

theorem out18 : out0_18 x0 x1 x2 x3 x4 x5 x6 x7 x8 x9 x10 x11 x12 x13 = k0_pay44 (k0_pay5 x0 x1 x2 x3) := by
  unfold out0_18
  rw [View.canon_unit_zero hz3, k48]

theorem out19 : out0_19 x0 x1 x2 x3 x4 x5 x6 x7 x8 x9 x10 x11 x12 x13 = k0_pay45 (k0_pay5 x0 x1 x2 x3) := by
  unfold out0_19
  rw [View.canon_unit_zero hz3, k48]

theorem out15 (y : S1x8x512x96.Idx) :
    out0_15 x0 x1 x2 x3 x4 x5 x6 x7 x8 x9 x10 x11 x12 x13 y = EQ x10 x11 (k0_pay8 (k0_pay5 x0 x1 x2 x3) x4) x6 x7 y := by
  unfold out0_15
  have e : k0_pay11 (k0_pay48 x0 x1 x2 x3 x4 x5 x6 x7 x8 x9 x10 x11 x12 x13) (k0_pay49 x0 x1 x2 x3 x4 x5 x6 x7 x8 x9 x10 x11 x12 x13) (View.ld x4 r0_4)
      = k0_pay15 (k0_pay49 x0 x1 x2 x3 x4 x5 x6 x7 x8 x9 x10 x11 x12 x13) (k0_pay51 x0 x1 x2 x3 x4 x5 x6 x7 x8 x9 x10 x11 x12 x13) := rfl
  rw [e]
  rw [k49, k50, k51]
  generalize k0_pay8 (k0_pay5 x0 x1 x2 x3) x4 = n
  refine View.canon_apply_of_pieces (Val := Elt Ideal) (EQ x10 x11 n x6 x7) _ ?_ y (cover0_15 _ _ _ _ _ _ _ _ y)
  intro p hp
  simp only [List.mem_cons, List.not_mem_nil, or_false] at hp
  rcases hp with rfl | rfl | rfl | rfl | rfl | rfl | rfl | rfl
  · exact head_q x10 x11 n x6 x7 7 (by omega) inb_S8x384x96_S1x384x96_7_0_0
      inb_S8x384x96_S1x384x96_7_0_0 inb_S1x8x512x96_S1x1x512x96_0_7_0_0
  · exact head_q x10 x11 n x6 x7 6 (by omega) inb_S8x384x96_S1x384x96_6_0_0
      inb_S8x384x96_S1x384x96_6_0_0 inb_S1x8x512x96_S1x1x512x96_0_6_0_0
  · exact head_q x10 x11 n x6 x7 5 (by omega) inb_S8x384x96_S1x384x96_5_0_0
      inb_S8x384x96_S1x384x96_5_0_0 inb_S1x8x512x96_S1x1x512x96_0_5_0_0
  · exact head_q x10 x11 n x6 x7 4 (by omega) inb_S8x384x96_S1x384x96_4_0_0
      inb_S8x384x96_S1x384x96_4_0_0 inb_S1x8x512x96_S1x1x512x96_0_4_0_0
  · exact head_q x10 x11 n x6 x7 3 (by omega) inb_S8x384x96_S1x384x96_3_0_0
      inb_S8x384x96_S1x384x96_3_0_0 inb_S1x8x512x96_S1x1x512x96_0_3_0_0
  · exact head_q x10 x11 n x6 x7 2 (by omega) inb_S8x384x96_S1x384x96_2_0_0
      inb_S8x384x96_S1x384x96_2_0_0 inb_S1x8x512x96_S1x1x512x96_0_2_0_0
  · exact head_q x10 x11 n x6 x7 1 (by omega) inb_S8x384x96_S1x384x96_1_0_0
      inb_S8x384x96_S1x384x96_1_0_0 inb_S1x8x512x96_S1x1x512x96_0_1_0_0
  · exact head_q x10 x11 n x6 x7 0 (by omega) inb_S8x384x96_S1x384x96_0_0_0
      inb_S8x384x96_S1x384x96_0_0_0 inb_S1x8x512x96_S1x1x512x96_0_0_0_0

theorem out16 (y : S1x8x512x96.Idx) :
    out0_16 x0 x1 x2 x3 x4 x5 x6 x7 x8 x9 x10 x11 x12 x13 y = EK (k0_pay9 (k0_pay5 x0 x1 x2 x3) x5) (k0_pay10 (k0_pay5 x0 x1 x2 x3) x10 x11) x8 y := by
  unfold out0_16
  rw [k52, k53]
  generalize k0_pay9 (k0_pay5 x0 x1 x2 x3) x5 = n
  generalize k0_pay10 (k0_pay5 x0 x1 x2 x3) x10 x11 = kp
  refine View.canon_apply_of_pieces (Val := Elt Ideal) (EK n kp x8) _ ?_ y (cover0_16 _ _ _ _ _ _ _ _ y)
  intro p hp
  simp only [List.mem_cons, List.not_mem_nil, or_false] at hp
  rcases hp with rfl | rfl | rfl | rfl | rfl | rfl | rfl | rfl
  · exact head_k n kp x8 7 (by omega) inb_S8x256x96_S1x256x96_7_0_0 inb_S1x8x512x96_S1x1x512x96_0_7_0_0
  · exact head_k n kp x8 6 (by omega) inb_S8x256x96_S1x256x96_6_0_0 inb_S1x8x512x96_S1x1x512x96_0_6_0_0
  · exact head_k n kp x8 5 (by omega) inb_S8x256x96_S1x256x96_5_0_0 inb_S1x8x512x96_S1x1x512x96_0_5_0_0
  · exact head_k n kp x8 4 (by omega) inb_S8x256x96_S1x256x96_4_0_0 inb_S1x8x512x96_S1x1x512x96_0_4_0_0
  · exact head_k n kp x8 3 (by omega) inb_S8x256x96_S1x256x96_3_0_0 inb_S1x8x512x96_S1x1x512x96_0_3_0_0
  · exact head_k n kp x8 2 (by omega) inb_S8x256x96_S1x256x96_2_0_0 inb_S1x8x512x96_S1x1x512x96_0_2_0_0
  · exact head_k n kp x8 1 (by omega) inb_S8x256x96_S1x256x96_1_0_0 inb_S1x8x512x96_S1x1x512x96_0_1_0_0
  · exact head_k n kp x8 0 (by omega) inb_S8x256x96_S1x256x96_0_0_0 inb_S1x8x512x96_S1x1x512x96_0_0_0_0

theorem out17 (y : S1x8x512x64.Idx) :
    out0_17 x0 x1 x2 x3 x4 x5 x6 x7 x8 x9 x10 x11 x12 x13 y = EV (k0_pay9 (k0_pay5 x0 x1 x2 x3) x5) x9 y := by
  unfold out0_17
  rw [k52]
  generalize k0_pay9 (k0_pay5 x0 x1 x2 x3) x5 = n
  refine View.canon_apply_of_pieces (Val := Elt Ideal) (EV n x9) _ ?_ y (cover0_17 _ _ _ _ _ _ _ _ y)
  intro p hp
  simp only [List.mem_cons, List.not_mem_nil, or_false] at hp
  rcases hp with rfl | rfl | rfl | rfl | rfl | rfl | rfl | rfl
  · exact head_v n x9 7 (by omega) inb_S8x256x64_S1x256x64_7_0_0 inb_S1x8x512x64_S1x1x512x64_0_7_0_0
  · exact head_v n x9 6 (by omega) inb_S8x256x64_S1x256x64_6_0_0 inb_S1x8x512x64_S1x1x512x64_0_6_0_0
  · exact head_v n x9 5 (by omega) inb_S8x256x64_S1x256x64_5_0_0 inb_S1x8x512x64_S1x1x512x64_0_5_0_0
  · exact head_v n x9 4 (by omega) inb_S8x256x64_S1x256x64_4_0_0 inb_S1x8x512x64_S1x1x512x64_0_4_0_0
  · exact head_v n x9 3 (by omega) inb_S8x256x64_S1x256x64_3_0_0 inb_S1x8x512x64_S1x1x512x64_0_3_0_0
  · exact head_v n x9 2 (by omega) inb_S8x256x64_S1x256x64_2_0_0 inb_S1x8x512x64_S1x1x512x64_0_2_0_0
  · exact head_v n x9 1 (by omega) inb_S8x256x64_S1x256x64_1_0_0 inb_S1x8x512x64_S1x1x512x64_0_1_0_0
  · exact head_v n x9 0 (by omega) inb_S8x256x64_S1x256x64_0_0_0 inb_S1x8x512x64_S1x1x512x64_0_0_0_0

theorem out20 (y : S1x512x512.Idx) : out0_20 x0 x1 x2 x3 x4 x5 x6 x7 x8 x9 x10 x11 x12 x13 y = EA (k0_pay5 x0 x1 x2 x3) x12 x13 y := by
  unfold out0_20
  rw [k48, View.ld_unit_zero (S := S256x256) hz2, View.ld_unit_zero (S := S256x256) hz2]
  generalize k0_pay5 x0 x1 x2 x3 = z
  refine View.canon_apply_of_pieces (Val := Elt Ideal) (EA z x12 x13) _ ?_ y (cover0_20 _ _ y)
  intro p hp
  simp only [List.mem_cons, List.not_mem_nil, or_false] at hp
  rcases hp with rfl | rfl
  · exact right_half z x12 x13 inb_S1x512x512_S1x512x256_0_0_256
  · exact left_half z x12 x13 inb_S1x512x512_S1x512x256_0_0_0

end Out

end Cert.InprojIdeal.Block
end
-- ==== Proof.InprojHost.lean ====
module

public import Idealize.ShloMosaic.Lib.IdealHost
public import proofs.«01_k».proof.Proof.InprojBlock

@[expose] public section

/-!
# What the host prepares for the in-projection kernel

The host rearranges the columns of the combined weight, swaps the halves of the columns that are
rotated, pads with zeros, and makes the tables of cosines and sines. Here are these arrays as
functions of the arguments, and their entries.
-/

set_option maxRecDepth 16384

noncomputable section

namespace Cert.InprojIdeal.Host

open Cert.InprojIdeal Cert.InprojIdeal.Gen Idealize.ShloMosaic Idealize.ShloMosaic.TcCoe Idealize.SL.Sem
open Idealize.ShloMosaic.Pipeline (Dat)

/-! ## The arrays -/

/-- The frequencies of the rotation, and its angles. -/
def freq : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
          (mulf (broadcastInDim S16 ![] bcast_S_S16 (constant S_ .f32 0x40000000#32))
            (sitofp .f32 (iotaInDim S16 32 0))))
        (broadcastInDim S16 ![] bcast_S_S16 (constant S_ .f32 0x42000000#32))))

def angle : FVec Ideal S16384x16 .f32 :=
  mulf (broadcastInDim S16384x16 ![0, 1] bcast_S16384x1_S16384x16_0_1
      (broadcastInDim S16384x1 ![0] bcast_S16384_S16384x1_0 (sitofp .f32 (iotaInDim S16384 32 0))))
    (broadcastInDim S16384x16 ![0, 1] bcast_S1x16_S16384x16_0_1
      (broadcastInDim S1x16 ![1] bcast_S16_S1x16_1 freq))

/-- Three arrays side by side. -/
def beside (a : FVec Ideal S16384x64 .f32) (b c : FVec Ideal S16384x16 .f32) : FVec Ideal S16384x96 .f32 :=
  concatenate S16384x96 1 [⟨S16384x64, a⟩, ⟨S16384x16, b⟩, ⟨S16384x16, c⟩]
    concatenates_S16384x64_S16384x16_S16384x16_S16384x96_d1

def cosTable : FVec Ideal S16384x96 .f32 :=
  beside (broadcastInDim S16384x64 ![] bcast_S_S16384x64 (constant S_ .f32 0x3F800000#32)) (Host.cos angle)
    (Host.cos angle)

def sinTable : FVec Ideal S16384x96 .f32 :=
  beside (broadcastInDim S16384x64 ![] bcast_S_S16384x64 (constant S_ .f32 0x00000000#32))
    (Host.negf (Host.sin angle)) (Host.sin angle)

/-- The zero that pads. -/
def zero : FVec Ideal S_ .f32 := sitofp .f32 (constantI S_ 32 0#32)

/-- A matrix of 32 columns in the columns 64 to 95 of 128. -/
def padKey (w : FVec Ideal S1024x32 .f32) : FVec Ideal S1024x128 .f32 :=
  pad S1024x128 ![0, 64] ![0, 32] ![0, 0] w zero pads_S1024x32_S1024x128_000_64320 h_S_

/-- The two halves of the columns swapped. -/
def joinKey (a b : FVec Ideal S1024x16 .f32) : FVec Ideal S1024x32 .f32 :=
  concatenate S1024x32 1 [⟨S1024x16, a⟩, ⟨S1024x16, b⟩] concatenates_S1024x16_S1024x16_S1024x32_d1

def swapKey (w : FVec Ideal S1024x32 .f32) : FVec Ideal S1024x32 .f32 :=
  joinKey (extractStridedSlice S1024x16 ![0, 16] w slices_S1024x32_S1024x16_0_16)
    (extractStridedSlice S1024x16 ![0, 0] w slices_S1024x32_S1024x16_0_0)

def keyCols (w : FVec Ideal S1024x1696 .f32) : FVec Ideal S1024x32 .f32 :=
  extractStridedSlice S1024x32 ![0, 640] w slices_S1024x1696_S1024x32_0_640

/-- Eight matrices side by side. -/
def joinAll (a : FVec Ideal S1024x384 .f32) (b c d e f : FVec Ideal S1024x256 .f32) (g h : FVec Ideal S1024x128 .f32) :
    FVec Ideal S1024x1920 .f32 :=
  concatenate S1024x1920 1 [⟨S1024x384, a⟩, ⟨S1024x256, b⟩, ⟨S1024x256, c⟩, ⟨S1024x256, d⟩, ⟨S1024x256, e⟩,
    ⟨S1024x256, f⟩, ⟨S1024x128, g⟩, ⟨S1024x128, h⟩]
    concatenates_S1024x384_S1024x256_S1024x256_S1024x256_S1024x256_S1024x256_S1024x128_S1024x128_S1024x1920_d1

/-- The combined weight with its columns rearranged. -/
def winT (w : FVec Ideal S1024x1696 .f32) : FVec Ideal S1024x1920 .bf16 :=
  truncf .bf16 (joinAll (extractStridedSlice S1024x384 ![0, 0] w slices_S1024x1696_S1024x384_0_0)
    (extractStridedSlice S1024x256 ![0, 384] w slices_S1024x1696_S1024x256_0_384)
    (extractStridedSlice S1024x256 ![0, 672] w slices_S1024x1696_S1024x256_0_672)
    (extractStridedSlice S1024x256 ![0, 928] w slices_S1024x1696_S1024x256_0_928)
    (extractStridedSlice S1024x256 ![0, 1184] w slices_S1024x1696_S1024x256_0_1184)
    (extractStridedSlice S1024x256 ![0, 1440] w slices_S1024x1696_S1024x256_0_1440)
    (padKey (keyCols w)) (padKey (swapKey (keyCols w)))) bitsLt_bf16_f32

/-- The weight of the queries by heads. -/
def wqT (w : FVec Ideal S384x8x96 .f32) : FVec Ideal S8x384x96 .f32 :=
  transpose S8x384x96 [1, 0, 2] w transposes_S384x8x96_S8x384x96_1_0_2

def joinHead (a b : FVec Ideal S8x384x16 .f32) : FVec Ideal S8x384x32 .f32 :=
  concatenate S8x384x32 2 [⟨S8x384x16, a⟩, ⟨S8x384x16, b⟩] concatenates_S8x384x16_S8x384x16_S8x384x32_d2

def swapHead (w : FVec Ideal S8x384x32 .f32) : FVec Ideal S8x384x32 .f32 :=
  joinHead (extractStridedSlice S8x384x16 ![0, 0, 16] w slices_S8x384x32_S8x384x16_0_0_16)
    (extractStridedSlice S8x384x16 ![0, 0, 0] w slices_S8x384x32_S8x384x16_0_0_0)

/-- The rotated columns of the weight of the queries, their halves swapped, after 64 columns of zeros. -/
def wqsT (w : FVec Ideal S384x8x96 .f32) : FVec Ideal S8x384x96 .f32 :=
  pad S8x384x96 ![0, 0, 64] ![0, 0, 0] ![0, 0, 0]
    (swapHead (extractStridedSlice S8x384x32 ![0, 0, 64] (wqT w) slices_S8x384x96_S8x384x32_0_0_64)) zero
    pads_S8x384x32_S8x384x96_000_000_6400 h_S_

def wkvT (w : FVec Ideal S256x8x128 .f32) : FVec Ideal S8x256x128 .f32 :=
  transpose S8x256x128 [1, 0, 2] w transposes_S256x8x128_S8x256x128_1_0_2

/-- The weight of the keys by heads, before 32 columns of zeros. -/
def wkT (w : FVec Ideal S256x8x128 .f32) : FVec Ideal S8x256x96 .f32 :=
  pad S8x256x96 ![0, 0, 0] ![0, 0, 32] ![0, 0, 0]
    (extractStridedSlice S8x256x64 ![0, 0, 0] (wkvT w) slices_S8x256x128_S8x256x64_0_0_0) zero
    pads_S8x256x64_S8x256x96_000_000_0320 h_S_

/-- The weight of the values by heads. -/
def wvT (w : FVec Ideal S256x8x128 .f32) : FVec Ideal S8x256x64 .f32 :=
  extractStridedSlice S8x256x64 ![0, 0, 64] (wkvT w) slices_S8x256x128_S8x256x64_0_0_64

/-! ## What the region finds -/

section Found

variable (m : (ℓ : Loc nD τ sig) → Buf (Elt Ideal) ℓ) (c : Dev nD)

theorem V_cos : @Eq (FVec Ideal S16384x96 .f32) (V m c main_v20) cosTable := by
  unfold V
  rfl

theorem V_sin : @Eq (FVec Ideal S16384x96 .f32) (V m c main_v23) sinTable := by
  unfold V
  rfl

theorem V_win : @Eq (FVec Ideal S1024x1920 .bf16) (V m c main_v37)
    (winT (m ((c : Thread nD τ).loc main_arg3))) := by
  unfold V
  rfl

theorem V_wq : @Eq (FVec Ideal S8x384x96 .bf16) (V m c main_v52)
    (truncf .bf16 (wqT (m ((c : Thread nD τ).loc main_arg6))) bitsLt_bf16_f32) := by
  unfold V
  rfl

theorem V_wqs : @Eq (FVec Ideal S8x384x96 .bf16) (V m c main_v53)
    (truncf .bf16 (wqsT (m ((c : Thread nD τ).loc main_arg6))) bitsLt_bf16_f32) := by
  unfold V
  rfl

theorem V_wk : @Eq (FVec Ideal S8x256x96 .bf16) (V m c main_v54)
    (truncf .bf16 (wkT (m ((c : Thread nD τ).loc main_arg7))) bitsLt_bf16_f32) := by
  unfold V
  rfl

theorem V_wv : @Eq (FVec Ideal S8x256x64 .bf16) (V m c main_v55)
    (truncf .bf16 (wvT (m ((c : Thread nD τ).loc main_arg7))) bitsLt_bf16_f32) := by
  unfold V
  rfl

theorem V_row1 : @Eq (FVec Ideal S1x1024 .f32) (V m c main_v48)
    (shapeCast S1x1024 (m ((c : Thread nD τ).loc main_arg1) : FVec Ideal S1024 .f32) shapeCasts_S1024_S1x1024) := by
  unfold V
  rfl

theorem V_row2 : @Eq (FVec Ideal S1x1024 .f32) (V m c main_v49)
    (shapeCast S1x1024 (m ((c : Thread nD τ).loc main_arg2) : FVec Ideal S1024 .f32) shapeCasts_S1024_S1x1024) := by
  unfold V
  rfl

theorem V_row4 : @Eq (FVec Ideal S1x384 .f32) (V m c main_v50)
    (shapeCast S1x384 (m ((c : Thread nD τ).loc main_arg4) : FVec Ideal S384 .f32) shapeCasts_S384_S1x384) := by
  unfold V
  rfl

theorem V_row5 : @Eq (FVec Ideal S1x256 .f32) (V m c main_v51)
    (shapeCast S1x256 (m ((c : Thread nD τ).loc main_arg5) : FVec Ideal S256 .f32) shapeCasts_S256_S1x256) := by
  unfold V
  rfl

theorem V_cc : @Eq (FVec Ideal S256x256 .bf16) (V m c main_v56)
    (truncf .bf16 (m ((c : Thread nD τ).loc main_arg8) : FVec Ideal S256x256 .f32) bitsLt_bf16_f32) := by
  unfold V
  rfl

theorem V_sc : @Eq (FVec Ideal S256x256 .bf16) (V m c main_v57)
    (truncf .bf16 (m ((c : Thread nD τ).loc main_arg9) : FVec Ideal S256x256 .f32) bitsLt_bf16_f32) := by
  unfold V
  rfl

end Found

/-! ## Their entries -/

/-- A fact about every one of 96 columns: of the first 64, the next 16 and the last 16. -/
theorem cases96 (P : Fin 96 → Prop) (h0 : ∀ j : Fin 64, P ⟨j.val, by omega⟩)
    (h1 : ∀ j : Fin 16, P ⟨64 + j.val, by omega⟩) (h2 : ∀ j : Fin 16, P ⟨80 + j.val, by omega⟩) (d : Fin 96) : P d := by
  obtain ⟨d, hd⟩ := d
  by_cases a : d < 64
  · exact h0 ⟨d, a⟩
  · by_cases b : d < 80
    · have := h1 ⟨d - 64, by omega⟩
      simpa only [show 64 + (d - 64) = d by omega] using this
    · have := h2 ⟨d - 80, by omega⟩
      simpa only [show 80 + (d - 80) = d by omega] using this

theorem zero_at (i : S_.Idx) : zero i = (0 : EReal) := by
  pointwise [zero]
  show ((((0#32 : BitVec 32).toInt : ℝ)) : EReal) = 0
  simp

section Tables

variable (s : Fin 16384)

theorem cos_lo (j : Fin 64) : cosTable (ix2 s ⟨j.val, by omega⟩) = (1 : EReal) := by
  unfold cosTable
  generalize Host.cos angle = v
  pointwise [beside]

theorem cos_mid (j : Fin 16) : cosTable (ix2 s ⟨64 + j.val, by omega⟩) = (Host.cos angle (ix2 s j) : EReal) := by
  unfold cosTable
  generalize Host.cos angle = v
  pointwise [beside]

theorem cos_hi (j : Fin 16) : cosTable (ix2 s ⟨80 + j.val, by omega⟩) = (Host.cos angle (ix2 s j) : EReal) := by
  unfold cosTable
  generalize Host.cos angle = v
  pointwise [beside]
  have := j.isLt
  split_ifs <;> first | omega | exact congrArg (fun p => v (ix2 s p)) (Fin.ext (by dsimp only; omega))

theorem sin_lo (j : Fin 64) : sinTable (ix2 s ⟨j.val, by omega⟩) = (0 : EReal) := by
  unfold sinTable
  generalize Host.sin angle = v
  pointwise [beside]

theorem sin_mid (j : Fin 16) : sinTable (ix2 s ⟨64 + j.val, by omega⟩) = -(Host.sin angle (ix2 s j) : EReal) := by
  unfold sinTable
  generalize Host.sin angle = v
  pointwise [beside]

theorem sin_hi (j : Fin 16) : sinTable (ix2 s ⟨80 + j.val, by omega⟩) = (Host.sin angle (ix2 s j) : EReal) := by
  unfold sinTable
  generalize Host.sin angle = v
  pointwise [beside]
  have := j.isLt
  split_ifs <;> first | omega | exact congrArg (fun p => v (ix2 s p)) (Fin.ext (by dsimp only; omega))

end Tables

section Combined

variable (w : FVec Ideal S1024x1696 .f32) (k : Fin 1024)

theorem key_lo (v : FVec Ideal S1024x32 .f32) (j : Fin 64) : padKey v (ix2 k ⟨j.val, by omega⟩) = (0 : EReal) := by
  pointwise [padKey]
  exact zero_at _

theorem key_in (v : FVec Ideal S1024x32 .f32) (j : Fin 32) : padKey v (ix2 k ⟨64 + j.val, by omega⟩) = v (ix2 k j) := by
  pointwise [padKey]

theorem swap_mid (v : FVec Ideal S1024x32 .f32) (j : Fin 16) :
    swapKey v (ix2 k ⟨j.val, by omega⟩) = v (ix2 k ⟨16 + j.val, by omega⟩) := by
  pointwise [swapKey, joinKey]

theorem swap_hi (v : FVec Ideal S1024x32 .f32) (j : Fin 16) :
    swapKey v (ix2 k ⟨16 + j.val, by omega⟩) = v (ix2 k ⟨j.val, by omega⟩) := by
  pointwise [swapKey, joinKey]

theorem keyCols_apply (j : Fin 32) : keyCols w (ix2 k j) = w (ix2 k ⟨640 + j.val, by omega⟩) := by
  pointwise [keyCols]

theorem win_q (j : Fin 384) : winT w (ix2 k ⟨j.val, by omega⟩) = w (ix2 k ⟨j.val, by omega⟩) := by
  unfold winT
  generalize padKey (keyCols w) = a
  generalize padKey (swapKey (keyCols w)) = b
  pointwise [joinAll]

theorem win_kv (j : Fin 256) : winT w (ix2 k ⟨384 + j.val, by omega⟩) = w (ix2 k ⟨384 + j.val, by omega⟩) := by
  unfold winT
  generalize padKey (keyCols w) = a
  generalize padKey (swapKey (keyCols w)) = b
  pointwise [joinAll]

theorem win_b (j : Fin 256) : winT w (ix2 k ⟨640 + j.val, by omega⟩) = w (ix2 k ⟨672 + j.val, by omega⟩) := by
  unfold winT
  generalize padKey (keyCols w) = a
  generalize padKey (swapKey (keyCols w)) = b
  pointwise [joinAll]
  have := j.isLt
  split_ifs <;> first | omega | exact congrArg (fun p => w (ix2 k p)) (Fin.ext (by dsimp only; omega))

theorem win_c (j : Fin 256) : winT w (ix2 k ⟨896 + j.val, by omega⟩) = w (ix2 k ⟨928 + j.val, by omega⟩) := by
  unfold winT
  generalize padKey (keyCols w) = a
  generalize padKey (swapKey (keyCols w)) = b
  pointwise [joinAll]
  have := j.isLt
  split_ifs <;> first | omega | exact congrArg (fun p => w (ix2 k p)) (Fin.ext (by dsimp only; omega))

theorem win_h (j : Fin 256) : winT w (ix2 k ⟨1152 + j.val, by omega⟩) = w (ix2 k ⟨1184 + j.val, by omega⟩) := by
  unfold winT
  generalize padKey (keyCols w) = a
  generalize padKey (swapKey (keyCols w)) = b
  pointwise [joinAll]
  have := j.isLt
  split_ifs <;> first | omega | exact congrArg (fun p => w (ix2 k p)) (Fin.ext (by dsimp only; omega))

theorem win_f (j : Fin 256) : winT w (ix2 k ⟨1408 + j.val, by omega⟩) = w (ix2 k ⟨1440 + j.val, by omega⟩) := by
  unfold winT
  generalize padKey (keyCols w) = a
  generalize padKey (swapKey (keyCols w)) = b
  pointwise [joinAll]
  have := j.isLt
  split_ifs <;> first | omega | exact congrArg (fun p => w (ix2 k p)) (Fin.ext (by dsimp only; omega))

theorem win_key (j : Fin 128) : winT w (ix2 k ⟨1664 + j.val, by omega⟩) = padKey (keyCols w) (ix2 k j) := by
  unfold winT
  generalize padKey (keyCols w) = a
  generalize padKey (swapKey (keyCols w)) = b
  pointwise [joinAll]
  have := j.isLt
  split_ifs <;> first | omega | exact congrArg (fun p => a (ix2 k p)) (Fin.ext (by dsimp only; omega))

theorem win_swap (j : Fin 128) : winT w (ix2 k ⟨1792 + j.val, by omega⟩) = padKey (swapKey (keyCols w)) (ix2 k j) := by
  unfold winT
  generalize padKey (keyCols w) = a
  generalize padKey (swapKey (keyCols w)) = b
  pointwise [joinAll]
  have := j.isLt
  split_ifs <;> first | omega | exact congrArg (fun p => b (ix2 k p)) (Fin.ext (by dsimp only; omega))

end Combined

section Heads

variable (hd : Fin 8)

theorem wq_apply (w : FVec Ideal S384x8x96 .f32) (k : Fin 384) (d : Fin 96) :
    (truncf .bf16 (wqT w) bitsLt_bf16_f32 : FVec Ideal S8x384x96 .bf16) (ix3 hd k d) = w (ix3 k hd d) := by
  pointwise [wqT]

theorem wqs_lo (w : FVec Ideal S384x8x96 .f32) (k : Fin 384) (j : Fin 64) :
    (truncf .bf16 (wqsT w) bitsLt_bf16_f32 : FVec Ideal S8x384x96 .bf16) (ix3 hd k ⟨j.val, by omega⟩) = (0 : EReal) := by
  pointwise [wqsT, swapHead, joinHead]
  exact zero_at _

theorem wqs_mid (w : FVec Ideal S384x8x96 .f32) (k : Fin 384) (j : Fin 16) :
    (truncf .bf16 (wqsT w) bitsLt_bf16_f32 : FVec Ideal S8x384x96 .bf16) (ix3 hd k ⟨64 + j.val, by omega⟩)
      = w (ix3 k hd ⟨80 + j.val, by omega⟩) := by
  pointwise [wqsT, wqT, swapHead, joinHead]
  have := j.isLt
  split_ifs <;> first | omega | exact congrArg (fun p => w (ix3 k hd p)) (Fin.ext (by dsimp only; omega))

theorem wqs_hi (w : FVec Ideal S384x8x96 .f32) (k : Fin 384) (j : Fin 16) :
    (truncf .bf16 (wqsT w) bitsLt_bf16_f32 : FVec Ideal S8x384x96 .bf16) (ix3 hd k ⟨80 + j.val, by omega⟩)
      = w (ix3 k hd ⟨64 + j.val, by omega⟩) := by
  pointwise [wqsT, wqT, swapHead, joinHead]
  have := j.isLt
  split_ifs <;> first | omega | exact congrArg (fun p => w (ix3 k hd p)) (Fin.ext (by dsimp only; omega))

theorem wk_lo (w : FVec Ideal S256x8x128 .f32) (k : Fin 256) (j : Fin 64) :
    (truncf .bf16 (wkT w) bitsLt_bf16_f32 : FVec Ideal S8x256x96 .bf16) (ix3 hd k ⟨j.val, by omega⟩)
      = w (ix3 k hd ⟨j.val, by omega⟩) := by
  pointwise [wkT, wkvT]

theorem wk_hi (w : FVec Ideal S256x8x128 .f32) (k : Fin 256) (j : Fin 32) :
    (truncf .bf16 (wkT w) bitsLt_bf16_f32 : FVec Ideal S8x256x96 .bf16) (ix3 hd k ⟨64 + j.val, by omega⟩)
      = (0 : EReal) := by
  pointwise [wkT, wkvT]
  exact zero_at _

theorem wv_apply (w : FVec Ideal S256x8x128 .f32) (k : Fin 256) (r : Fin 64) :
    (truncf .bf16 (wvT w) bitsLt_bf16_f32 : FVec Ideal S8x256x64 .bf16) (ix3 hd k r)
      = w (ix3 k hd ⟨64 + r.val, by omega⟩) := by
  pointwise [wvT, wkvT]

end Heads

end Cert.InprojIdeal.Host
end
-- ==== Proof.InprojArray.lean ====
module

public import proofs.«01_k».proof.Proof.InprojHost
public import proofs.«01_k».proof.Proof.Gen.InprojIdeal.Value

@[expose] public section

/-!
# What the in-projection kernel computes of a token

A grid point is a batch and a block of 512 tokens. Each of the seven results is given token by token,
in the form in which the kernel computes it: with the rearranged weight, the swapped columns and the
tables of cosines and sines. Then come the blocks that a grid point reads.
-/

set_option maxRecDepth 16384

noncomputable section

namespace Cert.InprojIdeal.Array

open Cert.InprojIdeal Cert.InprojIdeal.Gen Idealize.ShloMosaic Idealize.ShloMosaic.TcCoe Idealize.SL.Sem
open Idealize.ShloMosaic.Pipeline (Dat)
open Cert.InprojIdeal.Block (cols small colsQ colsKV smallR)
open Cert.InprojIdeal.Host

variable (m : (ℓ : Loc nD τ sig) → Buf (Elt Ideal) ℓ)

/-! ## The arguments -/

abbrev X (c : Dev nD) : FVec Ideal S2x16384x1024 .f32 := m ((c : Thread nD τ).loc main_arg0)
abbrev gain (c : Dev nD) : FVec Ideal S1024 .f32 := m ((c : Thread nD τ).loc main_arg1)
abbrev bias (c : Dev nD) : FVec Ideal S1024 .f32 := m ((c : Thread nD τ).loc main_arg2)
abbrev W (c : Dev nD) : FVec Ideal S1024x1696 .f32 := m ((c : Thread nD τ).loc main_arg3)
abbrev gQ (c : Dev nD) : FVec Ideal S384 .f32 := m ((c : Thread nD τ).loc main_arg4)
abbrev gKV (c : Dev nD) : FVec Ideal S256 .f32 := m ((c : Thread nD τ).loc main_arg5)
abbrev UQ (c : Dev nD) : FVec Ideal S384x8x96 .f32 := m ((c : Thread nD τ).loc main_arg6)
abbrev UKV (c : Dev nD) : FVec Ideal S256x8x128 .f32 := m ((c : Thread nD τ).loc main_arg7)
abbrev CC (c : Dev nD) : FVec Ideal S256x256 .f32 := m ((c : Thread nD τ).loc main_arg8)
abbrev SC (c : Dev nD) : FVec Ideal S256x256 .f32 := m ((c : Thread nD τ).loc main_arg9)

/-! ## The results, token by token -/

section Token

variable (c : Dev nD) (b : Fin 2) (s : Fin 16384)

/-- The normalised row of a token. -/
def row (d : Fin 1024) : EReal :=
  Experts.norm cols small (fun k : Fin 1024 => X m c (ix3 b s k)) (fun k => gain m c (ix1 k))
    (fun k => bias m c (ix1 k)) d

/-- Its products with the columns of the rearranged weight. -/
def proj (p : Fin 1920) : EReal := Proj.dot (row m c b s) (fun k => winT (W m c) (ix2 k p))

/-- The normalised latent of the queries. -/
def latQ (j : Fin 384) : EReal :=
  Proj.rms colsQ smallR (fun k : Fin 384 => proj m c b s ⟨k.val, by omega⟩) (fun k => gQ m c (ix1 k)) j

/-- The normalised latent of the keys and values. -/
def latKV (j : Fin 256) : EReal :=
  Proj.rms colsKV smallR (fun k : Fin 256 => proj m c b s ⟨384 + k.val, by omega⟩) (fun k => gKV m c (ix1 k)) j

/-- The rotated key that all heads share, in its columns of 96. -/
def keyPart (d : Fin 96) : EReal :=
  proj m c b s ⟨1664 + d.val, by omega⟩ * cosTable (ix2 s d) + proj m c b s ⟨1792 + d.val, by omega⟩ * sinTable (ix2 s d)

/-- The query of a head. -/
def query (hd : Fin 8) (d : Fin 96) : EReal :=
  Proj.dot (latQ m c b s) (fun k => (truncf .bf16 (wqT (UQ m c)) bitsLt_bf16_f32 : FVec Ideal S8x384x96 .bf16) (ix3 hd k d))
      * cosTable (ix2 s d)
    + Proj.dot (latQ m c b s) (fun k => (truncf .bf16 (wqsT (UQ m c)) bitsLt_bf16_f32 : FVec Ideal S8x384x96 .bf16) (ix3 hd k d))
      * sinTable (ix2 s d)

/-- The key of a head. -/
def key (hd : Fin 8) (d : Fin 96) : EReal :=
  Proj.dot (latKV m c b s) (fun k => (truncf .bf16 (wkT (UKV m c)) bitsLt_bf16_f32 : FVec Ideal S8x256x96 .bf16) (ix3 hd k d))
    + keyPart m c b s d

/-- The value of a head. -/
def value (hd : Fin 8) (r : Fin 64) : EReal :=
  Proj.dot (latKV m c b s) (fun k => (truncf .bf16 (wvT (UKV m c)) bitsLt_bf16_f32 : FVec Ideal S8x256x64 .bf16) (ix3 hd k r))

/-- The gated input of the convolution, and its other gate. -/
def gated (d : Fin 256) : EReal := proj m c b s ⟨896 + d.val, by omega⟩ * proj m c b s ⟨1152 + d.val, by omega⟩
def gate (d : Fin 256) : EReal := proj m c b s ⟨640 + d.val, by omega⟩

/-- The Fourier channels times a matrix, and times the two matrices side by side. -/
def chan (w : FVec Ideal S256x256 .f32) (d : Fin 256) : EReal :=
  Proj.dot (fun k : Fin 256 => proj m c b s ⟨1408 + k.val, by omega⟩) (fun k => w (ix2 k d))
def both (q : Fin 512) : EReal :=
  if h : q.val < 256 then chan m c b s (CC m c) ⟨q.val, h⟩ else chan m c b s (SC m c) ⟨q.val - 256, by omega⟩

end Token

/-! ## The blocks of the windows -/

theorem idx_in : ∀ t : Fin cfg0.N,
    win0_0.index t = ![t.val / 32, t.val % 32, 0] ∧ win0_1.index t = ![0, 0] ∧ win0_2.index t = ![0, 0]
    ∧ win0_3.index t = ![0, 0] ∧ win0_4.index t = ![0, 0] ∧ win0_5.index t = ![0, 0]
    ∧ win0_6.index t = ![0, 0, 0] ∧ win0_7.index t = ![0, 0, 0] ∧ win0_8.index t = ![0, 0, 0]
    ∧ win0_9.index t = ![0, 0, 0] ∧ win0_10.index t = ![t.val % 32, 0] ∧ win0_11.index t = ![t.val % 32, 0]
    ∧ win0_12.index t = ![0, 0] ∧ win0_13.index t = ![0, 0] :=
  (by decide +kernel : ∀ t : Fin grid0.N, _)

theorem idx_out : ∀ t : Fin cfg0.N,
    win0_14.index t = ![t.val / 32, t.val % 32, 0] ∧ win0_15.index t = ![t.val / 32, 0, t.val % 32, 0]
    ∧ win0_16.index t = ![t.val / 32, 0, t.val % 32, 0] ∧ win0_17.index t = ![t.val / 32, 0, t.val % 32, 0]
    ∧ win0_18.index t = ![t.val / 32, t.val % 32, 0] ∧ win0_19.index t = ![t.val / 32, t.val % 32, 0]
    ∧ win0_20.index t = ![t.val / 32, t.val % 32, 0] :=
  (by decide +kernel : ∀ t : Fin grid0.N, _)

theorem t_lt (t : Fin cfg0.N) : t.val < 64 := lt_of_lt_of_eq t.isLt N_0

/-- The batch of a grid point, and the token of a row of its block. -/
def ptB (t : Fin cfg0.N) : Fin 2 := ⟨t.val / 32, by have := t_lt t; omega⟩
def ptS (t : Fin cfg0.N) (r : Fin 512) : Fin 16384 := ⟨t.val % 32 * 512 + r.val, by have := r.isLt; omega⟩

theorem row1024 (v : FVec Ideal S1024 .f32) (x : Fin 1024) :
    shapeCast S1x1024 v shapeCasts_S1024_S1x1024 (ix2 0 x) = v (ix1 x) := by
  pointwise

theorem row384 (v : FVec Ideal S384 .f32) (x : Fin 384) :
    shapeCast S1x384 v shapeCasts_S384_S1x384 (ix2 0 x) = v (ix1 x) := by
  pointwise

theorem row256 (v : FVec Ideal S256 .f32) (x : Fin 256) :
    shapeCast S1x256 v shapeCasts_S256_S1x256 (ix2 0 x) = v (ix1 x) := by
  pointwise

section Windows

variable (c : Dev nD) (t : Fin cfg0.N)

theorem iblk0_apply (r : Fin 512) (x : Fin 1024) :
    (iblk m c 0 t : Block.Tok) (ix3 0 r x) = X m c (ix3 (ptB t) (ptS t r) x) := by
  have e := (idx_in t).1
  unfold iblk
  rw [View.read_apply]
  show (V m c main_arg0 : FVec Ideal S2x16384x1024 .f32) _ = _
  rw [V_main_arg0]
  show X m c _ = _
  congr 1
  funext a
  apply Fin.ext
  match a with
  | ⟨0, _⟩ => show win0_0.index t 0 * 1 + 1 * 0 = t.val / 32; rw [e]; simp
  | ⟨1, _⟩ => show win0_0.index t 1 * 512 + 1 * r.val = t.val % 32 * 512 + r.val; rw [e]; simp
  | ⟨2, _⟩ => show win0_0.index t 2 * 1024 + 1 * x.val = x.val; rw [e]; simp

theorem iblk1_apply (x : Fin 1024) : (iblk m c 1 t : Block.Row) (ix2 0 x) = gain m c (ix1 x) := by
  have e := (idx_in t).2.1
  rw [← row1024 (gain m c) x, ← V_row1 m c]
  unfold iblk
  rw [View.read_apply]
  show (V m c main_v48 : FVec Ideal S1x1024 .f32) _ = _
  congr 1
  funext a
  apply Fin.ext
  match a with
  | ⟨0, _⟩ => show win0_1.index t 0 * 1 + 1 * 0 = 0; rw [e]; simp
  | ⟨1, _⟩ => show win0_1.index t 1 * 1024 + 1 * x.val = x.val; rw [e]; simp

theorem iblk2_apply (x : Fin 1024) : (iblk m c 2 t : Block.Row) (ix2 0 x) = bias m c (ix1 x) := by
  have e := (idx_in t).2.2.1
  rw [← row1024 (bias m c) x, ← V_row2 m c]
  unfold iblk
  rw [View.read_apply]
  show (V m c main_v49 : FVec Ideal S1x1024 .f32) _ = _
  congr 1
  funext a
  apply Fin.ext
  match a with
  | ⟨0, _⟩ => show win0_2.index t 0 * 1 + 1 * 0 = 0; rw [e]; simp
  | ⟨1, _⟩ => show win0_2.index t 1 * 1024 + 1 * x.val = x.val; rw [e]; simp

theorem iblk3_apply (k : Fin 1024) (p : Fin 1920) :
    (iblk m c 3 t : Block.WAll) (ix2 k p) = winT (W m c) (ix2 k p) := by
  have e := (idx_in t).2.2.2.1
  rw [← V_win m c]
  unfold iblk
  rw [View.read_apply]
  show (V m c main_v37 : FVec Ideal S1024x1920 .bf16) _ = _
  congr 1
  funext a
  apply Fin.ext
  match a with
  | ⟨0, _⟩ => show win0_3.index t 0 * 1024 + 1 * k.val = k.val; rw [e]; simp
  | ⟨1, _⟩ => show win0_3.index t 1 * 1920 + 1 * p.val = p.val; rw [e]; simp

theorem iblk4_apply (x : Fin 384) : (iblk m c 4 t : Block.RowQ) (ix2 0 x) = gQ m c (ix1 x) := by
  have e := (idx_in t).2.2.2.2.1
  rw [← row384 (gQ m c) x, ← V_row4 m c]
  unfold iblk
  rw [View.read_apply]
  show (V m c main_v50 : FVec Ideal S1x384 .f32) _ = _
  congr 1
  funext a
  apply Fin.ext
  match a with
  | ⟨0, _⟩ => show win0_4.index t 0 * 1 + 1 * 0 = 0; rw [e]; simp
  | ⟨1, _⟩ => show win0_4.index t 1 * 384 + 1 * x.val = x.val; rw [e]; simp

theorem iblk5_apply (x : Fin 256) : (iblk m c 5 t : Block.RowKV) (ix2 0 x) = gKV m c (ix1 x) := by
  have e := (idx_in t).2.2.2.2.2.1
  rw [← row256 (gKV m c) x, ← V_row5 m c]
  unfold iblk
  rw [View.read_apply]
  show (V m c main_v51 : FVec Ideal S1x256 .f32) _ = _
  congr 1
  funext a
  apply Fin.ext
  match a with
  | ⟨0, _⟩ => show win0_5.index t 0 * 1 + 1 * 0 = 0; rw [e]; simp
  | ⟨1, _⟩ => show win0_5.index t 1 * 256 + 1 * x.val = x.val; rw [e]; simp

theorem iblk6_apply (hd : Fin 8) (k : Fin 384) (d : Fin 96) : (iblk m c 6 t : Block.WQ) (ix3 hd k d)
    = (truncf .bf16 (wqT (UQ m c)) bitsLt_bf16_f32 : FVec Ideal S8x384x96 .bf16) (ix3 hd k d) := by
  have e := (idx_in t).2.2.2.2.2.2.1
  rw [← V_wq m c]
  unfold iblk
  rw [View.read_apply]
  show (V m c main_v52 : FVec Ideal S8x384x96 .bf16) _ = _
  congr 1
  funext a
  apply Fin.ext
  match a with
  | ⟨0, _⟩ => show win0_6.index t 0 * 8 + 1 * hd.val = hd.val; rw [e]; simp
  | ⟨1, _⟩ => show win0_6.index t 1 * 384 + 1 * k.val = k.val; rw [e]; simp
  | ⟨2, _⟩ => show win0_6.index t 2 * 96 + 1 * d.val = d.val; rw [e]; simp

theorem iblk7_apply (hd : Fin 8) (k : Fin 384) (d : Fin 96) : (iblk m c 7 t : Block.WQ) (ix3 hd k d)
    = (truncf .bf16 (wqsT (UQ m c)) bitsLt_bf16_f32 : FVec Ideal S8x384x96 .bf16) (ix3 hd k d) := by
  have e := (idx_in t).2.2.2.2.2.2.2.1
  rw [← V_wqs m c]
  unfold iblk
  rw [View.read_apply]
  show (V m c main_v53 : FVec Ideal S8x384x96 .bf16) _ = _
  congr 1
  funext a
  apply Fin.ext
  match a with
  | ⟨0, _⟩ => show win0_7.index t 0 * 8 + 1 * hd.val = hd.val; rw [e]; simp
  | ⟨1, _⟩ => show win0_7.index t 1 * 384 + 1 * k.val = k.val; rw [e]; simp
  | ⟨2, _⟩ => show win0_7.index t 2 * 96 + 1 * d.val = d.val; rw [e]; simp

theorem iblk8_apply (hd : Fin 8) (k : Fin 256) (d : Fin 96) : (iblk m c 8 t : Block.WK) (ix3 hd k d)
    = (truncf .bf16 (wkT (UKV m c)) bitsLt_bf16_f32 : FVec Ideal S8x256x96 .bf16) (ix3 hd k d) := by
  have e := (idx_in t).2.2.2.2.2.2.2.2.1
  rw [← V_wk m c]
  unfold iblk
  rw [View.read_apply]
  show (V m c main_v54 : FVec Ideal S8x256x96 .bf16) _ = _
  congr 1
  funext a
  apply Fin.ext
  match a with
  | ⟨0, _⟩ => show win0_8.index t 0 * 8 + 1 * hd.val = hd.val; rw [e]; simp
  | ⟨1, _⟩ => show win0_8.index t 1 * 256 + 1 * k.val = k.val; rw [e]; simp
  | ⟨2, _⟩ => show win0_8.index t 2 * 96 + 1 * d.val = d.val; rw [e]; simp

theorem iblk9_apply (hd : Fin 8) (k : Fin 256) (d : Fin 64) : (iblk m c 9 t : Block.WV) (ix3 hd k d)
    = (truncf .bf16 (wvT (UKV m c)) bitsLt_bf16_f32 : FVec Ideal S8x256x64 .bf16) (ix3 hd k d) := by
  have e := (idx_in t).2.2.2.2.2.2.2.2.2.1
  rw [← V_wv m c]
  unfold iblk
  rw [View.read_apply]
  show (V m c main_v55 : FVec Ideal S8x256x64 .bf16) _ = _
  congr 1
  funext a
  apply Fin.ext
  match a with
  | ⟨0, _⟩ => show win0_9.index t 0 * 8 + 1 * hd.val = hd.val; rw [e]; simp
  | ⟨1, _⟩ => show win0_9.index t 1 * 256 + 1 * k.val = k.val; rw [e]; simp
  | ⟨2, _⟩ => show win0_9.index t 2 * 64 + 1 * d.val = d.val; rw [e]; simp

theorem iblk10_apply (r : Fin 512) (d : Fin 96) :
    (iblk m c 10 t : Block.Ang) (ix2 r d) = cosTable (ix2 (ptS t r) d) := by
  have e := (idx_in t).2.2.2.2.2.2.2.2.2.2.1
  rw [← V_cos m c]
  unfold iblk
  rw [View.read_apply]
  show (V m c main_v20 : FVec Ideal S16384x96 .f32) _ = _
  congr 1
  funext a
  apply Fin.ext
  match a with
  | ⟨0, _⟩ => show win0_10.index t 0 * 512 + 1 * r.val = t.val % 32 * 512 + r.val; rw [e]; simp
  | ⟨1, _⟩ => show win0_10.index t 1 * 96 + 1 * d.val = d.val; rw [e]; simp

theorem iblk11_apply (r : Fin 512) (d : Fin 96) :
    (iblk m c 11 t : Block.Ang) (ix2 r d) = sinTable (ix2 (ptS t r) d) := by
  have e := (idx_in t).2.2.2.2.2.2.2.2.2.2.2.1
  rw [← V_sin m c]
  unfold iblk
  rw [View.read_apply]
  show (V m c main_v23 : FVec Ideal S16384x96 .f32) _ = _
  congr 1
  funext a
  apply Fin.ext
  match a with
  | ⟨0, _⟩ => show win0_11.index t 0 * 512 + 1 * r.val = t.val % 32 * 512 + r.val; rw [e]; simp
  | ⟨1, _⟩ => show win0_11.index t 1 * 96 + 1 * d.val = d.val; rw [e]; simp

theorem iblk12_apply (k d : Fin 256) : (iblk m c 12 t : Block.Mat) (ix2 k d) = CC m c (ix2 k d) := by
  have e := (idx_in t).2.2.2.2.2.2.2.2.2.2.2.2.1
  unfold iblk
  rw [View.read_apply]
  show (V m c main_v56 : FVec Ideal S256x256 .bf16) _ = _
  rw [V_cc]
  show CC m c _ = _
  congr 1
  funext a
  apply Fin.ext
  match a with
  | ⟨0, _⟩ => show win0_12.index t 0 * 256 + 1 * k.val = k.val; rw [e]; simp
  | ⟨1, _⟩ => show win0_12.index t 1 * 256 + 1 * d.val = d.val; rw [e]; simp

theorem iblk13_apply (k d : Fin 256) : (iblk m c 13 t : Block.Mat) (ix2 k d) = SC m c (ix2 k d) := by
  have e := (idx_in t).2.2.2.2.2.2.2.2.2.2.2.2.2
  unfold iblk
  rw [View.read_apply]
  show (V m c main_v57 : FVec Ideal S256x256 .bf16) _ = _
  rw [V_sc]
  show SC m c _ = _
  congr 1
  funext a
  apply Fin.ext
  match a with
  | ⟨0, _⟩ => show win0_13.index t 0 * 256 + 1 * k.val = k.val; rw [e]; simp
  | ⟨1, _⟩ => show win0_13.index t 1 * 256 + 1 * d.val = d.val; rw [e]; simp

end Windows

end Cert.InprojIdeal.Array
end
-- ==== Proof.InprojOut.lean ====
module

public import proofs.«01_k».proof.Proof.InprojArray

@[expose] public section

/-!
# The arrays that the in-projection kernel leaves

Every block that a grid point writes holds the token's results, and the blocks cover the arrays.
-/

set_option maxRecDepth 16384

noncomputable section

namespace Cert.InprojIdeal.Array

open Cert.InprojIdeal Cert.InprojIdeal.Gen Idealize.ShloMosaic Idealize.ShloMosaic.TcCoe Idealize.SL.Sem
open Idealize.ShloMosaic.Pipeline (Dat)
open Cert.InprojIdeal.Block (cols small colsQ colsKV smallR)
open Cert.InprojIdeal.Host

variable (m : (ℓ : Loc nD τ sig) → Buf (Elt Ideal) ℓ) (c : Dev nD) (t : Fin cfg0.N)

/-! ## What a block holds -/

/-- The products of the rows of a block with the rearranged weight. -/
abbrev mid : Block.Mid := k0_pay5 (iblk m c 0 t : Block.Tok) (iblk m c 1 t : Block.Row) (iblk m c 2 t : Block.Row)
  (iblk m c 3 t : Block.WAll)

theorem row_block (r : Fin 512) (d : Fin 1024) :
    k0_pay3 (iblk m c 0 t : Block.Tok) (iblk m c 1 t : Block.Row) (iblk m c 2 t : Block.Row) (ix2 r d)
      = row m c (ptB t) (ptS t r) d := by
  refine (Block.pay3_apply _ _ _ r d).trans ?_
  unfold row
  simp only [iblk0_apply, iblk1_apply, iblk2_apply]

theorem mid_apply (r : Fin 512) (p : Fin 1920) : mid m c t (ix2 r p) = proj m c (ptB t) (ptS t r) p := by
  refine (Block.pay5_apply _ _ _ _ r p).trans ?_
  unfold proj
  simp only [row_block, iblk3_apply]

theorem latQ_block (r : Fin 512) (j : Fin 384) :
    k0_pay8 (mid m c t) (iblk m c 4 t : Block.RowQ) (ix2 r j) = latQ m c (ptB t) (ptS t r) j := by
  refine (Block.pay8_apply _ _ r j).trans ?_
  unfold latQ
  simp only [mid_apply, iblk4_apply]

theorem latKV_block (r : Fin 512) (j : Fin 256) :
    k0_pay9 (mid m c t) (iblk m c 5 t : Block.RowKV) (ix2 r j) = latKV m c (ptB t) (ptS t r) j := by
  refine (Block.pay9_apply _ _ r j).trans ?_
  unfold latKV
  simp only [mid_apply, iblk5_apply]

theorem keyPart_block (r : Fin 512) (d : Fin 96) :
    k0_pay10 (mid m c t) (iblk m c 10 t : Block.Ang) (iblk m c 11 t : Block.Ang) (ix2 r d)
      = keyPart m c (ptB t) (ptS t r) d := by
  refine (Block.pay10_apply _ _ _ r d).trans ?_
  unfold keyPart
  rw [mid_apply, mid_apply, iblk10_apply, iblk11_apply]

theorem query_block (y : S1x8x512x96.Idx) :
    Block.EQ (iblk m c 10 t) (iblk m c 11 t) (k0_pay8 (mid m c t) (iblk m c 4 t : Block.RowQ)) (iblk m c 6 t)
      (iblk m c 7 t) y = query m c (ptB t) (ptS t (y 2)) (y 1) (y 3) := by
  idx_vars y
  show Block.EQ _ _ _ _ _ (ix4 y0 y1 y2 y3) = query m c (ptB t) (ptS t y2) y1 y3
  unfold Block.EQ query
  show Proj.dot (fun k : Fin 384 => k0_pay8 (mid m c t) (iblk m c 4 t : Block.RowQ) (ix2 y2 k))
      (fun k => (iblk m c 6 t : Block.WQ) (ix3 y1 k y3)) * (iblk m c 10 t : Block.Ang) (ix2 y2 y3)
    + Proj.dot (fun k : Fin 384 => k0_pay8 (mid m c t) (iblk m c 4 t : Block.RowQ) (ix2 y2 k))
      (fun k => (iblk m c 7 t : Block.WQ) (ix3 y1 k y3)) * (iblk m c 11 t : Block.Ang) (ix2 y2 y3) = _
  simp only [latQ_block, iblk6_apply, iblk7_apply, iblk10_apply, iblk11_apply]

theorem key_block (y : S1x8x512x96.Idx) :
    Block.EK (k0_pay9 (mid m c t) (iblk m c 5 t : Block.RowKV))
      (k0_pay10 (mid m c t) (iblk m c 10 t : Block.Ang) (iblk m c 11 t : Block.Ang)) (iblk m c 8 t) y
      = key m c (ptB t) (ptS t (y 2)) (y 1) (y 3) := by
  idx_vars y
  show Block.EK _ _ _ (ix4 y0 y1 y2 y3) = key m c (ptB t) (ptS t y2) y1 y3
  unfold Block.EK key
  show Proj.dot (fun k : Fin 256 => k0_pay9 (mid m c t) (iblk m c 5 t : Block.RowKV) (ix2 y2 k))
      (fun k => (iblk m c 8 t : Block.WK) (ix3 y1 k y3))
    + k0_pay10 (mid m c t) (iblk m c 10 t : Block.Ang) (iblk m c 11 t : Block.Ang) (ix2 y2 y3) = _
  simp only [latKV_block, keyPart_block, iblk8_apply]

theorem value_block (y : S1x8x512x64.Idx) :
    Block.EV (k0_pay9 (mid m c t) (iblk m c 5 t : Block.RowKV)) (iblk m c 9 t) y
      = value m c (ptB t) (ptS t (y 2)) (y 1) (y 3) := by
  idx_vars y
  show Block.EV _ _ (ix4 y0 y1 y2 y3) = value m c (ptB t) (ptS t y2) y1 y3
  unfold Block.EV value
  show Proj.dot (fun k : Fin 256 => k0_pay9 (mid m c t) (iblk m c 5 t : Block.RowKV) (ix2 y2 k))
      (fun k => (iblk m c 9 t : Block.WV) (ix3 y1 k y3)) = _
  simp only [latKV_block, iblk9_apply]

theorem row_out (y : S1x512x1024.Idx) :
    k0_pay4 (iblk m c 0 t : Block.Tok) (iblk m c 1 t : Block.Row) (iblk m c 2 t : Block.Row) y
      = row m c (ptB t) (ptS t (y 1)) (y 2) := by
  idx_vars y
  obtain rfl : y0 = 0 := Subsingleton.elim _ _
  exact (Block.pay4_apply _ _ _ y1 y2).trans (row_block m c t y1 y2)

theorem gated_block (y : S1x512x256.Idx) :
    k0_pay44 (mid m c t) y = gated m c (ptB t) (ptS t (y 1)) (y 2) := by
  idx_vars y
  obtain rfl : y0 = 0 := Subsingleton.elim _ _
  refine (Block.pay44_apply _ y1 y2).trans ?_
  rw [mid_apply, mid_apply]
  rfl

theorem gate_block (y : S1x512x256.Idx) :
    k0_pay45 (mid m c t) y = gate m c (ptB t) (ptS t (y 1)) (y 2) := by
  idx_vars y
  obtain rfl : y0 = 0 := Subsingleton.elim _ _
  refine (Block.pay45_apply _ y1 y2).trans ?_
  rw [mid_apply]
  rfl

theorem chanC_block (r : Fin 512) (d : Fin 256) :
    Block.chan (mid m c t) (iblk m c 12 t) r d = chan m c (ptB t) (ptS t r) (CC m c) d := by
  unfold Block.chan chan
  simp only [mid_apply, iblk12_apply]

theorem chanS_block (r : Fin 512) (d : Fin 256) :
    Block.chan (mid m c t) (iblk m c 13 t) r d = chan m c (ptB t) (ptS t r) (SC m c) d := by
  unfold Block.chan chan
  simp only [mid_apply, iblk13_apply]

theorem both_block (y : S1x512x512.Idx) :
    Block.EA (mid m c t) (iblk m c 12 t) (iblk m c 13 t) y = both m c (ptB t) (ptS t (y 1)) (y 2) := by
  idx_vars y
  show Block.both _ _ _ y1 y2 = both m c (ptB t) (ptS t y1) y2
  unfold Block.both both
  simp only [chanC_block, chanS_block]

/-! ## The arrays -/

def G14 : FVec Ideal S2x16384x1024 .f32 := fun i => row m c (i 0) (i 1) (i 2)
def G15 : FVec Ideal S2x8x16384x96 .f32 := fun i => query m c (i 0) (i 2) (i 1) (i 3)
def G16 : FVec Ideal S2x8x16384x96 .bf16 := fun i => key m c (i 0) (i 2) (i 1) (i 3)
def G17 : FVec Ideal S2x8x16384x64 .bf16 := fun i => value m c (i 0) (i 2) (i 1) (i 3)
def G18 : FVec Ideal S2x16384x256 .f32 := fun i => gated m c (i 0) (i 1) (i 2)
def G19 : FVec Ideal S2x16384x256 .f32 := fun i => gate m c (i 0) (i 1) (i 2)
def G20 : FVec Ideal S2x16384x512 .bf16 := fun i => both m c (i 0) (i 1) (i 2)

/-- The grid point whose block holds a token. -/
theorem point (b s : ℕ) (hb : b < 2) (hs : s < 16384) : ∃ t : Fin cfg0.N, t.val / 32 = b ∧ t.val % 32 = s / 512 :=
  ⟨⟨b * 32 + s / 512, lt_of_lt_of_eq (by omega) N_0.symm⟩, by show (b * 32 + s / 512) / 32 = b; omega,
    by show (b * 32 + s / 512) % 32 = s / 512; omega⟩

/-! ### The normalised rows -/

theorem flushed14 : (dats m 0 c).flushed 14 t = ((cfg0.win 14).blk t).view.read (Elt Ideal) (G14 m c) := by
  have e := (idx_out t).1
  rw [Value.flushed14, Block.out14]
  funext y
  refine (row_out m c t ((cfg0.win 14).xinj (grid0.coords t) y)).trans ?_
  have hb : ((cfg0.win 14).blk t).view.emb y = ix3 (ptB t) (ptS t ((cfg0.win 14).xinj (grid0.coords t) y 1))
      ((cfg0.win 14).xinj (grid0.coords t) y 2) := by
    have h0 : (y 0).val < 1 := (y 0).isLt
    funext a
    apply Fin.ext
    match a with
    | ⟨0, _⟩ => show win0_14.index t 0 * 1 + 1 * (y 0).val = t.val / 32; rw [e]; simp; omega
    | ⟨1, _⟩ => show win0_14.index t 1 * 512 + 1 * (y 1).val = t.val % 32 * 512 + (y 1).val; rw [e]; simp
    | ⟨2, _⟩ => show win0_14.index t 2 * 1024 + 1 * (y 2).val = (y 2).val; rw [e]; simp
  rw [View.read_apply]
  show G14 m c (ix3 (ptB t) (ptS t ((cfg0.win 14).xinj (grid0.coords t) y 1))
      ((cfg0.win 14).xinj (grid0.coords t) y 2)) = _
  generalize G14 m c = g
  exact (congrArg g hb).symm

theorem cover14 (i : S2x16384x1024.Idx) :
    ∃ t : Fin cfg0.N, (cfg0.win 14).flush t = true ∧ i ∈ ((cfg0.win 14).blk t).view.set := by
  have h0 : (i 0).val < 2 := (i 0).isLt
  have h1 : (i 1).val < 16384 := (i 1).isLt
  have h2 : (i 2).val < 1024 := (i 2).isLt
  obtain ⟨t, ht, ht'⟩ := point (i 0).val (i 1).val h0 h1
  have e := (idx_out t).1
  have e0 : win0_14.index t 0 = t.val / 32 := by rw [e]; rfl
  have e1 : win0_14.index t 1 = t.val % 32 := by rw [e]; rfl
  have e2 : win0_14.index t 2 = 0 := by rw [e]; rfl
  refine ⟨t, flush0_14 t, ?_⟩
  show i ∈ ((View.whole main_v58_0).slice (win0_14.rect t)).set
  rw [View.set_slice_whole, Rect.mem_set_unit]
  intro a
  match a with
  | ⟨0, _⟩ => show win0_14.index t 0 * 1 ≤ (i 0).val ∧ (i 0).val < win0_14.index t 0 * 1 + 1; omega
  | ⟨1, _⟩ => show win0_14.index t 1 * 512 ≤ (i 1).val ∧ (i 1).val < win0_14.index t 1 * 512 + 512; omega
  | ⟨2, _⟩ => show win0_14.index t 2 * 1024 ≤ (i 2).val ∧ (i 2).val < win0_14.index t 2 * 1024 + 1024; omega

theorem final14 : (dats m 0 c).arrAt 14 cfg0.N = G14 m c :=
  (dats m 0 c).arrAt_eq_of_cover 14 (G14 m c) (fun t hf => flushed14 m c t) cover14

/-! ### The queries -/

theorem flushed15 : (dats m 0 c).flushed 15 t = ((cfg0.win 15).blk t).view.read (Elt Ideal) (G15 m c) := by
  have e := (idx_out t).2.1
  rw [Value.flushed15]
  funext y
  refine (Block.out15 _ _ _ _ _ _ _ _ _ _ _ _ _ _ ((cfg0.win 15).xinj (grid0.coords t) y)).trans ?_
  refine (query_block m c t ((cfg0.win 15).xinj (grid0.coords t) y)).trans ?_
  have hb : ((cfg0.win 15).blk t).view.emb y = ix4 (ptB t) ((cfg0.win 15).xinj (grid0.coords t) y 1)
      (ptS t ((cfg0.win 15).xinj (grid0.coords t) y 2)) ((cfg0.win 15).xinj (grid0.coords t) y 3) := by
    have h0 : (y 0).val < 1 := (y 0).isLt
    funext a
    apply Fin.ext
    match a with
    | ⟨0, _⟩ => show win0_15.index t 0 * 1 + 1 * (y 0).val = t.val / 32; rw [e]; simp; omega
    | ⟨1, _⟩ => show win0_15.index t 1 * 8 + 1 * (y 1).val = (y 1).val; rw [e]; simp
    | ⟨2, _⟩ => show win0_15.index t 2 * 512 + 1 * (y 2).val = t.val % 32 * 512 + (y 2).val; rw [e]; simp
    | ⟨3, _⟩ => show win0_15.index t 3 * 96 + 1 * (y 3).val = (y 3).val; rw [e]; simp
  rw [View.read_apply]
  show G15 m c (ix4 (ptB t) ((cfg0.win 15).xinj (grid0.coords t) y 1)
      (ptS t ((cfg0.win 15).xinj (grid0.coords t) y 2)) ((cfg0.win 15).xinj (grid0.coords t) y 3)) = _
  generalize G15 m c = g
  exact (congrArg g hb).symm

theorem cover15 (i : S2x8x16384x96.Idx) :
    ∃ t : Fin cfg0.N, (cfg0.win 15).flush t = true ∧ i ∈ ((cfg0.win 15).blk t).view.set := by
  have h0 : (i 0).val < 2 := (i 0).isLt
  have h1 : (i 1).val < 8 := (i 1).isLt
  have h2 : (i 2).val < 16384 := (i 2).isLt
  have h3 : (i 3).val < 96 := (i 3).isLt
  obtain ⟨t, ht, ht'⟩ := point (i 0).val (i 2).val h0 h2
  have e := (idx_out t).2.1
  have e0 : win0_15.index t 0 = t.val / 32 := by rw [e]; rfl
  have e1 : win0_15.index t 1 = 0 := by rw [e]; rfl
  have e2 : win0_15.index t 2 = t.val % 32 := by rw [e]; rfl
  have e3 : win0_15.index t 3 = 0 := by rw [e]; rfl
  refine ⟨t, flush0_15 t, ?_⟩
  show i ∈ ((View.whole main_v58_1).slice (win0_15.rect t)).set
  rw [View.set_slice_whole, Rect.mem_set_unit]
  intro a
  match a with
  | ⟨0, _⟩ => show win0_15.index t 0 * 1 ≤ (i 0).val ∧ (i 0).val < win0_15.index t 0 * 1 + 1; omega
  | ⟨1, _⟩ => show win0_15.index t 1 * 8 ≤ (i 1).val ∧ (i 1).val < win0_15.index t 1 * 8 + 8; omega
  | ⟨2, _⟩ => show win0_15.index t 2 * 512 ≤ (i 2).val ∧ (i 2).val < win0_15.index t 2 * 512 + 512; omega
  | ⟨3, _⟩ => show win0_15.index t 3 * 96 ≤ (i 3).val ∧ (i 3).val < win0_15.index t 3 * 96 + 96; omega

theorem final15 : (dats m 0 c).arrAt 15 cfg0.N = G15 m c :=
  (dats m 0 c).arrAt_eq_of_cover 15 (G15 m c) (fun t hf => flushed15 m c t) cover15

/-! ### The keys -/

theorem flushed16 : (dats m 0 c).flushed 16 t = ((cfg0.win 16).blk t).view.read (Elt Ideal) (G16 m c) := by
  have e := (idx_out t).2.2.1
  rw [Value.flushed16]
  funext y
  refine (Block.out16 _ _ _ _ _ _ _ _ _ _ _ _ _ _ ((cfg0.win 16).xinj (grid0.coords t) y)).trans ?_
  refine (key_block m c t ((cfg0.win 16).xinj (grid0.coords t) y)).trans ?_
  have hb : ((cfg0.win 16).blk t).view.emb y = ix4 (ptB t) ((cfg0.win 16).xinj (grid0.coords t) y 1)
      (ptS t ((cfg0.win 16).xinj (grid0.coords t) y 2)) ((cfg0.win 16).xinj (grid0.coords t) y 3) := by
    have h0 : (y 0).val < 1 := (y 0).isLt
    funext a
    apply Fin.ext
    match a with
    | ⟨0, _⟩ => show win0_16.index t 0 * 1 + 1 * (y 0).val = t.val / 32; rw [e]; simp; omega
    | ⟨1, _⟩ => show win0_16.index t 1 * 8 + 1 * (y 1).val = (y 1).val; rw [e]; simp
    | ⟨2, _⟩ => show win0_16.index t 2 * 512 + 1 * (y 2).val = t.val % 32 * 512 + (y 2).val; rw [e]; simp
    | ⟨3, _⟩ => show win0_16.index t 3 * 96 + 1 * (y 3).val = (y 3).val; rw [e]; simp
  rw [View.read_apply]
  show G16 m c (ix4 (ptB t) ((cfg0.win 16).xinj (grid0.coords t) y 1)
      (ptS t ((cfg0.win 16).xinj (grid0.coords t) y 2)) ((cfg0.win 16).xinj (grid0.coords t) y 3)) = _
  generalize G16 m c = g
  exact (congrArg g hb).symm

theorem cover16 (i : S2x8x16384x96.Idx) :
    ∃ t : Fin cfg0.N, (cfg0.win 16).flush t = true ∧ i ∈ ((cfg0.win 16).blk t).view.set := by
  have h0 : (i 0).val < 2 := (i 0).isLt
  have h1 : (i 1).val < 8 := (i 1).isLt
  have h2 : (i 2).val < 16384 := (i 2).isLt
  have h3 : (i 3).val < 96 := (i 3).isLt
  obtain ⟨t, ht, ht'⟩ := point (i 0).val (i 2).val h0 h2
  have e := (idx_out t).2.2.1
  have e0 : win0_16.index t 0 = t.val / 32 := by rw [e]; rfl
  have e1 : win0_16.index t 1 = 0 := by rw [e]; rfl
  have e2 : win0_16.index t 2 = t.val % 32 := by rw [e]; rfl
  have e3 : win0_16.index t 3 = 0 := by rw [e]; rfl
  refine ⟨t, flush0_16 t, ?_⟩
  show i ∈ ((View.whole main_v58_2).slice (win0_16.rect t)).set
  rw [View.set_slice_whole, Rect.mem_set_unit]
  intro a
  match a with
  | ⟨0, _⟩ => show win0_16.index t 0 * 1 ≤ (i 0).val ∧ (i 0).val < win0_16.index t 0 * 1 + 1; omega
  | ⟨1, _⟩ => show win0_16.index t 1 * 8 ≤ (i 1).val ∧ (i 1).val < win0_16.index t 1 * 8 + 8; omega
  | ⟨2, _⟩ => show win0_16.index t 2 * 512 ≤ (i 2).val ∧ (i 2).val < win0_16.index t 2 * 512 + 512; omega
  | ⟨3, _⟩ => show win0_16.index t 3 * 96 ≤ (i 3).val ∧ (i 3).val < win0_16.index t 3 * 96 + 96; omega

theorem final16 : (dats m 0 c).arrAt 16 cfg0.N = G16 m c :=
  (dats m 0 c).arrAt_eq_of_cover 16 (G16 m c) (fun t hf => flushed16 m c t) cover16

/-! ### The values -/

theorem flushed17 : (dats m 0 c).flushed 17 t = ((cfg0.win 17).blk t).view.read (Elt Ideal) (G17 m c) := by
  have e := (idx_out t).2.2.2.1
  rw [Value.flushed17]
  funext y
  refine (Block.out17 _ _ _ _ _ _ _ _ _ _ _ _ _ _ ((cfg0.win 17).xinj (grid0.coords t) y)).trans ?_
  refine (value_block m c t ((cfg0.win 17).xinj (grid0.coords t) y)).trans ?_
  have hb : ((cfg0.win 17).blk t).view.emb y = ix4 (ptB t) ((cfg0.win 17).xinj (grid0.coords t) y 1)
      (ptS t ((cfg0.win 17).xinj (grid0.coords t) y 2)) ((cfg0.win 17).xinj (grid0.coords t) y 3) := by
    have h0 : (y 0).val < 1 := (y 0).isLt
    funext a
    apply Fin.ext
    match a with
    | ⟨0, _⟩ => show win0_17.index t 0 * 1 + 1 * (y 0).val = t.val / 32; rw [e]; simp; omega
    | ⟨1, _⟩ => show win0_17.index t 1 * 8 + 1 * (y 1).val = (y 1).val; rw [e]; simp
    | ⟨2, _⟩ => show win0_17.index t 2 * 512 + 1 * (y 2).val = t.val % 32 * 512 + (y 2).val; rw [e]; simp
    | ⟨3, _⟩ => show win0_17.index t 3 * 64 + 1 * (y 3).val = (y 3).val; rw [e]; simp
  rw [View.read_apply]
  show G17 m c (ix4 (ptB t) ((cfg0.win 17).xinj (grid0.coords t) y 1)
      (ptS t ((cfg0.win 17).xinj (grid0.coords t) y 2)) ((cfg0.win 17).xinj (grid0.coords t) y 3)) = _
  generalize G17 m c = g
  exact (congrArg g hb).symm

theorem cover17 (i : S2x8x16384x64.Idx) :
    ∃ t : Fin cfg0.N, (cfg0.win 17).flush t = true ∧ i ∈ ((cfg0.win 17).blk t).view.set := by
  have h0 : (i 0).val < 2 := (i 0).isLt
  have h1 : (i 1).val < 8 := (i 1).isLt
  have h2 : (i 2).val < 16384 := (i 2).isLt
  have h3 : (i 3).val < 64 := (i 3).isLt
  obtain ⟨t, ht, ht'⟩ := point (i 0).val (i 2).val h0 h2
  have e := (idx_out t).2.2.2.1
  have e0 : win0_17.index t 0 = t.val / 32 := by rw [e]; rfl
  have e1 : win0_17.index t 1 = 0 := by rw [e]; rfl
  have e2 : win0_17.index t 2 = t.val % 32 := by rw [e]; rfl
  have e3 : win0_17.index t 3 = 0 := by rw [e]; rfl
  refine ⟨t, flush0_17 t, ?_⟩
  show i ∈ ((View.whole main_v58_3).slice (win0_17.rect t)).set
  rw [View.set_slice_whole, Rect.mem_set_unit]
  intro a
  match a with
  | ⟨0, _⟩ => show win0_17.index t 0 * 1 ≤ (i 0).val ∧ (i 0).val < win0_17.index t 0 * 1 + 1; omega
  | ⟨1, _⟩ => show win0_17.index t 1 * 8 ≤ (i 1).val ∧ (i 1).val < win0_17.index t 1 * 8 + 8; omega
  | ⟨2, _⟩ => show win0_17.index t 2 * 512 ≤ (i 2).val ∧ (i 2).val < win0_17.index t 2 * 512 + 512; omega
  | ⟨3, _⟩ => show win0_17.index t 3 * 64 ≤ (i 3).val ∧ (i 3).val < win0_17.index t 3 * 64 + 64; omega

theorem final17 : (dats m 0 c).arrAt 17 cfg0.N = G17 m c :=
  (dats m 0 c).arrAt_eq_of_cover 17 (G17 m c) (fun t hf => flushed17 m c t) cover17

/-! ### The gated inputs -/

theorem flushed18 : (dats m 0 c).flushed 18 t = ((cfg0.win 18).blk t).view.read (Elt Ideal) (G18 m c) := by
  have e := (idx_out t).2.2.2.2.1
  rw [Value.flushed18, Block.out18]
  funext y
  refine (gated_block m c t ((cfg0.win 18).xinj (grid0.coords t) y)).trans ?_
  have hb : ((cfg0.win 18).blk t).view.emb y = ix3 (ptB t) (ptS t ((cfg0.win 18).xinj (grid0.coords t) y 1))
      ((cfg0.win 18).xinj (grid0.coords t) y 2) := by
    have h0 : (y 0).val < 1 := (y 0).isLt
    funext a
    apply Fin.ext
    match a with
    | ⟨0, _⟩ => show win0_18.index t 0 * 1 + 1 * (y 0).val = t.val / 32; rw [e]; simp; omega
    | ⟨1, _⟩ => show win0_18.index t 1 * 512 + 1 * (y 1).val = t.val % 32 * 512 + (y 1).val; rw [e]; simp
    | ⟨2, _⟩ => show win0_18.index t 2 * 256 + 1 * (y 2).val = (y 2).val; rw [e]; simp
  rw [View.read_apply]
  show G18 m c (ix3 (ptB t) (ptS t ((cfg0.win 18).xinj (grid0.coords t) y 1))
      ((cfg0.win 18).xinj (grid0.coords t) y 2)) = _
  generalize G18 m c = g
  exact (congrArg g hb).symm

theorem cover18 (i : S2x16384x256.Idx) :
    ∃ t : Fin cfg0.N, (cfg0.win 18).flush t = true ∧ i ∈ ((cfg0.win 18).blk t).view.set := by
  have h0 : (i 0).val < 2 := (i 0).isLt
  have h1 : (i 1).val < 16384 := (i 1).isLt
  have h2 : (i 2).val < 256 := (i 2).isLt
  obtain ⟨t, ht, ht'⟩ := point (i 0).val (i 1).val h0 h1
  have e := (idx_out t).2.2.2.2.1
  have e0 : win0_18.index t 0 = t.val / 32 := by rw [e]; rfl
  have e1 : win0_18.index t 1 = t.val % 32 := by rw [e]; rfl
  have e2 : win0_18.index t 2 = 0 := by rw [e]; rfl
  refine ⟨t, flush0_18 t, ?_⟩
  show i ∈ ((View.whole main_v58_4).slice (win0_18.rect t)).set
  rw [View.set_slice_whole, Rect.mem_set_unit]
  intro a
  match a with
  | ⟨0, _⟩ => show win0_18.index t 0 * 1 ≤ (i 0).val ∧ (i 0).val < win0_18.index t 0 * 1 + 1; omega
  | ⟨1, _⟩ => show win0_18.index t 1 * 512 ≤ (i 1).val ∧ (i 1).val < win0_18.index t 1 * 512 + 512; omega
  | ⟨2, _⟩ => show win0_18.index t 2 * 256 ≤ (i 2).val ∧ (i 2).val < win0_18.index t 2 * 256 + 256; omega

theorem final18 : (dats m 0 c).arrAt 18 cfg0.N = G18 m c :=
  (dats m 0 c).arrAt_eq_of_cover 18 (G18 m c) (fun t hf => flushed18 m c t) cover18

/-! ### The gates -/

theorem flushed19 : (dats m 0 c).flushed 19 t = ((cfg0.win 19).blk t).view.read (Elt Ideal) (G19 m c) := by
  have e := (idx_out t).2.2.2.2.2.1
  rw [Value.flushed19, Block.out19]
  funext y
  refine (gate_block m c t ((cfg0.win 19).xinj (grid0.coords t) y)).trans ?_
  have hb : ((cfg0.win 19).blk t).view.emb y = ix3 (ptB t) (ptS t ((cfg0.win 19).xinj (grid0.coords t) y 1))
      ((cfg0.win 19).xinj (grid0.coords t) y 2) := by
    have h0 : (y 0).val < 1 := (y 0).isLt
    funext a
    apply Fin.ext
    match a with
    | ⟨0, _⟩ => show win0_19.index t 0 * 1 + 1 * (y 0).val = t.val / 32; rw [e]; simp; omega
    | ⟨1, _⟩ => show win0_19.index t 1 * 512 + 1 * (y 1).val = t.val % 32 * 512 + (y 1).val; rw [e]; simp
    | ⟨2, _⟩ => show win0_19.index t 2 * 256 + 1 * (y 2).val = (y 2).val; rw [e]; simp
  rw [View.read_apply]
  show G19 m c (ix3 (ptB t) (ptS t ((cfg0.win 19).xinj (grid0.coords t) y 1))
      ((cfg0.win 19).xinj (grid0.coords t) y 2)) = _
  generalize G19 m c = g
  exact (congrArg g hb).symm

theorem cover19 (i : S2x16384x256.Idx) :
    ∃ t : Fin cfg0.N, (cfg0.win 19).flush t = true ∧ i ∈ ((cfg0.win 19).blk t).view.set := by
  have h0 : (i 0).val < 2 := (i 0).isLt
  have h1 : (i 1).val < 16384 := (i 1).isLt
  have h2 : (i 2).val < 256 := (i 2).isLt
  obtain ⟨t, ht, ht'⟩ := point (i 0).val (i 1).val h0 h1
  have e := (idx_out t).2.2.2.2.2.1
  have e0 : win0_19.index t 0 = t.val / 32 := by rw [e]; rfl
  have e1 : win0_19.index t 1 = t.val % 32 := by rw [e]; rfl
  have e2 : win0_19.index t 2 = 0 := by rw [e]; rfl
  refine ⟨t, flush0_19 t, ?_⟩
  show i ∈ ((View.whole main_v58_5).slice (win0_19.rect t)).set
  rw [View.set_slice_whole, Rect.mem_set_unit]
  intro a
  match a with
  | ⟨0, _⟩ => show win0_19.index t 0 * 1 ≤ (i 0).val ∧ (i 0).val < win0_19.index t 0 * 1 + 1; omega
  | ⟨1, _⟩ => show win0_19.index t 1 * 512 ≤ (i 1).val ∧ (i 1).val < win0_19.index t 1 * 512 + 512; omega
  | ⟨2, _⟩ => show win0_19.index t 2 * 256 ≤ (i 2).val ∧ (i 2).val < win0_19.index t 2 * 256 + 256; omega

theorem final19 : (dats m 0 c).arrAt 19 cfg0.N = G19 m c :=
  (dats m 0 c).arrAt_eq_of_cover 19 (G19 m c) (fun t hf => flushed19 m c t) cover19

/-! ### The products of the Fourier channels -/

theorem flushed20 : (dats m 0 c).flushed 20 t = ((cfg0.win 20).blk t).view.read (Elt Ideal) (G20 m c) := by
  have e := (idx_out t).2.2.2.2.2.2
  rw [Value.flushed20]
  funext y
  refine (Block.out20 _ _ _ _ _ _ _ _ _ _ _ _ _ _ ((cfg0.win 20).xinj (grid0.coords t) y)).trans ?_
  refine (both_block m c t ((cfg0.win 20).xinj (grid0.coords t) y)).trans ?_
  have hb : ((cfg0.win 20).blk t).view.emb y = ix3 (ptB t) (ptS t ((cfg0.win 20).xinj (grid0.coords t) y 1))
      ((cfg0.win 20).xinj (grid0.coords t) y 2) := by
    have h0 : (y 0).val < 1 := (y 0).isLt
    funext a
    apply Fin.ext
    match a with
    | ⟨0, _⟩ => show win0_20.index t 0 * 1 + 1 * (y 0).val = t.val / 32; rw [e]; simp; omega
    | ⟨1, _⟩ => show win0_20.index t 1 * 512 + 1 * (y 1).val = t.val % 32 * 512 + (y 1).val; rw [e]; simp
    | ⟨2, _⟩ => show win0_20.index t 2 * 512 + 1 * (y 2).val = (y 2).val; rw [e]; simp
  rw [View.read_apply]
  show G20 m c (ix3 (ptB t) (ptS t ((cfg0.win 20).xinj (grid0.coords t) y 1))
      ((cfg0.win 20).xinj (grid0.coords t) y 2)) = _
  generalize G20 m c = g
  exact (congrArg g hb).symm

theorem cover20 (i : S2x16384x512.Idx) :
    ∃ t : Fin cfg0.N, (cfg0.win 20).flush t = true ∧ i ∈ ((cfg0.win 20).blk t).view.set := by
  have h0 : (i 0).val < 2 := (i 0).isLt
  have h1 : (i 1).val < 16384 := (i 1).isLt
  have h2 : (i 2).val < 512 := (i 2).isLt
  obtain ⟨t, ht, ht'⟩ := point (i 0).val (i 1).val h0 h1
  have e := (idx_out t).2.2.2.2.2.2
  have e0 : win0_20.index t 0 = t.val / 32 := by rw [e]; rfl
  have e1 : win0_20.index t 1 = t.val % 32 := by rw [e]; rfl
  have e2 : win0_20.index t 2 = 0 := by rw [e]; rfl
  refine ⟨t, flush0_20 t, ?_⟩
  show i ∈ ((View.whole main_v58_6).slice (win0_20.rect t)).set
  rw [View.set_slice_whole, Rect.mem_set_unit]
  intro a
  match a with
  | ⟨0, _⟩ => show win0_20.index t 0 * 1 ≤ (i 0).val ∧ (i 0).val < win0_20.index t 0 * 1 + 1; omega
  | ⟨1, _⟩ => show win0_20.index t 1 * 512 ≤ (i 1).val ∧ (i 1).val < win0_20.index t 1 * 512 + 512; omega
  | ⟨2, _⟩ => show win0_20.index t 2 * 512 ≤ (i 2).val ∧ (i 2).val < win0_20.index t 2 * 512 + 512; omega

theorem final20 : (dats m 0 c).arrAt 20 cfg0.N = G20 m c :=
  (dats m 0 c).arrAt_eq_of_cover 20 (G20 m c) (fun t hf => flushed20 m c t) cover20

end Cert.InprojIdeal.Array
end
-- ==== Proof.InprojTok.lean ====
module

public import proofs.«01_k».proof.Proof.InprojOut

@[expose] public section

/-!
# The in-projection of a token, plainly

The normalised row of a token, its 1696 products with the combined weight, the two latents, the
queries and the keys and values of the heads before the rotation, and the rotation of a pair of
columns. The kernel's results, which `InprojOut` gives with the rearranged weights, are these.
-/

set_option maxRecDepth 16384

noncomputable section

namespace Inproj

open Idealize.ShloMosaic Idealize.ShloMosaic.TcCoe Idealize.SL.Sem
open Cert.InprojIdeal.Block (cols small colsQ colsKV smallR)
open Cert.InprojIdeal.Host (angle)

/-- The arguments of the in-projection. -/
structure Args where
  x : (⟨3, ![2, 16384, 1024]⟩ : Shape).Idx → EReal
  gain : (⟨1, ![1024]⟩ : Shape).Idx → EReal
  bias : (⟨1, ![1024]⟩ : Shape).Idx → EReal
  w : (⟨2, ![1024, 1696]⟩ : Shape).Idx → EReal
  gq : (⟨1, ![384]⟩ : Shape).Idx → EReal
  gkv : (⟨1, ![256]⟩ : Shape).Idx → EReal
  uq : (⟨3, ![384, 8, 96]⟩ : Shape).Idx → EReal
  ukv : (⟨3, ![256, 8, 128]⟩ : Shape).Idx → EReal
  cc : (⟨2, ![256, 256]⟩ : Shape).Idx → EReal
  sc : (⟨2, ![256, 256]⟩ : Shape).Idx → EReal

variable (a : Args) (b : Fin 2) (s : Fin 16384)

/-- The normalised row. -/
def row (d : Fin 1024) : EReal :=
  Experts.norm cols small (fun k : Fin 1024 => a.x (ix3 b s k)) (fun k => a.gain (ix1 k)) (fun k => a.bias (ix1 k)) d

/-- Its product with a column of the combined weight. -/
def z (p : Fin 1696) : EReal := Proj.dot (row a b s) (fun k => a.w (ix2 k p))

/-- The two normalised latents. -/
def latQ (j : Fin 384) : EReal :=
  Proj.rms colsQ smallR (fun k : Fin 384 => z a b s ⟨k.val, by omega⟩) (fun k => a.gq (ix1 k)) j
def latKV (j : Fin 256) : EReal :=
  Proj.rms colsKV smallR (fun k : Fin 256 => z a b s ⟨384 + k.val, by omega⟩) (fun k => a.gkv (ix1 k)) j

/-- The query of a head, and its key and value side by side, not yet rotated. -/
def q (hd : Fin 8) (d : Fin 96) : EReal := Proj.dot (latQ a b s) (fun k => a.uq (ix3 k hd d))
def kv (hd : Fin 8) (d : Fin 128) : EReal := Proj.dot (latKV a b s) (fun k => a.ukv (ix3 k hd d))

/-- The Fourier channels times a matrix. -/
def chan (w : (⟨2, ![256, 256]⟩ : Shape).Idx → EReal) (d : Fin 256) : EReal :=
  Proj.dot (fun k : Fin 256 => z a b s ⟨1440 + k.val, by omega⟩) (fun k => w (ix2 k d))

/-- The two numbers that the rotation makes of a pair, at position `s` and frequency `j`. -/
def turn1 (u v : EReal) (j : Fin 16) : EReal :=
  u * (Host.cos angle (ix2 s j) : EReal) - v * (Host.sin angle (ix2 s j) : EReal)
def turn2 (u v : EReal) (j : Fin 16) : EReal :=
  u * (Host.sin angle (ix2 s j) : EReal) + v * (Host.cos angle (ix2 s j) : EReal)

theorem turn1_eq (u v : EReal) (j : Fin 16) :
    u * (Host.cos angle (ix2 s j) : EReal) + v * -(Host.sin angle (ix2 s j) : EReal) = turn1 s u v j := by
  unfold turn1
  rw [mul_neg, sub_eq_add_neg]

theorem turn2_eq (u v : EReal) (j : Fin 16) :
    v * (Host.cos angle (ix2 s j) : EReal) + u * (Host.sin angle (ix2 s j) : EReal) = turn2 s u v j :=
  add_comm _ _

end Inproj

namespace Cert.InprojIdeal.Array

open Cert.InprojIdeal Cert.InprojIdeal.Gen Idealize.ShloMosaic Idealize.ShloMosaic.TcCoe Idealize.SL.Sem
open Cert.InprojIdeal.Host

variable (m : (ℓ : Loc nD τ sig) → Buf (Elt Ideal) ℓ) (c : Dev nD)

/-- The arguments that the kernel is given. -/
abbrev args : Inproj.Args :=
  ⟨X m c, gain m c, bias m c, W m c, gQ m c, gKV m c, UQ m c, UKV m c, CC m c, SC m c⟩

variable (b : Fin 2) (s : Fin 16384)

theorem row_eq (d : Fin 1024) : row m c b s d = Inproj.row (args m c) b s d := rfl

/-! ## The products with the rearranged columns -/

theorem proj_of (p : Fin 1920) (p' : Fin 1696) (h : ∀ k, winT (W m c) (ix2 k p) = W m c (ix2 k p')) :
    proj m c b s p = Inproj.z (args m c) b s p' := by
  unfold proj Inproj.z
  exact congrArg (Proj.dot (row m c b s)) (funext h)

theorem proj_zero (p : Fin 1920) (h : ∀ k, winT (W m c) (ix2 k p) = (0 : EReal)) : proj m c b s p = 0 := by
  unfold proj
  exact (congrArg (Proj.dot (row m c b s)) (funext h)).trans (Proj.dot_zero _)

theorem key_lo0 (j : Fin 64) : proj m c b s ⟨1664 + j.val, by omega⟩ = 0 :=
  proj_zero m c b s _ fun k => (win_key (W m c) k ⟨j.val, by omega⟩).trans (key_lo k _ j)

theorem swap_lo0 (j : Fin 64) : proj m c b s ⟨1792 + j.val, by omega⟩ = 0 :=
  proj_zero m c b s _ fun k => (win_swap (W m c) k ⟨j.val, by omega⟩).trans (key_lo k _ j)

theorem key_at (j : Fin 32) :
    proj m c b s ⟨1664 + (64 + j.val), by omega⟩ = Inproj.z (args m c) b s ⟨640 + j.val, by omega⟩ :=
  proj_of m c b s _ _ fun k => (win_key (W m c) k ⟨64 + j.val, by omega⟩).trans
    ((key_in k _ j).trans (keyCols_apply (W m c) k j))

theorem swap_at (j j' : Fin 32) (h : ∀ k, swapKey (keyCols (W m c)) (ix2 k j) = keyCols (W m c) (ix2 k j')) :
    proj m c b s ⟨1792 + (64 + j.val), by omega⟩ = Inproj.z (args m c) b s ⟨640 + j'.val, by omega⟩ :=
  proj_of m c b s _ _ fun k => (win_swap (W m c) k ⟨64 + j.val, by omega⟩).trans
    ((key_in k _ j).trans ((h k).trans (keyCols_apply (W m c) k j')))

/-! ## The latents -/

theorem latQ_eq : latQ m c b s = Inproj.latQ (args m c) b s := by
  funext j
  unfold latQ Inproj.latQ
  exact congrArg (fun y => Proj.rms Block.colsQ Block.smallR y (fun k => gQ m c (ix1 k)) j)
    (funext fun k => proj_of m c b s _ _ fun i => win_q (W m c) i k)

theorem latKV_eq : latKV m c b s = Inproj.latKV (args m c) b s := by
  funext j
  unfold latKV Inproj.latKV
  exact congrArg (fun y => Proj.rms Block.colsKV Block.smallR y (fun k => gKV m c (ix1 k)) j)
    (funext fun k => proj_of m c b s _ _ fun i => win_kv (W m c) i k)

/-! ## The key that all heads share -/

theorem keyPart_lo (j : Fin 64) : keyPart m c b s ⟨j.val, by omega⟩ = 0 := by
  unfold keyPart
  rw [key_lo0 m c b s j, swap_lo0 m c b s j, zero_mul, zero_mul, add_zero]

theorem keyPart_mid (j : Fin 16) : keyPart m c b s ⟨64 + j.val, by omega⟩
    = Inproj.turn1 s (Inproj.z (args m c) b s ⟨640 + j.val, by omega⟩)
        (Inproj.z (args m c) b s ⟨656 + j.val, by omega⟩) j := by
  unfold keyPart
  have e := key_at m c b s ⟨j.val, by omega⟩
  have e' := swap_at m c b s ⟨j.val, by omega⟩ ⟨16 + j.val, by omega⟩ fun k => swap_mid k _ j
  rw [cos_mid, sin_mid]
  refine Eq.trans ?_ (Inproj.turn1_eq s _ _ j)
  refine congrArg₂ (fun u v : EReal => u * _ + v * _) e (e'.trans (congrArg _ (Fin.ext ?_)))
  show 640 + (16 + j.val) = 656 + j.val
  omega

theorem keyPart_hi (j : Fin 16) : keyPart m c b s ⟨80 + j.val, by omega⟩
    = Inproj.turn2 s (Inproj.z (args m c) b s ⟨640 + j.val, by omega⟩)
        (Inproj.z (args m c) b s ⟨656 + j.val, by omega⟩) j := by
  unfold keyPart
  have e := key_at m c b s ⟨16 + j.val, by omega⟩
  have e' := swap_at m c b s ⟨16 + j.val, by omega⟩ ⟨j.val, by omega⟩ fun k => swap_hi k _ j
  rw [cos_hi, sin_hi]
  refine Eq.trans ?_ (Inproj.turn2_eq s _ _ j)
  refine congrArg₂ (fun u v : EReal => u * _ + v * _) (Eq.trans (congrArg _ (Fin.ext ?_)) (e.trans
    (congrArg _ (Fin.ext ?_)))) (Eq.trans (congrArg _ (Fin.ext ?_)) e')
  · show 1664 + (80 + j.val) = 1664 + (64 + (16 + j.val)); omega
  · show 640 + (16 + j.val) = 656 + j.val; omega
  · show 1792 + (80 + j.val) = 1792 + (64 + (16 + j.val)); omega

/-! ## The heads -/

variable (hd : Fin 8)

theorem dotQ (d : Fin 96) : Proj.dot (latQ m c b s)
    (fun k => (truncf .bf16 (wqT (UQ m c)) bitsLt_bf16_f32 : FVec Ideal S8x384x96 .bf16) (ix3 hd k d))
      = Inproj.q (args m c) b s hd d := by
  rw [latQ_eq]
  exact congrArg (Proj.dot _) (funext fun k => wq_apply hd (UQ m c) k d)

theorem dotQs (d d' : Fin 96) (h : ∀ k, (truncf .bf16 (wqsT (UQ m c)) bitsLt_bf16_f32 : FVec Ideal S8x384x96 .bf16)
    (ix3 hd k d) = UQ m c (ix3 k hd d')) : Proj.dot (latQ m c b s)
    (fun k => (truncf .bf16 (wqsT (UQ m c)) bitsLt_bf16_f32 : FVec Ideal S8x384x96 .bf16) (ix3 hd k d))
      = Inproj.q (args m c) b s hd d' := by
  rw [latQ_eq]
  exact congrArg (Proj.dot _) (funext h)

theorem query_lo (j : Fin 64) :
    query m c b s hd ⟨j.val, by omega⟩ = Inproj.q (args m c) b s hd ⟨j.val, by omega⟩ := by
  unfold query
  rw [cos_lo, sin_lo, mul_one, mul_zero, add_zero]
  exact dotQ m c b s hd _

theorem query_mid (j : Fin 16) : query m c b s hd ⟨64 + j.val, by omega⟩
    = Inproj.turn1 s (Inproj.q (args m c) b s hd ⟨64 + j.val, by omega⟩)
        (Inproj.q (args m c) b s hd ⟨80 + j.val, by omega⟩) j := by
  unfold query
  rw [cos_mid, sin_mid, dotQ, dotQs m c b s hd _ _ fun k => wqs_mid hd (UQ m c) k j]
  exact Inproj.turn1_eq s _ _ j

theorem query_hi (j : Fin 16) : query m c b s hd ⟨80 + j.val, by omega⟩
    = Inproj.turn2 s (Inproj.q (args m c) b s hd ⟨64 + j.val, by omega⟩)
        (Inproj.q (args m c) b s hd ⟨80 + j.val, by omega⟩) j := by
  unfold query
  rw [cos_hi, sin_hi, dotQ, dotQs m c b s hd _ _ fun k => wqs_hi hd (UQ m c) k j]
  exact Inproj.turn2_eq s _ _ j

theorem key_lo (j : Fin 64) :
    key m c b s hd ⟨j.val, by omega⟩ = Inproj.kv (args m c) b s hd ⟨j.val, by omega⟩ := by
  unfold key
  rw [keyPart_lo, add_zero, latKV_eq]
  exact congrArg (Proj.dot _) (funext fun k => wk_lo hd (UKV m c) k j)

theorem key_rot (j : Fin 32) :
    key m c b s hd ⟨64 + j.val, by omega⟩ = keyPart m c b s ⟨64 + j.val, by omega⟩ := by
  unfold key
  refine (congrArg (fun u : EReal => u + _) ((congrArg (Proj.dot _) (funext fun k => wk_hi hd (UKV m c) k j)).trans
    (Proj.dot_zero _))).trans (zero_add _)

theorem key_mid (j : Fin 16) : key m c b s hd ⟨64 + j.val, by omega⟩
    = Inproj.turn1 s (Inproj.z (args m c) b s ⟨640 + j.val, by omega⟩)
        (Inproj.z (args m c) b s ⟨656 + j.val, by omega⟩) j :=
  (key_rot m c b s hd ⟨j.val, by omega⟩).trans (keyPart_mid m c b s j)

theorem key_hi (j : Fin 16) : key m c b s hd ⟨80 + j.val, by omega⟩
    = Inproj.turn2 s (Inproj.z (args m c) b s ⟨640 + j.val, by omega⟩)
        (Inproj.z (args m c) b s ⟨656 + j.val, by omega⟩) j := by
  have e := key_rot m c b s hd ⟨16 + j.val, by omega⟩
  have h : (⟨64 + (16 + j.val), by omega⟩ : Fin 96) = ⟨80 + j.val, by omega⟩ :=
    Fin.ext (show 64 + (16 + j.val) = 80 + j.val by omega)
  rw [← keyPart_hi]
  rwa [h] at e

theorem value_eq (r : Fin 64) : value m c b s hd r = Inproj.kv (args m c) b s hd ⟨64 + r.val, by omega⟩ := by
  unfold value
  rw [latKV_eq]
  exact congrArg (Proj.dot _) (funext fun k => wv_apply hd (UKV m c) k r)

/-! ## The gates and the Fourier channels -/

theorem gated_eq (d : Fin 256) : gated m c b s d
    = Inproj.z (args m c) b s ⟨928 + d.val, by omega⟩ * Inproj.z (args m c) b s ⟨1184 + d.val, by omega⟩ := by
  unfold gated
  rw [proj_of m c b s _ _ fun k => win_c (W m c) k d, proj_of m c b s _ _ fun k => win_h (W m c) k d]

theorem gate_eq (d : Fin 256) : gate m c b s d = Inproj.z (args m c) b s ⟨672 + d.val, by omega⟩ := by
  unfold gate
  rw [proj_of m c b s _ _ fun k => win_b (W m c) k d]

theorem chan_eq (w : FVec Ideal S256x256 .f32) (d : Fin 256) : chan m c b s w d = Inproj.chan (args m c) b s w d := by
  unfold chan Inproj.chan
  exact congrArg (fun y => Proj.dot y (fun k => (w (ix2 k d) : EReal)))
    (funext fun k => proj_of m c b s _ _ fun i => win_f (W m c) i k)

end Cert.InprojIdeal.Array
end
-- ==== Proof.InprojRef.lean ====
module

public import proofs.«01_k».proof.Proof.Gen.InprojRefIdeal.Run
public import proofs.«01_k».proof.Proof.InprojTok

@[expose] public section

/-!
# What the in-projection reference computes

The reference's seven results at an index, in the terms of `InprojTok`.
-/

set_option maxRecDepth 16384

noncomputable section

namespace Cert.InprojRefIdeal.Value

open Cert.InprojRefIdeal Cert.InprojRefIdeal.Gen Idealize.ShloMosaic Idealize.ShloMosaic.TcCoe Idealize.SL.Sem
open Cert.InprojIdeal.Block (cols small colsQ colsKV smallR)

abbrev T := FVec Ideal S2x16384x1024 .f32
abbrev Z := FVec Ideal S2x16384x1696 .f32
abbrev LQ := FVec Ideal S2x16384x384 .f32
abbrev LKV := FVec Ideal S2x16384x256 .f32
abbrev HQ := FVec Ideal S2x16384x8x96 .f32
abbrev HKV := FVec Ideal S2x16384x8x128 .f32
abbrev K32 := FVec Ideal S2x16384x32 .f32
abbrev A16 := FVec Ideal S16384x16 .f32

/-! ## The norm of the input -/

def mean (y : T) : FVec Ideal S2x16384x1 .f32 :=
  Host.divf (broadcastInDim S2x16384x1 ![0, 1] bcast_S2x16384_S2x16384x1_0_1
      (Host.reduceAdd y (constant S_ .f32 0x00000000#32) reducesTo_S2x16384x1024_S2x16384_d2 h_S_))
    (broadcastInDim S2x16384x1 ![] bcast_S_S2x16384x1 (constant S_ .f32 0x44800000#32))

def across (v : FVec Ideal S2x16384x1 .f32) : T :=
  broadcastInDim S2x16384x1024 ![0, 1, 2] bcast_S2x16384x1_S2x16384x1024_0_1_2 v

def down (v : FVec Ideal S1024 .f32) : T :=
  broadcastInDim S2x16384x1024 ![0, 1, 2] bcast_S1x1x1024_S2x16384x1024_0_1_2
    (broadcastInDim S1x1x1024 ![2] bcast_S1024_S1x1x1024_2 v)

def scale (v : FVec Ideal S2x16384x1 .f32) : FVec Ideal S2x16384x1 .f32 :=
  Host.rsqrt (addf v (broadcastInDim S2x16384x1 ![] bcast_S_S2x16384x1 (constant S_ .f32 0x3727C5AC#32)))

def finish (y : T) (g b : FVec Ideal S1024 .f32) : T :=
  addf (mulf (mulf y (across (scale (mean (mulf y y))))) (down g)) (down b)

def norm (x : T) (g b : FVec Ideal S1024 .f32) : T := finish (subf x (across (mean x))) g b

theorem mean_apply (y : T) (b : Fin 2) (s : Fin 16384) :
    mean y (ix3 b s 0) = Ideal.div (∑ k : Fin 1024, (y (ix3 b s k) : EReal)) cols := by
  pointwise [mean]
  rfl

theorem across_apply (v : FVec Ideal S2x16384x1 .f32) (b : Fin 2) (s : Fin 16384) (k : Fin 1024) :
    across v (ix3 b s k) = v (ix3 b s 0) := by
  pointwise [across]

theorem down_apply (v : FVec Ideal S1024 .f32) (b : Fin 2) (s : Fin 16384) (k : Fin 1024) :
    down v (ix3 b s k) = v (ix1 k) := by
  pointwise [down]

theorem scale_apply (v : FVec Ideal S2x16384x1 .f32) (b : Fin 2) (s : Fin 16384) :
    scale v (ix3 b s 0) = Ideal.rsqrt ((v (ix3 b s 0) : EReal) + small) := by
  pointwise [scale]
  rfl

theorem finish_apply (y : T) (g b : FVec Ideal S1024 .f32) (i : Fin 2) (s : Fin 16384) (k : Fin 1024) :
    finish y g b (ix3 i s k) = (y (ix3 i s k) : EReal)
      * Ideal.rsqrt (Ideal.div (∑ x : Fin 1024, (y (ix3 i s x) : EReal) * y (ix3 i s x)) cols + small)
      * g (ix1 k) + b (ix1 k) := by
  show (y (ix3 i s k) : EReal) * across (scale (mean (mulf y y))) (ix3 i s k) * down g (ix3 i s k)
    + down b (ix3 i s k) = _
  rw [across_apply, scale_apply, mean_apply, down_apply, down_apply]
  rfl

theorem norm_apply (x : T) (g b : FVec Ideal S1024 .f32) (i : Fin 2) (s : Fin 16384) (k : Fin 1024) :
    norm x g b (ix3 i s k) = Experts.norm cols small (fun k : Fin 1024 => (x (ix3 i s k) : EReal))
      (fun k => g (ix1 k)) (fun k => b (ix1 k)) k := by
  have h : ∀ j, subf x (across (mean x)) (ix3 i s j)
      = (x (ix3 i s j) : EReal) - Ideal.div (∑ k : Fin 1024, (x (ix3 i s k) : EReal)) cols := by
    intro j
    show (x (ix3 i s j) : EReal) - across (mean x) (ix3 i s j) = _
    rw [across_apply, mean_apply]
  unfold norm
  rw [finish_apply]
  simp only [h]
  rfl

/-! ## The projection and the latents -/

def proj (h : T) (w : FVec Ideal S1024x1696 .f32) : Z :=
  Host.dotGeneral dot_S2x16384x1024_S1024x1696_S2x16384x1696_2_0_01_1_n_n none h w

theorem proj_apply (h : T) (w : FVec Ideal S1024x1696 .f32) (b : Fin 2) (s : Fin 16384) (p : Fin 1696) :
    proj h w (ix3 b s p) = Proj.dot (fun k : Fin 1024 => (h (ix3 b s k) : EReal)) (fun k => w (ix2 k p)) := by
  pointwise [proj]
  rfl

def cutQ (z : Z) : LQ := extractStridedSlice S2x16384x384 ![0, 0, 0] z slices_S2x16384x1696_S2x16384x384_0_0_0
def cutKV (z : Z) : LKV := extractStridedSlice S2x16384x256 ![0, 0, 384] z slices_S2x16384x1696_S2x16384x256_0_0_384
def cutK (z : Z) : K32 := extractStridedSlice S2x16384x32 ![0, 0, 640] z slices_S2x16384x1696_S2x16384x32_0_0_640
def cutB (z : Z) : LKV := extractStridedSlice S2x16384x256 ![0, 0, 672] z slices_S2x16384x1696_S2x16384x256_0_0_672
def cutC (z : Z) : LKV := extractStridedSlice S2x16384x256 ![0, 0, 928] z slices_S2x16384x1696_S2x16384x256_0_0_928
def cutH (z : Z) : LKV := extractStridedSlice S2x16384x256 ![0, 0, 1184] z slices_S2x16384x1696_S2x16384x256_0_0_1184
def cutF (z : Z) : LKV := extractStridedSlice S2x16384x256 ![0, 0, 1440] z slices_S2x16384x1696_S2x16384x256_0_0_1440

def rmsQ (y : LQ) (g : FVec Ideal S384 .f32) : LQ :=
  mulf (mulf y (broadcastInDim S2x16384x384 ![0, 1, 2] bcast_S2x16384x1_S2x16384x384_0_1_2
    (Host.rsqrt (addf (Host.divf (broadcastInDim S2x16384x1 ![0, 1] bcast_S2x16384_S2x16384x1_0_1
        (Host.reduceAdd (mulf y y) (constant S_ .f32 0x00000000#32) reducesTo_S2x16384x384_S2x16384_d2 h_S_))
      (broadcastInDim S2x16384x1 ![] bcast_S_S2x16384x1 (constant S_ .f32 0x43C00000#32)))
      (broadcastInDim S2x16384x1 ![] bcast_S_S2x16384x1 (constant S_ .f32 0x358637BD#32))))))
    (broadcastInDim S2x16384x384 ![0, 1, 2] bcast_S1x1x384_S2x16384x384_0_1_2
      (broadcastInDim S1x1x384 ![2] bcast_S384_S1x1x384_2 g))

def rmsKV (y : LKV) (g : FVec Ideal S256 .f32) : LKV :=
  mulf (mulf y (broadcastInDim S2x16384x256 ![0, 1, 2] bcast_S2x16384x1_S2x16384x256_0_1_2
    (Host.rsqrt (addf (Host.divf (broadcastInDim S2x16384x1 ![0, 1] bcast_S2x16384_S2x16384x1_0_1
        (Host.reduceAdd (mulf y y) (constant S_ .f32 0x00000000#32) reducesTo_S2x16384x256_S2x16384_d2 h_S_))
      (broadcastInDim S2x16384x1 ![] bcast_S_S2x16384x1 (constant S_ .f32 0x43800000#32)))
      (broadcastInDim S2x16384x1 ![] bcast_S_S2x16384x1 (constant S_ .f32 0x358637BD#32))))))
    (broadcastInDim S2x16384x256 ![0, 1, 2] bcast_S1x1x256_S2x16384x256_0_1_2
      (broadcastInDim S1x1x256 ![2] bcast_S256_S1x1x256_2 g))

theorem rmsQ_apply (y : LQ) (g : FVec Ideal S384 .f32) (b : Fin 2) (s : Fin 16384) (j : Fin 384) :
    rmsQ y g (ix3 b s j)
      = Proj.rms colsQ smallR (fun k : Fin 384 => (y (ix3 b s k) : EReal)) (fun k => g (ix1 k)) j := by
  pointwise [rmsQ]
  rfl

theorem rmsKV_apply (y : LKV) (g : FVec Ideal S256 .f32) (b : Fin 2) (s : Fin 16384) (j : Fin 256) :
    rmsKV y g (ix3 b s j)
      = Proj.rms colsKV smallR (fun k : Fin 256 => (y (ix3 b s k) : EReal)) (fun k => g (ix1 k)) j := by
  pointwise [rmsKV]
  rfl

def headQ (y : LQ) (w : FVec Ideal S384x8x96 .f32) : HQ :=
  Host.dotGeneral dot_S2x16384x384_S384x8x96_S2x16384x8x96_2_0_01_12_n_n none y w
def headKV (y : LKV) (w : FVec Ideal S256x8x128 .f32) : HKV :=
  Host.dotGeneral dot_S2x16384x256_S256x8x128_S2x16384x8x128_2_0_01_12_n_n none y w

theorem headQ_apply (y : LQ) (w : FVec Ideal S384x8x96 .f32) (b : Fin 2) (s : Fin 16384) (hd : Fin 8) (d : Fin 96) :
    headQ y w (ix4 b s hd d) = Proj.dot (fun k : Fin 384 => (y (ix3 b s k) : EReal)) (fun k => w (ix3 k hd d)) := by
  pointwise [headQ]
  rfl

theorem headKV_apply (y : LKV) (w : FVec Ideal S256x8x128 .f32) (b : Fin 2) (s : Fin 16384) (hd : Fin 8)
    (d : Fin 128) :
    headKV y w (ix4 b s hd d) = Proj.dot (fun k : Fin 256 => (y (ix3 b s k) : EReal)) (fun k => w (ix3 k hd d)) := by
  pointwise [headKV]
  rfl

/-! ## The rotation -/

/-- The angles. -/
def angle : A16 :=
  mulf (broadcastInDim S16384x16 ![0, 1] bcast_S16384x1_S16384x16_0_1
      (broadcastInDim S16384x1 ![0] bcast_S16384_S16384x1_0 (sitofp .f32 (iotaInDim S16384 32 0))))
    (broadcastInDim S16384x16 ![0, 1] bcast_S1x16_S16384x16_0_1
      (broadcastInDim S1x16 ![1] bcast_S16_S1x16_1
        (Host.divf (broadcastInDim S16 ![] bcast_S_S16 (constant S_ .f32 0x3F800000#32))
          (Host.powf (broadcastInDim S16 ![] bcast_S_S16 (constant S_ .f32 0x461C4000#32))
            (Host.divf (addf (broadcastInDim S16 ![] bcast_S_S16 (constant S_ .f32 0x00000000#32))
                (mulf (broadcastInDim S16 ![] bcast_S_S16 (constant S_ .f32 0x40000000#32))
                  (sitofp .f32 (iotaInDim S16 32 0))))
              (broadcastInDim S16 ![] bcast_S_S16 (constant S_ .f32 0x42000000#32)))))))

theorem angle_eq : angle = Cert.InprojIdeal.Host.angle := rfl

abbrev H16 := FVec Ideal S2x16384x8x16 .f32
abbrev H32 := FVec Ideal S2x16384x8x32 .f32
abbrev K16 := FVec Ideal S2x16384x16 .f32

def peQ (q : HQ) : H32 := extractStridedSlice S2x16384x8x32 ![0, 0, 0, 64] q slices_S2x16384x8x96_S2x16384x8x32_0_0_0_64
def t1Q (v : H32) : H16 := extractStridedSlice S2x16384x8x16 ![0, 0, 0, 0] v slices_S2x16384x8x32_S2x16384x8x16_0_0_0_0
def t2Q (v : H32) : H16 := extractStridedSlice S2x16384x8x16 ![0, 0, 0, 16] v slices_S2x16384x8x32_S2x16384x8x16_0_0_0_16
def wideQ (v : A16) : H16 :=
  broadcastInDim S2x16384x8x16 ![0, 1, 2, 3] bcast_S1x16384x1x16_S2x16384x8x16_0_1_2_3
    (broadcastInDim S1x16384x1x16 ![1, 3] bcast_S16384x16_S1x16384x1x16_1_3 v)

/-- The rotated columns of the queries. -/
def ropeQ (v : H32) (c s : A16) : H32 :=
  concatenate S2x16384x8x32 3
    [⟨S2x16384x8x16, subf (mulf (t1Q v) (wideQ c)) (mulf (t2Q v) (wideQ s))⟩,
     ⟨S2x16384x8x16, addf (mulf (t1Q v) (wideQ s)) (mulf (t2Q v) (wideQ c))⟩]
    concatenates_S2x16384x8x16_S2x16384x8x16_S2x16384x8x32_d3

def joinQ (q : HQ) (v : H32) : HQ :=
  concatenate S2x16384x8x96 3
    [⟨S2x16384x8x64, extractStridedSlice S2x16384x8x64 ![0, 0, 0, 0] q slices_S2x16384x8x96_S2x16384x8x64_0_0_0_0⟩,
     ⟨S2x16384x8x32, v⟩] concatenates_S2x16384x8x64_S2x16384x8x32_S2x16384x8x96_d3

def outQ (q : HQ) (c s : A16) : FVec Ideal S2x8x16384x96 .f32 :=
  transpose S2x8x16384x96 [0, 2, 1, 3] (joinQ q (ropeQ (peQ q) c s)) transposes_S2x16384x8x96_S2x8x16384x96_0_2_1_3

def t1K (v : K32) : K16 := extractStridedSlice S2x16384x16 ![0, 0, 0] v slices_S2x16384x32_S2x16384x16_0_0_0
def t2K (v : K32) : K16 := extractStridedSlice S2x16384x16 ![0, 0, 16] v slices_S2x16384x32_S2x16384x16_0_0_16
def wideK (v : A16) : K16 :=
  broadcastInDim S2x16384x16 ![0, 1, 2] bcast_S1x16384x16_S2x16384x16_0_1_2
    (broadcastInDim S1x16384x16 ![1, 2] bcast_S16384x16_S1x16384x16_1_2 v)

/-- The rotated key that the heads share. -/
def ropeK (v : K32) (c s : A16) : K32 :=
  concatenate S2x16384x32 2
    [⟨S2x16384x16, subf (mulf (t1K v) (wideK c)) (mulf (t2K v) (wideK s))⟩,
     ⟨S2x16384x16, addf (mulf (t1K v) (wideK s)) (mulf (t2K v) (wideK c))⟩]
    concatenates_S2x16384x16_S2x16384x16_S2x16384x32_d2

def joinK (kv : HKV) (v : K32) : HQ :=
  concatenate S2x16384x8x96 3
    [⟨S2x16384x8x64, extractStridedSlice S2x16384x8x64 ![0, 0, 0, 0] kv slices_S2x16384x8x128_S2x16384x8x64_0_0_0_0⟩,
     ⟨S2x16384x8x32, broadcastInDim S2x16384x8x32 ![0, 1, 2, 3] bcast_S2x16384x1x32_S2x16384x8x32_0_1_2_3
       (broadcastInDim S2x16384x1x32 ![0, 1, 3] bcast_S2x16384x32_S2x16384x1x32_0_1_3 v)⟩]
    concatenates_S2x16384x8x64_S2x16384x8x32_S2x16384x8x96_d3

def outK (kv : HKV) (k : K32) (c s : A16) : FVec Ideal S2x8x16384x96 .bf16 :=
  truncf .bf16 (transpose S2x8x16384x96 [0, 2, 1, 3] (joinK kv (ropeK k c s))
    transposes_S2x16384x8x96_S2x8x16384x96_0_2_1_3) bitsLt_bf16_f32

def outV (kv : HKV) : FVec Ideal S2x8x16384x64 .bf16 :=
  truncf .bf16 (transpose S2x8x16384x64 [0, 2, 1, 3]
    (extractStridedSlice S2x16384x8x64 ![0, 0, 0, 64] kv slices_S2x16384x8x128_S2x16384x8x64_0_0_0_64)
    transposes_S2x16384x8x64_S2x8x16384x64_0_2_1_3) bitsLt_bf16_f32

def mat (f : LKV) (w : FVec Ideal S256x256 .f32) : LKV :=
  Host.dotGeneral dot_S2x16384x256_S256x256_S2x16384x256_2_0_01_1_n_n none f w

def outA (f : LKV) (cc sc : FVec Ideal S256x256 .f32) : FVec Ideal S2x16384x512 .bf16 :=
  truncf .bf16 (concatenate S2x16384x512 2 [⟨S2x16384x256, mat f cc⟩, ⟨S2x16384x256, mat f sc⟩]
    concatenates_S2x16384x256_S2x16384x256_S2x16384x512_d2) bitsLt_bf16_f32

/-! ### Each at an index -/

section At

variable (b : Fin 2) (s : Fin 16384) (hd : Fin 8)

theorem ropeQ_1 (v : H32) (x y : A16) (j : Fin 16) : ropeQ v x y (ix4 b s hd ⟨j.val, by omega⟩)
    = (v (ix4 b s hd ⟨j.val, by omega⟩) : EReal) * x (ix2 s j) - v (ix4 b s hd ⟨16 + j.val, by omega⟩) * y (ix2 s j) := by
  pointwise [ropeQ, t1Q, t2Q, wideQ]

theorem ropeQ_2 (v : H32) (x y : A16) (j : Fin 16) : ropeQ v x y (ix4 b s hd ⟨16 + j.val, by omega⟩)
    = (v (ix4 b s hd ⟨j.val, by omega⟩) : EReal) * y (ix2 s j) + v (ix4 b s hd ⟨16 + j.val, by omega⟩) * x (ix2 s j) := by
  pointwise [ropeQ, t1Q, t2Q, wideQ]

theorem ropeK_1 (v : K32) (x y : A16) (j : Fin 16) : ropeK v x y (ix3 b s ⟨j.val, by omega⟩)
    = (v (ix3 b s ⟨j.val, by omega⟩) : EReal) * x (ix2 s j) - v (ix3 b s ⟨16 + j.val, by omega⟩) * y (ix2 s j) := by
  pointwise [ropeK, t1K, t2K, wideK]

theorem ropeK_2 (v : K32) (x y : A16) (j : Fin 16) : ropeK v x y (ix3 b s ⟨16 + j.val, by omega⟩)
    = (v (ix3 b s ⟨j.val, by omega⟩) : EReal) * y (ix2 s j) + v (ix3 b s ⟨16 + j.val, by omega⟩) * x (ix2 s j) := by
  pointwise [ropeK, t1K, t2K, wideK]

theorem peQ_apply (q : HQ) (e : Fin 32) : peQ q (ix4 b s hd e) = q (ix4 b s hd ⟨64 + e.val, by omega⟩) := by
  pointwise [peQ]

theorem outQ_lo (q : HQ) (x y : A16) (j : Fin 64) :
    outQ q x y (ix4 b hd s ⟨j.val, by omega⟩) = q (ix4 b s hd ⟨j.val, by omega⟩) := by
  unfold outQ
  generalize ropeQ (peQ q) x y = v
  pointwise [joinQ]

theorem outQ_rot (q : HQ) (x y : A16) (e : Fin 32) :
    outQ q x y (ix4 b hd s ⟨64 + e.val, by omega⟩) = ropeQ (peQ q) x y (ix4 b s hd e) := by
  unfold outQ
  generalize ropeQ (peQ q) x y = v
  pointwise [joinQ]

theorem outK_lo (kv : HKV) (k : K32) (x y : A16) (j : Fin 64) :
    outK kv k x y (ix4 b hd s ⟨j.val, by omega⟩) = kv (ix4 b s hd ⟨j.val, by omega⟩) := by
  unfold outK
  generalize ropeK k x y = v
  pointwise [joinK]

theorem outK_rot (kv : HKV) (k : K32) (x y : A16) (e : Fin 32) :
    outK kv k x y (ix4 b hd s ⟨64 + e.val, by omega⟩) = ropeK k x y (ix3 b s e) := by
  unfold outK
  generalize ropeK k x y = v
  pointwise [joinK]

theorem outV_apply (kv : HKV) (r : Fin 64) : outV kv (ix4 b hd s r) = kv (ix4 b s hd ⟨64 + r.val, by omega⟩) := by
  pointwise [outV]

theorem mat_apply (f : LKV) (w : FVec Ideal S256x256 .f32) (d : Fin 256) :
    mat f w (ix3 b s d) = Proj.dot (fun k : Fin 256 => (f (ix3 b s k) : EReal)) (fun k => w (ix2 k d)) := by
  pointwise [mat]
  rfl

theorem outA_apply (f : LKV) (cc sc : FVec Ideal S256x256 .f32) (q : Fin 512) : outA f cc sc (ix3 b s q)
    = if h : q.val < 256 then mat f cc (ix3 b s ⟨q.val, h⟩) else mat f sc (ix3 b s ⟨q.val - 256, by omega⟩) := by
  unfold outA
  generalize mat f cc = u
  generalize mat f sc = v
  pointwise

theorem cutQ_apply (z : Z) (j : Fin 384) : cutQ z (ix3 b s j) = z (ix3 b s ⟨j.val, by omega⟩) := by
  pointwise [cutQ]
theorem cutKV_apply (z : Z) (j : Fin 256) : cutKV z (ix3 b s j) = z (ix3 b s ⟨384 + j.val, by omega⟩) := by
  pointwise [cutKV]
theorem cutK_apply (z : Z) (j : Fin 32) : cutK z (ix3 b s j) = z (ix3 b s ⟨640 + j.val, by omega⟩) := by
  pointwise [cutK]
theorem cutB_apply (z : Z) (j : Fin 256) : cutB z (ix3 b s j) = z (ix3 b s ⟨672 + j.val, by omega⟩) := by
  pointwise [cutB]
theorem cutC_apply (z : Z) (j : Fin 256) : cutC z (ix3 b s j) = z (ix3 b s ⟨928 + j.val, by omega⟩) := by
  pointwise [cutC]
theorem cutH_apply (z : Z) (j : Fin 256) : cutH z (ix3 b s j) = z (ix3 b s ⟨1184 + j.val, by omega⟩) := by
  pointwise [cutH]
theorem cutF_apply (z : Z) (j : Fin 256) : cutF z (ix3 b s j) = z (ix3 b s ⟨1440 + j.val, by omega⟩) := by
  pointwise [cutF]

end At

/-! ## The results -/

section Results

variable (m : (ℓ : Loc nD τ sig) → Buf (Elt Ideal) ℓ) (c : Dev nD)

abbrev args : Inproj.Args :=
  ⟨(m ((c : Thread nD τ).loc main_arg0) : FVec Ideal S2x16384x1024 .f32),
   (m ((c : Thread nD τ).loc main_arg1) : FVec Ideal S1024 .f32),
   (m ((c : Thread nD τ).loc main_arg2) : FVec Ideal S1024 .f32),
   (m ((c : Thread nD τ).loc main_arg3) : FVec Ideal S1024x1696 .f32),
   (m ((c : Thread nD τ).loc main_arg4) : FVec Ideal S384 .f32),
   (m ((c : Thread nD τ).loc main_arg5) : FVec Ideal S256 .f32),
   (m ((c : Thread nD τ).loc main_arg6) : FVec Ideal S384x8x96 .f32),
   (m ((c : Thread nD τ).loc main_arg7) : FVec Ideal S256x8x128 .f32),
   (m ((c : Thread nD τ).loc main_arg8) : FVec Ideal S256x256 .f32),
   (m ((c : Thread nD τ).loc main_arg9) : FVec Ideal S256x256 .f32)⟩

def hA : T := norm (m ((c : Thread nD τ).loc main_arg0) : FVec Ideal S2x16384x1024 .f32)
  (m ((c : Thread nD τ).loc main_arg1) : FVec Ideal S1024 .f32) (m ((c : Thread nD τ).loc main_arg2) : FVec Ideal S1024 .f32)
def zA : Z := proj (hA m c) (m ((c : Thread nD τ).loc main_arg3) : FVec Ideal S1024x1696 .f32)
def qA : HQ := headQ (rmsQ (cutQ (zA m c)) (m ((c : Thread nD τ).loc main_arg4) : FVec Ideal S384 .f32))
  (m ((c : Thread nD τ).loc main_arg6) : FVec Ideal S384x8x96 .f32)
def kvA : HKV := headKV (rmsKV (cutKV (zA m c)) (m ((c : Thread nD τ).loc main_arg5) : FVec Ideal S256 .f32))
  (m ((c : Thread nD τ).loc main_arg7) : FVec Ideal S256x8x128 .f32)

theorem q_eq : @Eq (FVec Ideal S2x8x16384x96 .f32) (res_main_v117 m c)
    (outQ (qA m c) (Host.cos angle) (Host.sin angle)) := by
  unfold res_main_v117
  rfl

theorem k_eq : @Eq (FVec Ideal S2x8x16384x96 .bf16) (res_main_v119 m c)
    (outK (kvA m c) (cutK (zA m c)) (Host.cos angle) (Host.sin angle)) := by
  unfold res_main_v119
  rfl

theorem v_eq : @Eq (FVec Ideal S2x8x16384x64 .bf16) (res_main_v122 m c) (outV (kvA m c)) := by
  unfold res_main_v122
  rfl

theorem u_eq : @Eq (FVec Ideal S2x16384x256 .f32) (res_main_v123 m c) (mulf (cutC (zA m c)) (cutH (zA m c))) := by
  unfold res_main_v123
  rfl

theorem a_eq : @Eq (FVec Ideal S2x16384x512 .bf16) (res_main_v124 m c) (outA (cutF (zA m c))
    (m ((c : Thread nD τ).loc main_arg8) : FVec Ideal S256x256 .f32)
    (m ((c : Thread nD τ).loc main_arg9) : FVec Ideal S256x256 .f32)) := by
  unfold res_main_v124
  rfl

variable (b : Fin 2) (s : Fin 16384) (hd : Fin 8)

theorem hA_apply (d : Fin 1024) : hA m c (ix3 b s d) = Inproj.row (args m c) b s d :=
  norm_apply _ _ _ b s d

theorem zA_apply (p : Fin 1696) : zA m c (ix3 b s p) = Inproj.z (args m c) b s p :=
  (proj_apply _ _ b s p).trans (congrArg (fun y => Proj.dot y _) (funext fun k => hA_apply m c b s k))

theorem qA_apply (d : Fin 96) : qA m c (ix4 b s hd d) = Inproj.q (args m c) b s hd d := by
  refine (headQ_apply _ _ b s hd d).trans (congrArg (fun y => Proj.dot y _) (funext fun j => ?_))
  refine (rmsQ_apply _ _ b s j).trans (congrArg (fun y => Proj.rms _ _ y _ j) (funext fun k => ?_))
  exact (cutQ_apply b s _ k).trans (zA_apply m c b s _)

theorem kvA_apply (d : Fin 128) : kvA m c (ix4 b s hd d) = Inproj.kv (args m c) b s hd d := by
  refine (headKV_apply _ _ b s hd d).trans (congrArg (fun y => Proj.dot y _) (funext fun j => ?_))
  refine (rmsKV_apply _ _ b s j).trans (congrArg (fun y => Proj.rms _ _ y _ j) (funext fun k => ?_))
  exact (cutKV_apply b s _ k).trans (zA_apply m c b s _)

theorem q_lo (j : Fin 64) : (res_main_v117 m c : FVec Ideal S2x8x16384x96 .f32) (ix4 b hd s ⟨j.val, by omega⟩)
    = Inproj.q (args m c) b s hd ⟨j.val, by omega⟩ :=
  (congrFun (q_eq m c) _).trans ((outQ_lo b s hd _ _ _ j).trans (qA_apply m c b s hd _))

theorem q_mid (j : Fin 16) : (res_main_v117 m c : FVec Ideal S2x8x16384x96 .f32) (ix4 b hd s ⟨64 + j.val, by omega⟩)
    = Inproj.turn1 s (Inproj.q (args m c) b s hd ⟨64 + j.val, by omega⟩)
        (Inproj.q (args m c) b s hd ⟨80 + j.val, by omega⟩) j := by
  refine (congrFun (q_eq m c) _).trans ((outQ_rot b s hd _ _ _ ⟨j.val, by omega⟩).trans ?_)
  refine (ropeQ_1 b s hd _ _ _ j).trans ?_
  rw [peQ_apply, peQ_apply, qA_apply, qA_apply, angle_eq]
  unfold Inproj.turn1
  refine congrArg (fun p => _ - Inproj.q (args m c) b s hd p * _) (Fin.ext ?_)
  show 64 + (16 + j.val) = 80 + j.val
  omega

theorem q_hi (j : Fin 16) : (res_main_v117 m c : FVec Ideal S2x8x16384x96 .f32) (ix4 b hd s ⟨80 + j.val, by omega⟩)
    = Inproj.turn2 s (Inproj.q (args m c) b s hd ⟨64 + j.val, by omega⟩)
        (Inproj.q (args m c) b s hd ⟨80 + j.val, by omega⟩) j := by
  have h : (⟨64 + (16 + j.val), by omega⟩ : Fin 96) = ⟨80 + j.val, by omega⟩ :=
    Fin.ext (show 64 + (16 + j.val) = 80 + j.val by omega)
  rw [← h]
  refine (congrFun (q_eq m c) _).trans ((outQ_rot b s hd _ _ _ ⟨16 + j.val, by omega⟩).trans ?_)
  refine (ropeQ_2 b s hd _ _ _ j).trans ?_
  rw [peQ_apply, peQ_apply, qA_apply, qA_apply, angle_eq]
  rfl

theorem k_lo (j : Fin 64) : (res_main_v119 m c : FVec Ideal S2x8x16384x96 .bf16) (ix4 b hd s ⟨j.val, by omega⟩)
    = Inproj.kv (args m c) b s hd ⟨j.val, by omega⟩ :=
  (congrFun (k_eq m c) _).trans ((outK_lo b s hd _ _ _ _ j).trans (kvA_apply m c b s hd _))

theorem k_mid (j : Fin 16) : (res_main_v119 m c : FVec Ideal S2x8x16384x96 .bf16) (ix4 b hd s ⟨64 + j.val, by omega⟩)
    = Inproj.turn1 s (Inproj.z (args m c) b s ⟨640 + j.val, by omega⟩)
        (Inproj.z (args m c) b s ⟨656 + j.val, by omega⟩) j := by
  refine (congrFun (k_eq m c) _).trans ((outK_rot b s hd _ _ _ _ ⟨j.val, by omega⟩).trans ?_)
  refine (ropeK_1 b s _ _ _ j).trans ?_
  rw [cutK_apply, cutK_apply, zA_apply, zA_apply, angle_eq]
  unfold Inproj.turn1
  refine congrArg (fun p => _ - Inproj.z (args m c) b s p * _) (Fin.ext ?_)
  show 640 + (16 + j.val) = 656 + j.val
  omega

theorem k_hi (j : Fin 16) : (res_main_v119 m c : FVec Ideal S2x8x16384x96 .bf16) (ix4 b hd s ⟨80 + j.val, by omega⟩)
    = Inproj.turn2 s (Inproj.z (args m c) b s ⟨640 + j.val, by omega⟩)
        (Inproj.z (args m c) b s ⟨656 + j.val, by omega⟩) j := by
  have h : (⟨64 + (16 + j.val), by omega⟩ : Fin 96) = ⟨80 + j.val, by omega⟩ :=
    Fin.ext (show 64 + (16 + j.val) = 80 + j.val by omega)
  rw [← h]
  refine (congrFun (k_eq m c) _).trans ((outK_rot b s hd _ _ _ _ ⟨16 + j.val, by omega⟩).trans ?_)
  refine (ropeK_2 b s _ _ _ j).trans ?_
  rw [cutK_apply, cutK_apply, zA_apply, zA_apply, angle_eq]
  unfold Inproj.turn2
  refine congrArg (fun p => _ + Inproj.z (args m c) b s p * _) (Fin.ext ?_)
  show 640 + (16 + j.val) = 656 + j.val
  omega

theorem v_apply (r : Fin 64) : (res_main_v122 m c : FVec Ideal S2x8x16384x64 .bf16) (ix4 b hd s r)
    = Inproj.kv (args m c) b s hd ⟨64 + r.val, by omega⟩ :=
  (congrFun (v_eq m c) _).trans ((outV_apply b s hd _ r).trans (kvA_apply m c b s hd _))

theorem u_apply (d : Fin 256) : (res_main_v123 m c : FVec Ideal S2x16384x256 .f32) (ix3 b s d)
    = Inproj.z (args m c) b s ⟨928 + d.val, by omega⟩ * Inproj.z (args m c) b s ⟨1184 + d.val, by omega⟩ := by
  refine (congrFun (u_eq m c) _).trans ?_
  show (cutC (zA m c) (ix3 b s d) : EReal) * cutH (zA m c) (ix3 b s d) = _
  rw [cutC_apply, cutH_apply, zA_apply, zA_apply]

theorem b_apply (d : Fin 256) : cutB (zA m c) (ix3 b s d) = Inproj.z (args m c) b s ⟨672 + d.val, by omega⟩ :=
  (cutB_apply b s _ d).trans (zA_apply m c b s _)

theorem mat_eq (w : FVec Ideal S256x256 .f32) (d : Fin 256) :
    mat (cutF (zA m c)) w (ix3 b s d) = Inproj.chan (args m c) b s w d := by
  refine (mat_apply b s _ _ d).trans (congrArg (fun y => Proj.dot y _) (funext fun k => ?_))
  exact (cutF_apply b s _ k).trans (zA_apply m c b s _)

theorem a_apply (q : Fin 512) : (res_main_v124 m c : FVec Ideal S2x16384x512 .bf16) (ix3 b s q)
    = if h : q.val < 256 then Inproj.chan (args m c) b s (args m c).cc ⟨q.val, h⟩
      else Inproj.chan (args m c) b s (args m c).sc ⟨q.val - 256, by omega⟩ := by
  refine (congrFun (a_eq m c) _).trans ((outA_apply b s _ _ _ q).trans ?_)
  simp only [mat_eq]

end Results

end Cert.InprojRefIdeal.Value
end
-- ==== Proof.InprojEq.lean ====
module

public import proofs.«01_k».proof.Defs
public import proofs.«01_k».proof.Proof.InprojRef

@[expose] public section

/-!
# The in-projection claim

The two programs' results are equal.
-/

set_option maxRecDepth 16384

noncomputable section

namespace Cert.InprojProof

open Idealize.ShloMosaic Idealize.ShloMosaic.TcCoe Idealize.SL.Sem
open Cert.InprojIdeal.Array (G14 G15 G16 G17 G18 G19 G20)
open Cert.InprojIdeal.Host (cases96)

section Results

variable (m : (ℓ : Loc Cert.InprojIdeal.nD Cert.InprojIdeal.τ Cert.InprojIdeal.sig) → Buf (Elt Ideal) ℓ)
  (m' : (ℓ : Loc Cert.InprojRefIdeal.nD Cert.InprojRefIdeal.τ Cert.InprojRefIdeal.sig) → Buf (Elt Ideal) ℓ)
  (c : Dev Cert.InprojIdeal.nD)
  (h : Cert.InprojRefIdeal.Value.args m' c = Cert.InprojIdeal.Array.args m c)

include h

theorem rows : @Eq (FVec Ideal Cert.InprojRefIdeal.S2x16384x1024 .f32) (Cert.InprojRefIdeal.Value.hA m' c) (G14 m c) := by
  funext i
  idx_vars i
  refine (Cert.InprojRefIdeal.Value.hA_apply m' c i0 i1 i2).trans ?_
  rw [h]
  rfl

theorem queries : @Eq (FVec Ideal Cert.InprojRefIdeal.S2x8x16384x96 .f32)
    (Cert.InprojRefIdeal.Value.res_main_v117 m' c) (G15 m c) := by
  funext i
  idx_vars i
  show _ = Cert.InprojIdeal.Array.query m c i0 i2 i1 i3
  revert i3
  refine cases96 _ (fun j => ?_) (fun j => ?_) (fun j => ?_)
  · rw [Cert.InprojIdeal.Array.query_lo, ← h]
    exact Cert.InprojRefIdeal.Value.q_lo m' c i0 i2 i1 j
  · rw [Cert.InprojIdeal.Array.query_mid, ← h]
    exact Cert.InprojRefIdeal.Value.q_mid m' c i0 i2 i1 j
  · rw [Cert.InprojIdeal.Array.query_hi, ← h]
    exact Cert.InprojRefIdeal.Value.q_hi m' c i0 i2 i1 j

theorem keys : @Eq (FVec Ideal Cert.InprojRefIdeal.S2x8x16384x96 .bf16)
    (Cert.InprojRefIdeal.Value.res_main_v119 m' c) (G16 m c) := by
  funext i
  idx_vars i
  show _ = Cert.InprojIdeal.Array.key m c i0 i2 i1 i3
  revert i3
  refine cases96 _ (fun j => ?_) (fun j => ?_) (fun j => ?_)
  · rw [Cert.InprojIdeal.Array.key_lo, ← h]
    exact Cert.InprojRefIdeal.Value.k_lo m' c i0 i2 i1 j
  · rw [Cert.InprojIdeal.Array.key_mid, ← h]
    exact Cert.InprojRefIdeal.Value.k_mid m' c i0 i2 i1 j
  · rw [Cert.InprojIdeal.Array.key_hi, ← h]
    exact Cert.InprojRefIdeal.Value.k_hi m' c i0 i2 i1 j

theorem values : @Eq (FVec Ideal Cert.InprojRefIdeal.S2x8x16384x64 .bf16)
    (Cert.InprojRefIdeal.Value.res_main_v122 m' c) (G17 m c) := by
  funext i
  idx_vars i
  show _ = Cert.InprojIdeal.Array.value m c i0 i2 i1 i3
  rw [Cert.InprojIdeal.Array.value_eq, ← h]
  exact Cert.InprojRefIdeal.Value.v_apply m' c i0 i2 i1 i3

theorem gated : @Eq (FVec Ideal Cert.InprojRefIdeal.S2x16384x256 .f32)
    (Cert.InprojRefIdeal.Value.res_main_v123 m' c) (G18 m c) := by
  funext i
  idx_vars i
  show _ = Cert.InprojIdeal.Array.gated m c i0 i1 i2
  rw [Cert.InprojIdeal.Array.gated_eq, ← h]
  exact Cert.InprojRefIdeal.Value.u_apply m' c i0 i1 i2

theorem gates : @Eq (FVec Ideal Cert.InprojRefIdeal.S2x16384x256 .f32)
    (Cert.InprojRefIdeal.Value.cutB (Cert.InprojRefIdeal.Value.zA m' c)) (G19 m c) := by
  funext i
  idx_vars i
  show _ = Cert.InprojIdeal.Array.gate m c i0 i1 i2
  rw [Cert.InprojIdeal.Array.gate_eq, ← h]
  exact Cert.InprojRefIdeal.Value.b_apply m' c i0 i1 i2

theorem channels : @Eq (FVec Ideal Cert.InprojRefIdeal.S2x16384x512 .bf16)
    (Cert.InprojRefIdeal.Value.res_main_v124 m' c) (G20 m c) := by
  funext i
  idx_vars i
  show _ = Cert.InprojIdeal.Array.both m c i0 i1 i2
  refine (Cert.InprojRefIdeal.Value.a_apply m' c i0 i1 i2).trans ?_
  rw [h]
  unfold Cert.InprojIdeal.Array.both
  simp only [Cert.InprojIdeal.Array.chan_eq]

end Results

/-- The algebraic claim about the in-projection. -/
theorem algebraic : Cert.algebraic_InprojIdeal_InprojRefIdeal := by
  intro m ρ m' ρ' hpre hagree
  have ha : ∀ c, Cert.InprojRefIdeal.Value.args m' c = Cert.InprojIdeal.Array.args m c := by
    intro c
    obtain ⟨e0, e1, e2, e3, e4, e5, e6, e7, e8, e9⟩ := hagree c
    unfold Cert.InprojRefIdeal.Value.args
    rw [e0, e1, e2, e3, e4, e5, e6, e7, e8, e9]
  refine ⟨fun c => G14 m c, fun c => G15 m c, fun c => G16 m c, fun c => G17 m c, fun c => G18 m c, fun c => G19 m c,
    fun c => G20 m c, ?_, ?_⟩
  · refine (θ_run _ _ _).mono (fun _ h c => ?_) (Cert.InprojIdeal.Value.run_blocks m ρ)
    obtain ⟨o0, o1, o2, o3, o4, o5, o6, r⟩ := h c
    exact ⟨o0.trans (Cert.InprojIdeal.Array.final14 m c), o1.trans (Cert.InprojIdeal.Array.final15 m c),
      o2.trans (Cert.InprojIdeal.Array.final16 m c), o3.trans (Cert.InprojIdeal.Array.final17 m c),
      o4.trans (Cert.InprojIdeal.Array.final18 m c), o5.trans (Cert.InprojIdeal.Array.final19 m c),
      o6.trans (Cert.InprojIdeal.Array.final20 m c), r⟩
  · refine (θ_run _ _ _).mono (fun _ h c => ?_) (Cert.InprojRefIdeal.Value.run m' ρ')
    obtain ⟨o0, o1, o2, o3, o4, o5, o6, r⟩ := h c
    exact ⟨o0.trans (rows m m' c (ha c)), o1.trans (queries m m' c (ha c)), o2.trans (keys m m' c (ha c)),
      o3.trans (values m m' c (ha c)), o4.trans (gated m m' c (ha c)), o5.trans (gates m m' c (ha c)),
      o6.trans (channels m m' c (ha c)), r⟩

end Cert.InprojProof
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.OutprojEq
public import proofs.«01_k».proof.Proof.Gen.InprojRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.Pre_finite_qk
public import proofs.«01_k».proof.Proof.Gen.Pre_finite_args
public import proofs.«01_k».proof.Proof.Gen.InprojIdeal.Value
public import proofs.«01_k».proof.Proof.Gen.InprojRefIdeal.Run
public import proofs.«01_k».proof.Proof.Gen.AttnIdeal.Value
public import proofs.«01_k».proof.Proof.Gen.MoeIdeal.Value
public import proofs.«01_k».proof.Proof.Gen.AttnRefIdeal.Run
public import proofs.«01_k».proof.Proof.Gen.MoeRefIdeal.Run
public import proofs.«01_k».proof.Proof.AttnEq
public import proofs.«01_k».proof.Proof.MoeEq
public import proofs.«01_k».proof.Proof.InprojEq
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The attention reference ends, changes no argument and leaves every semaphore counter at zero. -/
theorem frame_attnRef : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The expert reference ends, changes no argument and leaves every semaphore counter at zero. -/
theorem frame_moeRef : Cert.quiescent_MoeRefIdeal := fun m ρ _ =>
  (θ_run Cert.MoeRefIdeal.defs _ _).mono
    (fun r h => ⟨fun c => (h c).2, Idealize.ShloMosaic.sem_eq_zero_of_no_sems (by decide) r.2⟩)
    (Cert.MoeRefIdeal.Value.run (F := Ideal) m ρ)

/-- The in-projection reference ends, changes no argument and leaves every semaphore counter at zero. -/
theorem frame_inprojRef : Cert.quiescent_InprojRefIdeal := fun m ρ _ =>
  (θ_run Cert.InprojRefIdeal.defs _ _).mono
    (fun r h => ⟨fun c => (h c).2.2.2.2.2.2.2, Idealize.ShloMosaic.sem_eq_zero_of_no_sems (by decide) r.2⟩)
    (Cert.InprojRefIdeal.Value.run (F := Ideal) m ρ)

/-- The out-projection reference ends, changes no argument and leaves every semaphore counter at zero. -/
theorem frame_outprojRef : Cert.quiescent_OutprojRefIdeal := fun m ρ _ =>
  (θ_run Cert.OutprojRefIdeal.defs _ _).mono
    (fun r h => ⟨fun c => (h c).2.2, Idealize.ShloMosaic.sem_eq_zero_of_no_sems (by decide) r.2⟩)
    (Cert.OutprojRefIdeal.Value.run (F := Ideal) m ρ)

theorem claim : Cert.Claim := ⟨Cert.Attn.Gen.facts, Cert.AttnIdeal.Gen.facts, Cert.AttnRefIdeal.Gen.facts, Cert.Moe.Gen.facts, Cert.MoeIdeal.Gen.facts, Cert.MoeRefIdeal.Gen.facts, Cert.Inproj.Gen.facts,
  Cert.InprojIdeal.Gen.facts, Cert.InprojRefIdeal.Gen.facts, Cert.Outproj.Gen.facts, Cert.OutprojIdeal.Gen.facts,
  Cert.OutprojRefIdeal.Gen.facts, Cert.Pre_finite_qk.Gen.facts, Cert.Pre_finite_args.Gen.facts,
  fun m ρ _ => Cert.Attn.Gen.frame m ρ,
  fun m ρ _ => Cert.AttnIdeal.Gen.frame m ρ,
  fun m ρ _ => Cert.AttnIdeal.Gen.frame m ρ,
  frame_attnRef,
  fun m ρ _ => frame_attnRef m ρ trivial,
  fun m ρ _ => Cert.Moe.Gen.frame m ρ,
  fun m ρ _ => Cert.MoeIdeal.Gen.frame m ρ,
  frame_moeRef,
  fun m ρ _ => Cert.Inproj.Gen.frame m ρ,
  fun m ρ _ => Cert.InprojIdeal.Gen.frame m ρ,
  frame_inprojRef,
  fun m ρ _ => Cert.Outproj.Gen.frame m ρ,
  fun m ρ _ => Cert.OutprojIdeal.Gen.frame m ρ,
  fun m ρ _ => Cert.OutprojIdeal.Gen.frame m ρ,
  frame_outprojRef,
  fun m ρ _ => frame_outprojRef m ρ trivial,
  trivial,
  Cert.AttnProof.algebraic,
  trivial,
  Cert.MoeProof.algebraic,
  trivial,
  Cert.InprojProof.algebraic,
  trivial,
  Cert.OutprojProof.algebraic⟩

end Cert.Proof

end
